-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x2048 : Shape := ⟨3, ![8, 4096, 2048]⟩
abbrev S32 : Shape := ⟨1, ![32]⟩
abbrev S8x4096x512 : Shape := ⟨3, ![8, 4096, 512]⟩
abbrev S8 : Shape := ⟨1, ![8]⟩
abbrev S1x4096x512 : Shape := ⟨3, ![1, 4096, 512]⟩
abbrev S1x4096x128 : Shape := ⟨3, ![1, 4096, 128]⟩
abbrev S4x4096x128 : Shape := ⟨3, ![4, 4096, 128]⟩
abbrev S128x4096 : Shape := ⟨2, ![128, 4096]⟩
abbrev S4096x256 : Shape := ⟨2, ![4096, 256]⟩
abbrev S16x8x256 : Shape := ⟨3, ![16, 8, 256]⟩
abbrev S4096x128 : Shape := ⟨2, ![4096, 128]⟩
abbrev S256x256 : Shape := ⟨2, ![256, 256]⟩
abbrev S1x256x128 : Shape := ⟨3, ![1, 256, 128]⟩
abbrev S256x128 : Shape := ⟨2, ![256, 128]⟩
abbrev S1 : Shape := ⟨1, ![1]⟩
abbrev S8x256 : Shape := ⟨2, ![8, 256]⟩
abbrev S32x8x256 : Shape := ⟨3, ![32, 8, 256]⟩
abbrev S1x8x256 : Shape := ⟨3, ![1, 8, 256]⟩
abbrev S256 : Shape := ⟨1, ![256]⟩
abbrev S1x256 : Shape := ⟨2, ![1, 256]⟩
abbrev S64x256 : Shape := ⟨2, ![64, 256]⟩
abbrev S128x256 : Shape := ⟨2, ![128, 256]⟩

abbrev nBuf : Space → Nat
  | .hbm => 7
  | .vmem => 12
  | .smem => 3
  | _ => 0

abbrev bufTy : (tb : Table) → Fin (tcTables nBuf tb) → BufTy
  | .hbm, ⟨0, _⟩ => ⟨S8x4096x2048, .fp8e4m3⟩
  | .hbm, ⟨1, _⟩ => ⟨S32, .f32⟩
  | .hbm, ⟨2, _⟩ => ⟨S8x4096x512, .fp8e4m3⟩
  | .hbm, ⟨3, _⟩ => ⟨S8, .f32⟩
  | .hbm, ⟨4, _⟩ => ⟨S8x4096x512, .fp8e4m3⟩
  | .hbm, ⟨5, _⟩ => ⟨S8, .f32⟩
  | .hbm, ⟨6, _⟩ => ⟨S8x4096x2048, .bf16⟩
  | .local _ .vmem, ⟨0, _⟩ => ⟨S1x4096x512, .fp8e4m3⟩
  | .local _ .vmem, ⟨1, _⟩ => ⟨S1x4096x512, .fp8e4m3⟩
  | .local _ .vmem, ⟨2, _⟩ => ⟨S1x4096x128, .fp8e4m3⟩
  | .local _ .vmem, ⟨3, _⟩ => ⟨S1x4096x128, .fp8e4m3⟩
  | .local _ .vmem, ⟨4, _⟩ => ⟨S1x4096x128, .fp8e4m3⟩
  | .local _ .vmem, ⟨5, _⟩ => ⟨S1x4096x128, .fp8e4m3⟩
  | .local _ .vmem, ⟨6, _⟩ => ⟨S1x4096x512, .bf16⟩
  | .local _ .vmem, ⟨7, _⟩ => ⟨S1x4096x512, .bf16⟩
  | .local _ .vmem, ⟨8, _⟩ => ⟨S4x4096x128, .fp8e4m3⟩
  | .local _ .vmem, ⟨9, _⟩ => ⟨S128x4096, .fp8e4m3⟩
  | .local _ .vmem, ⟨10, _⟩ => ⟨S4096x256, .f32⟩
  | .local _ .vmem, ⟨11, _⟩ => ⟨S16x8x256, .f32⟩
  | .local _ .smem, ⟨0, _⟩ => ⟨S32, .f32⟩
  | .local _ .smem, ⟨1, _⟩ => ⟨S8, .f32⟩
  | .local _ .smem, ⟨2, _⟩ => ⟨S8, .f32⟩
  | _, _ => ⟨S8x4096x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c16_i32 : BitVec 32 := 16#32
  let v41 : BitVec 32 := Scalar.addi c0_i32 c16_i32
  let c1_i32 : BitVec 32 := 1#32
  ⟨c0_i32, v41, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32 : BitVec 32 := 256#32
  let v42 : BitVec 32 := Scalar.muli arg13 c256_i32
  v42
def k0_mult2 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_21 : BitVec 32 := 256#32
  let v44 : BitVec 32 := Scalar.muli arg13 c256_i32_21
  v44
def k0_off1 (k0_t1 : Fin k0_t1_loop.trips) : Fin 3 → Nat :=
  let c0_22 : Index := 0#32
  let c0_i32 : BitVec 32 := 0#32
  let c1_i32 : BitVec 32 := 1#32
  let arg13 : BitVec 32 := Scf.iv c0_i32 c1_i32 k0_t1
  let c256_i32_21 : BitVec 32 := 256#32
  let v44 : BitVec 32 := Scalar.muli arg13 c256_i32_21
  let v45 : BitVec 32 := v44
  let v46 : Index := Scalar.indexCast v45
  let c0_23 : Index := 0#32
  ![0, v46.toNat, 0]
def k0_off2 (i : grid0.Coords) (c0_i32_24 : BitVec 32) : Fin 1 → Nat :=
  let arg1 : BitVec 32 := BitVec.ofNat 32 (i 1).val
  let c8_i32 : BitVec 32 := 8#32
  let v49 : BitVec 32 := Scalar.muli arg1 c8_i32
  let v50 : BitVec 32 := Scalar.addi v49 c0_i32_24
  let v51 : Index := Scalar.indexCast v50
  ![v51.toNat]
def k0_off3 (i : grid0.Coords) (c0_i32_25 : BitVec 32) : Fin 1 → Nat :=
  let arg1 : BitVec 32 := BitVec.ofNat 32 (i 1).val
  let c2_i32 : BitVec 32 := 2#32
  let v53 : BitVec 32 := Scalar.muli arg1 c2_i32
  let v54 : BitVec 32 := Scalar.addi v53 c0_i32_25
  let v55 : Index := Scalar.indexCast v54
  ![v55.toNat]
@[reducible] def k0_t2_loop (k0_t1 : Fin k0_t1_loop.trips) : Scf.Loop 32 :=
  let c0_i32_30 : BitVec 32 := 0#32
  let c0_i32 : BitVec 32 := 0#32
  let c1_i32 : BitVec 32 := 1#32
  let arg13 : BitVec 32 := Scf.iv c0_i32 c1_i32 k0_t1
  let v62 : BitVec 32 := Scalar.subi arg13 c0_i32_30
  let c1_i32_31 : BitVec 32 := 1#32
  let v64 : BitVec 32 := Scalar.divsi v62 c1_i32_31
  let v65 : BitVec 32 := Scalar.muli v64 c1_i32_31
  let v66 : BitVec 32 := Scalar.addi c0_i32_30 v65
  let c1_i32_32 : BitVec 32 := 1#32
  ⟨c0_i32_30, v66, c1_i32_32⟩
def k0_mult3 (k0_t1 : Fin k0_t1_loop.trips) (k0_t2 : Fin (k0_t2_loop k0_t1).trips) : BitVec 32 :=
  let c0_i32_30 : BitVec 32 := 0#32
  let c1_i32_32 : BitVec 32 := 1#32
  let arg14 : BitVec 32 := Scf.iv c0_i32_30 c1_i32_32 k0_t2
  let c256_i32_315 : BitVec 32 := 256#32
  let v728 : BitVec 32 := Scalar.muli arg14 c256_i32_315
  v728
def k0_off4 (k0_t1 : Fin k0_t1_loop.trips) (k0_t2 : Fin (k0_t2_loop k0_t1).trips) : Fin 3 → Nat :=
  let c0_316 : Index := 0#32
  let c0_i32_30 : BitVec 32 := 0#32
  let c1_i32_32 : BitVec 32 := 1#32
  let arg14 : BitVec 32 := Scf.iv c0_i32_30 c1_i32_32 k0_t2
  let c256_i32_315 : BitVec 32 := 256#32
  let v728 : BitVec 32 := Scalar.muli arg14 c256_i32_315
  let v729 : BitVec 32 := v728
  let v730 : Index := Scalar.indexCast v729
  let c0_317 : Index := 0#32
  ![0, v730.toNat, 0]
def k0_off5 (k0_t1 : Fin k0_t1_loop.trips) (k0_t2 : Fin (k0_t2_loop k0_t1).trips) : Fin 2 → Nat :=
  let c0_i32_30 : BitVec 32 := 0#32
  let c1_i32_32 : BitVec 32 := 1#32
  let arg14 : BitVec 32 := Scf.iv c0_i32_30 c1_i32_32 k0_t2
  let c256_i32_315 : BitVec 32 := 256#32
  let v728 : BitVec 32 := Scalar.muli arg14 c256_i32_315
  let v729 : BitVec 32 := v728
  let v749 : Index := Scalar.indexCast v729
  let c0_321 : Index := 0#32
  ![v749.toNat, 0]
def k0_off6 (k0_t1 : Fin k0_t1_loop.trips) (k0_t2 : Fin (k0_t2_loop k0_t1).trips) : Fin 3 → Nat :=
  let c0_i32_30 : BitVec 32 := 0#32
  let c1_i32_32 : BitVec 32 := 1#32
  let arg14 : BitVec 32 := Scf.iv c0_i32_30 c1_i32_32 k0_t2
  let v753 : Index := Scalar.indexCast arg14
  let c0_322 : Index := 0#32
  let c0_323 : Index := 0#32
  ![v753.toNat, 0, 0]
@[reducible] def k0_t3_loop (k0_t1 : Fin k0_t1_loop.trips) : Scf.Loop 32 :=
  let c0_i32_30 : BitVec 32 := 0#32
  let c0_i32 : BitVec 32 := 0#32
  let c1_i32 : BitVec 32 := 1#32
  let arg13 : BitVec 32 := Scf.iv c0_i32 c1_i32 k0_t1
  let v62 : BitVec 32 := Scalar.subi arg13 c0_i32_30
  let c1_i32_31 : BitVec 32 := 1#32
  let v64 : BitVec 32 := Scalar.divsi v62 c1_i32_31
  let v65 : BitVec 32 := Scalar.muli v64 c1_i32_31
  let v66 : BitVec 32 := Scalar.addi c0_i32_30 v65
  let v63 : BitVec 32 := Scalar.addi c0_i32_30 v62
  let c1_i32_33 : BitVec 32 := 1#32
  ⟨v66, v63, c1_i32_33⟩
def k0_mult4 (k0_t1 : Fin k0_t1_loop.trips) (k0_t3 : Fin (k0_t3_loop k0_t1).trips) : BitVec 32 :=
  let c0_i32_30 : BitVec 32 := 0#32
  let c0_i32 : BitVec 32 := 0#32
  let c1_i32 : BitVec 32 := 1#32
  let arg13 : BitVec 32 := Scf.iv c0_i32 c1_i32 k0_t1
  let v62 : BitVec 32 := Scalar.subi arg13 c0_i32_30
  let c1_i32_31 : BitVec 32 := 1#32
  let v64 : BitVec 32 := Scalar.divsi v62 c1_i32_31
  let v65 : BitVec 32 := Scalar.muli v64 c1_i32_31
  let v66 : BitVec 32 := Scalar.addi c0_i32_30 v65
  let c1_i32_33 : BitVec 32 := 1#32
  let arg14 : BitVec 32 := Scf.iv v66 c1_i32_33 k0_t3
  let c256_i32_315 : BitVec 32 := 256#32
  let v728 : BitVec 32 := Scalar.muli arg14 c256_i32_315
  v728
def k0_off7 (k0_t1 : Fin k0_t1_loop.trips) (k0_t3 : Fin (k0_t3_loop k0_t1).trips) : Fin 3 → Nat :=
  let c0_316 : Index := 0#32
  let c0_i32_30 : BitVec 32 := 0#32
  let c0_i32 : BitVec 32 := 0#32
  let c1_i32 : BitVec 32 := 1#32
  let arg13 : BitVec 32 := Scf.iv c0_i32 c1_i32 k0_t1
  let v62 : BitVec 32 := Scalar.subi arg13 c0_i32_30
  let c1_i32_31 : BitVec 32 := 1#32
  let v64 : BitVec 32 := Scalar.divsi v62 c1_i32_31
  let v65 : BitVec 32 := Scalar.muli v64 c1_i32_31
  let v66 : BitVec 32 := Scalar.addi c0_i32_30 v65
  let c1_i32_33 : BitVec 32 := 1#32
  let arg14 : BitVec 32 := Scf.iv v66 c1_i32_33 k0_t3
  let c256_i32_315 : BitVec 32 := 256#32
  let v728 : BitVec 32 := Scalar.muli arg14 c256_i32_315
  let v729 : BitVec 32 := v728
  let v730 : Index := Scalar.indexCast v729
  let c0_317 : Index := 0#32
  ![0, v730.toNat, 0]
def k0_off8 (k0_t1 : Fin k0_t1_loop.trips) (k0_t3 : Fin (k0_t3_loop k0_t1).trips) : Fin 2 → Nat :=
  let c0_i32_30 : BitVec 32 := 0#32
  let c0_i32 : BitVec 32 := 0#32
  let c1_i32 : BitVec 32 := 1#32
  let arg13 : BitVec 32 := Scf.iv c0_i32 c1_i32 k0_t1
  let v62 : BitVec 32 := Scalar.subi arg13 c0_i32_30
  let c1_i32_31 : BitVec 32 := 1#32
  let v64 : BitVec 32 := Scalar.divsi v62 c1_i32_31
  let v65 : BitVec 32 := Scalar.muli v64 c1_i32_31
  let v66 : BitVec 32 := Scalar.addi c0_i32_30 v65
  let c1_i32_33 : BitVec 32 := 1#32
  let arg14 : BitVec 32 := Scf.iv v66 c1_i32_33 k0_t3
  let c256_i32_315 : BitVec 32 := 256#32
  let v728 : BitVec 32 := Scalar.muli arg14 c256_i32_315
  let v729 : BitVec 32 := v728
  let v749 : Index := Scalar.indexCast v729
  let c0_321 : Index := 0#32
  ![v749.toNat, 0]
def k0_off9 (k0_t1 : Fin k0_t1_loop.trips) (k0_t3 : Fin (k0_t3_loop k0_t1).trips) : Fin 3 → Nat :=
  let c0_i32_30 : BitVec 32 := 0#32
  let c0_i32 : BitVec 32 := 0#32
  let c1_i32 : BitVec 32 := 1#32
  let arg13 : BitVec 32 := Scf.iv c0_i32 c1_i32 k0_t1
  let v62 : BitVec 32 := Scalar.subi arg13 c0_i32_30
  let c1_i32_31 : BitVec 32 := 1#32
  let v64 : BitVec 32 := Scalar.divsi v62 c1_i32_31
  let v65 : BitVec 32 := Scalar.muli v64 c1_i32_31
  let v66 : BitVec 32 := Scalar.addi c0_i32_30 v65
  let c1_i32_33 : BitVec 32 := 1#32
  let arg14 : BitVec 32 := Scf.iv v66 c1_i32_33 k0_t3
  let v753 : Index := Scalar.indexCast arg14
  let c0_322 : Index := 0#32
  let c0_323 : Index := 0#32
  ![v753.toNat, 0, 0]
def k0_mult5 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_34 : BitVec 32 := 256#32
  let v69 : BitVec 32 := Scalar.muli arg13 c256_i32_34
  v69
def k0_off10 (k0_t1 : Fin k0_t1_loop.trips) : Fin 3 → Nat :=
  let c0_35 : Index := 0#32
  let c0_i32 : BitVec 32 := 0#32
  let c1_i32 : BitVec 32 := 1#32
  let arg13 : BitVec 32 := Scf.iv c0_i32 c1_i32 k0_t1
  let c256_i32_34 : BitVec 32 := 256#32
  let v69 : BitVec 32 := Scalar.muli arg13 c256_i32_34
  let v70 : BitVec 32 := v69
  let v71 : Index := Scalar.indexCast v70
  let c0_36 : Index := 0#32
  ![0, v71.toNat, 0]
def k0_off11 (k0_t1 : Fin k0_t1_loop.trips) : Fin 2 → Nat :=
  let c0_i32 : BitVec 32 := 0#32
  let c1_i32 : BitVec 32 := 1#32
  let arg13 : BitVec 32 := Scf.iv c0_i32 c1_i32 k0_t1
  let c256_i32_34 : BitVec 32 := 256#32
  let v69 : BitVec 32 := Scalar.muli arg13 c256_i32_34
  let v70 : BitVec 32 := v69
  let v92 : Index := Scalar.indexCast v70
  let c0_41 : Index := 0#32
  ![v92.toNat, 0]
def k0_off12 (k0_t1 : Fin k0_t1_loop.trips) : Fin 3 → Nat :=
  let c0_i32 : BitVec 32 := 0#32
  let c1_i32 : BitVec 32 := 1#32
  let arg13 : BitVec 32 := Scf.iv c0_i32 c1_i32 k0_t1
  let v96 : Index := Scalar.indexCast arg13
  let c0_42 : Index := 0#32
  let c0_43 : Index := 0#32
  ![v96.toNat, 0, 0]
@[reducible] def k0_t4_loop (k0_t1 : Fin k0_t1_loop.trips) : Scf.Loop 32 :=
  let c0_i32_49 : BitVec 32 := 0#32
  let c0_i32 : BitVec 32 := 0#32
  let c1_i32 : BitVec 32 := 1#32
  let arg13 : BitVec 32 := Scf.iv c0_i32 c1_i32 k0_t1
  let c1_i32_47 : BitVec 32 := 1#32
  let v110 : BitVec 32 := Scalar.addi arg13 c1_i32_47
  let v112 : BitVec 32 := Scalar.subi v110 c0_i32_49
  let c1_i32_50 : BitVec 32 := 1#32
  let v114 : BitVec 32 := Scalar.divsi v112 c1_i32_50
  let v115 : BitVec 32 := Scalar.muli v114 c1_i32_50
  let v116 : BitVec 32 := Scalar.addi c0_i32_49 v115
  let c1_i32_51 : BitVec 32 := 1#32
  ⟨c0_i32_49, v116, c1_i32_51⟩
def k0_mult6 (k0_t1 : Fin k0_t1_loop.trips) (k0_t4 : Fin (k0_t4_loop k0_t1).trips) : BitVec 32 :=
  let c0_i32_49 : BitVec 32 := 0#32
  let c1_i32_51 : BitVec 32 := 1#32
  let arg14 : BitVec 32 := Scf.iv c0_i32_49 c1_i32_51 k0_t4
  let c256_i32_315 : BitVec 32 := 256#32
  let v728 : BitVec 32 := Scalar.muli arg14 c256_i32_315
  v728
def k0_off13 (k0_t1 : Fin k0_t1_loop.trips) (k0_t4 : Fin (k0_t4_loop k0_t1).trips) : Fin 3 → Nat :=
  let c0_i32_49 : BitVec 32 := 0#32
  let c1_i32_51 : BitVec 32 := 1#32
  let arg14 : BitVec 32 := Scf.iv c0_i32_49 c1_i32_51 k0_t4
  let v730 : Index := Scalar.indexCast arg14
  let c0_316 : Index := 0#32
  let c0_317 : Index := 0#32
  ![v730.toNat, 0, 0]
def k0_off14 (k0_t1 : Fin k0_t1_loop.trips) (k0_t4 : Fin (k0_t4_loop k0_t1).trips) : Fin 2 → Nat :=
  let c0_i32_49 : BitVec 32 := 0#32
  let c1_i32_51 : BitVec 32 := 1#32
  let arg14 : BitVec 32 := Scf.iv c0_i32_49 c1_i32_51 k0_t4
  let c256_i32_315 : BitVec 32 := 256#32
  let v728 : BitVec 32 := Scalar.muli arg14 c256_i32_315
  let v729 : BitVec 32 := v728
  let v738 : Index := Scalar.indexCast v729
  let c0_318 : Index := 0#32
  ![v738.toNat, 0]
def k0_off15 (k0_t1 : Fin k0_t1_loop.trips) (k0_t4 : Fin (k0_t4_loop k0_t1).trips) : Fin 2 → Nat :=
  let c0_321 : Index := 0#32
  let c0_i32_49 : BitVec 32 := 0#32
  let c1_i32_51 : BitVec 32 := 1#32
  let arg14 : BitVec 32 := Scf.iv c0_i32_49 c1_i32_51 k0_t4
  let c256_i32_315 : BitVec 32 := 256#32
  let v728 : BitVec 32 := Scalar.muli arg14 c256_i32_315
  let v729 : BitVec 32 := v728
  let v750 : Index := Scalar.indexCast v729
  ![0, v750.toNat]
@[reducible] def k0_t5_loop (k0_t1 : Fin k0_t1_loop.trips) : Scf.Loop 32 :=
  let c0_i32_49 : BitVec 32 := 0#32
  let c0_i32 : BitVec 32 := 0#32
  let c1_i32 : BitVec 32 := 1#32
  let arg13 : BitVec 32 := Scf.iv c0_i32 c1_i32 k0_t1
  let c1_i32_47 : BitVec 32 := 1#32
  let v110 : BitVec 32 := Scalar.addi arg13 c1_i32_47
  let v112 : BitVec 32 := Scalar.subi v110 c0_i32_49
  let c1_i32_50 : BitVec 32 := 1#32
  let v114 : BitVec 32 := Scalar.divsi v112 c1_i32_50
  let v115 : BitVec 32 := Scalar.muli v114 c1_i32_50
  let v116 : BitVec 32 := Scalar.addi c0_i32_49 v115
  let v113 : BitVec 32 := Scalar.addi c0_i32_49 v112
  let c1_i32_52 : BitVec 32 := 1#32
  ⟨v116, v113, c1_i32_52⟩
def k0_mult7 (k0_t1 : Fin k0_t1_loop.trips) (k0_t5 : Fin (k0_t5_loop k0_t1).trips) : BitVec 32 :=
  let c0_i32_49 : BitVec 32 := 0#32
  let c0_i32 : BitVec 32 := 0#32
  let c1_i32 : BitVec 32 := 1#32
  let arg13 : BitVec 32 := Scf.iv c0_i32 c1_i32 k0_t1
  let c1_i32_47 : BitVec 32 := 1#32
  let v110 : BitVec 32 := Scalar.addi arg13 c1_i32_47
  let v112 : BitVec 32 := Scalar.subi v110 c0_i32_49
  let c1_i32_50 : BitVec 32 := 1#32
  let v114 : BitVec 32 := Scalar.divsi v112 c1_i32_50
  let v115 : BitVec 32 := Scalar.muli v114 c1_i32_50
  let v116 : BitVec 32 := Scalar.addi c0_i32_49 v115
  let c1_i32_52 : BitVec 32 := 1#32
  let arg14 : BitVec 32 := Scf.iv v116 c1_i32_52 k0_t5
  let c256_i32_315 : BitVec 32 := 256#32
  let v728 : BitVec 32 := Scalar.muli arg14 c256_i32_315
  v728
def k0_off16 (k0_t1 : Fin k0_t1_loop.trips) (k0_t5 : Fin (k0_t5_loop k0_t1).trips) : Fin 3 → Nat :=
  let c0_i32_49 : BitVec 32 := 0#32
  let c0_i32 : BitVec 32 := 0#32
  let c1_i32 : BitVec 32 := 1#32
  let arg13 : BitVec 32 := Scf.iv c0_i32 c1_i32 k0_t1
  let c1_i32_47 : BitVec 32 := 1#32
  let v110 : BitVec 32 := Scalar.addi arg13 c1_i32_47
  let v112 : BitVec 32 := Scalar.subi v110 c0_i32_49
  let c1_i32_50 : BitVec 32 := 1#32
  let v114 : BitVec 32 := Scalar.divsi v112 c1_i32_50
  let v115 : BitVec 32 := Scalar.muli v114 c1_i32_50
  let v116 : BitVec 32 := Scalar.addi c0_i32_49 v115
  let c1_i32_52 : BitVec 32 := 1#32
  let arg14 : BitVec 32 := Scf.iv v116 c1_i32_52 k0_t5
  let v730 : Index := Scalar.indexCast arg14
  let c0_316 : Index := 0#32
  let c0_317 : Index := 0#32
  ![v730.toNat, 0, 0]
def k0_off17 (k0_t1 : Fin k0_t1_loop.trips) (k0_t5 : Fin (k0_t5_loop k0_t1).trips) : Fin 2 → Nat :=
  let c0_i32_49 : BitVec 32 := 0#32
  let c0_i32 : BitVec 32 := 0#32
  let c1_i32 : BitVec 32 := 1#32
  let arg13 : BitVec 32 := Scf.iv c0_i32 c1_i32 k0_t1
  let c1_i32_47 : BitVec 32 := 1#32
  let v110 : BitVec 32 := Scalar.addi arg13 c1_i32_47
  let v112 : BitVec 32 := Scalar.subi v110 c0_i32_49
  let c1_i32_50 : BitVec 32 := 1#32
  let v114 : BitVec 32 := Scalar.divsi v112 c1_i32_50
  let v115 : BitVec 32 := Scalar.muli v114 c1_i32_50
  let v116 : BitVec 32 := Scalar.addi c0_i32_49 v115
  let c1_i32_52 : BitVec 32 := 1#32
  let arg14 : BitVec 32 := Scf.iv v116 c1_i32_52 k0_t5
  let c256_i32_315 : BitVec 32 := 256#32
  let v728 : BitVec 32 := Scalar.muli arg14 c256_i32_315
  let v729 : BitVec 32 := v728
  let v738 : Index := Scalar.indexCast v729
  let c0_318 : Index := 0#32
  ![v738.toNat, 0]
def k0_off18 (k0_t1 : Fin k0_t1_loop.trips) (k0_t5 : Fin (k0_t5_loop k0_t1).trips) : Fin 2 → Nat :=
  let c0_321 : Index := 0#32
  let c0_i32_49 : BitVec 32 := 0#32
  let c0_i32 : BitVec 32 := 0#32
  let c1_i32 : BitVec 32 := 1#32
  let arg13 : BitVec 32 := Scf.iv c0_i32 c1_i32 k0_t1
  let c1_i32_47 : BitVec 32 := 1#32
  let v110 : BitVec 32 := Scalar.addi arg13 c1_i32_47
  let v112 : BitVec 32 := Scalar.subi v110 c0_i32_49
  let c1_i32_50 : BitVec 32 := 1#32
  let v114 : BitVec 32 := Scalar.divsi v112 c1_i32_50
  let v115 : BitVec 32 := Scalar.muli v114 c1_i32_50
  let v116 : BitVec 32 := Scalar.addi c0_i32_49 v115
  let c1_i32_52 : BitVec 32 := 1#32
  let arg14 : BitVec 32 := Scf.iv v116 c1_i32_52 k0_t5
  let c256_i32_315 : BitVec 32 := 256#32
  let v728 : BitVec 32 := Scalar.muli arg14 c256_i32_315
  let v729 : BitVec 32 := v728
  let v750 : Index := Scalar.indexCast v729
  ![0, v750.toNat]
def k0_mult8 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_56 : BitVec 32 := 256#32
  let v126 : BitVec 32 := Scalar.muli arg13 c256_i32_56
  v126
@[reducible] def k0_t6_loop (k0_t1 : Fin k0_t1_loop.trips) : Scf.Loop 32 :=
  let c0_i32_67 : BitVec 32 := 0#32
  let c0_i32 : BitVec 32 := 0#32
  let c1_i32 : BitVec 32 := 1#32
  let arg13 : BitVec 32 := Scf.iv c0_i32 c1_i32 k0_t1
  let v144 : BitVec 32 := Scalar.subi arg13 c0_i32_67
  let c1_i32_68 : BitVec 32 := 1#32
  let v146 : BitVec 32 := Scalar.divsi v144 c1_i32_68
  let v147 : BitVec 32 := Scalar.muli v146 c1_i32_68
  let v148 : BitVec 32 := Scalar.addi c0_i32_67 v147
  let c1_i32_69 : BitVec 32 := 1#32
  ⟨c0_i32_67, v148, c1_i32_69⟩
def k0_mult9 (k0_t1 : Fin k0_t1_loop.trips) (k0_t6 : Fin (k0_t6_loop k0_t1).trips) : BitVec 32 :=
  let c0_i32_67 : BitVec 32 := 0#32
  let c1_i32_69 : BitVec 32 := 1#32
  let arg14 : BitVec 32 := Scf.iv c0_i32_67 c1_i32_69 k0_t6
  let c256_i32_315 : BitVec 32 := 256#32
  let v728 : BitVec 32 := Scalar.muli arg14 c256_i32_315
  v728
def k0_off19 (k0_t1 : Fin k0_t1_loop.trips) (k0_t6 : Fin (k0_t6_loop k0_t1).trips) : Fin 3 → Nat :=
  let c1_316 : Index := 1#32
  let c0_i32_67 : BitVec 32 := 0#32
  let c1_i32_69 : BitVec 32 := 1#32
  let arg14 : BitVec 32 := Scf.iv c0_i32_67 c1_i32_69 k0_t6
  let c256_i32_315 : BitVec 32 := 256#32
  let v728 : BitVec 32 := Scalar.muli arg14 c256_i32_315
  let v729 : BitVec 32 := v728
  let v730 : Index := Scalar.indexCast v729
  let c0_317 : Index := 0#32
  ![1, v730.toNat, 0]
def k0_off20 (k0_t1 : Fin k0_t1_loop.trips) (k0_t6 : Fin (k0_t6_loop k0_t1).trips) : Fin 2 → Nat :=
  let c0_i32_67 : BitVec 32 := 0#32
  let c1_i32_69 : BitVec 32 := 1#32
  let arg14 : BitVec 32 := Scf.iv c0_i32_67 c1_i32_69 k0_t6
  let c256_i32_315 : BitVec 32 := 256#32
  let v728 : BitVec 32 := Scalar.muli arg14 c256_i32_315
  let v729 : BitVec 32 := v728
  let v749 : Index := Scalar.indexCast v729
  let c0_321 : Index := 0#32
  ![v749.toNat, 0]
def k0_off21 (k0_t1 : Fin k0_t1_loop.trips) (k0_t6 : Fin (k0_t6_loop k0_t1).trips) : Fin 3 → Nat :=
  let c0_i32_67 : BitVec 32 := 0#32
  let c1_i32_69 : BitVec 32 := 1#32
  let arg14 : BitVec 32 := Scf.iv c0_i32_67 c1_i32_69 k0_t6
  let v753 : Index := Scalar.indexCast arg14
  let c0_322 : Index := 0#32
  let c0_323 : Index := 0#32
  ![v753.toNat, 0, 0]
@[reducible] def k0_t7_loop (k0_t1 : Fin k0_t1_loop.trips) : Scf.Loop 32 :=
  let c0_i32_67 : BitVec 32 := 0#32
  let c0_i32 : BitVec 32 := 0#32
  let c1_i32 : BitVec 32 := 1#32
  let arg13 : BitVec 32 := Scf.iv c0_i32 c1_i32 k0_t1
  let v144 : BitVec 32 := Scalar.subi arg13 c0_i32_67
  let c1_i32_68 : BitVec 32 := 1#32
  let v146 : BitVec 32 := Scalar.divsi v144 c1_i32_68
  let v147 : BitVec 32 := Scalar.muli v146 c1_i32_68
  let v148 : BitVec 32 := Scalar.addi c0_i32_67 v147
  let v145 : BitVec 32 := Scalar.addi c0_i32_67 v144
  let c1_i32_70 : BitVec 32 := 1#32
  ⟨v148, v145, c1_i32_70⟩
def k0_mult10 (k0_t1 : Fin k0_t1_loop.trips) (k0_t7 : Fin (k0_t7_loop k0_t1).trips) : BitVec 32 :=
  let c0_i32_67 : BitVec 32 := 0#32
  let c0_i32 : BitVec 32 := 0#32
  let c1_i32 : BitVec 32 := 1#32
  let arg13 : BitVec 32 := Scf.iv c0_i32 c1_i32 k0_t1
  let v144 : BitVec 32 := Scalar.subi arg13 c0_i32_67
  let c1_i32_68 : BitVec 32 := 1#32
  let v146 : BitVec 32 := Scalar.divsi v144 c1_i32_68
  let v147 : BitVec 32 := Scalar.muli v146 c1_i32_68
  let v148 : BitVec 32 := Scalar.addi c0_i32_67 v147
  let c1_i32_70 : BitVec 32 := 1#32
  let arg14 : BitVec 32 := Scf.iv v148 c1_i32_70 k0_t7
  let c256_i32_315 : BitVec 32 := 256#32
  let v728 : BitVec 32 := Scalar.muli arg14 c256_i32_315
  v728
def k0_off22 (k0_t1 : Fin k0_t1_loop.trips) (k0_t7 : Fin (k0_t7_loop k0_t1).trips) : Fin 3 → Nat :=
  let c1_316 : Index := 1#32
  let c0_i32_67 : BitVec 32 := 0#32
  let c0_i32 : BitVec 32 := 0#32
  let c1_i32 : BitVec 32 := 1#32
  let arg13 : BitVec 32 := Scf.iv c0_i32 c1_i32 k0_t1
  let v144 : BitVec 32 := Scalar.subi arg13 c0_i32_67
  let c1_i32_68 : BitVec 32 := 1#32
  let v146 : BitVec 32 := Scalar.divsi v144 c1_i32_68
  let v147 : BitVec 32 := Scalar.muli v146 c1_i32_68
  let v148 : BitVec 32 := Scalar.addi c0_i32_67 v147
  let c1_i32_70 : BitVec 32 := 1#32
  let arg14 : BitVec 32 := Scf.iv v148 c1_i32_70 k0_t7
  let c256_i32_315 : BitVec 32 := 256#32
  let v728 : BitVec 32 := Scalar.muli arg14 c256_i32_315
  let v729 : BitVec 32 := v728
  let v730 : Index := Scalar.indexCast v729
  let c0_317 : Index := 0#32
  ![1, v730.toNat, 0]
def k0_off23 (k0_t1 : Fin k0_t1_loop.trips) (k0_t7 : Fin (k0_t7_loop k0_t1).trips) : Fin 2 → Nat :=
  let c0_i32_67 : BitVec 32 := 0#32
  let c0_i32 : BitVec 32 := 0#32
  let c1_i32 : BitVec 32 := 1#32
  let arg13 : BitVec 32 := Scf.iv c0_i32 c1_i32 k0_t1
  let v144 : BitVec 32 := Scalar.subi arg13 c0_i32_67
  let c1_i32_68 : BitVec 32 := 1#32
  let v146 : BitVec 32 := Scalar.divsi v144 c1_i32_68
  let v147 : BitVec 32 := Scalar.muli v146 c1_i32_68
  let v148 : BitVec 32 := Scalar.addi c0_i32_67 v147
  let c1_i32_70 : BitVec 32 := 1#32
  let arg14 : BitVec 32 := Scf.iv v148 c1_i32_70 k0_t7
  let c256_i32_315 : BitVec 32 := 256#32
  let v728 : BitVec 32 := Scalar.muli arg14 c256_i32_315
  let v729 : BitVec 32 := v728
  let v749 : Index := Scalar.indexCast v729
  let c0_321 : Index := 0#32
  ![v749.toNat, 0]
def k0_off24 (k0_t1 : Fin k0_t1_loop.trips) (k0_t7 : Fin (k0_t7_loop k0_t1).trips) : Fin 3 → Nat :=
  let c0_i32_67 : BitVec 32 := 0#32
  let c0_i32 : BitVec 32 := 0#32
  let c1_i32 : BitVec 32 := 1#32
  let arg13 : BitVec 32 := Scf.iv c0_i32 c1_i32 k0_t1
  let v144 : BitVec 32 := Scalar.subi arg13 c0_i32_67
  let c1_i32_68 : BitVec 32 := 1#32
  let v146 : BitVec 32 := Scalar.divsi v144 c1_i32_68
  let v147 : BitVec 32 := Scalar.muli v146 c1_i32_68
  let v148 : BitVec 32 := Scalar.addi c0_i32_67 v147
  let c1_i32_70 : BitVec 32 := 1#32
  let arg14 : BitVec 32 := Scf.iv v148 c1_i32_70 k0_t7
  let v753 : Index := Scalar.indexCast arg14
  let c0_322 : Index := 0#32
  let c0_323 : Index := 0#32
  ![v753.toNat, 0, 0]
def k0_mult11 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_71 : BitVec 32 := 256#32
  let v151 : BitVec 32 := Scalar.muli arg13 c256_i32_71
  v151
def k0_off25 (k0_t1 : Fin k0_t1_loop.trips) : Fin 3 → Nat :=
  let c1_72 : Index := 1#32
  let c0_i32 : BitVec 32 := 0#32
  let c1_i32 : BitVec 32 := 1#32
  let arg13 : BitVec 32 := Scf.iv c0_i32 c1_i32 k0_t1
  let c256_i32_71 : BitVec 32 := 256#32
  let v151 : BitVec 32 := Scalar.muli arg13 c256_i32_71
  let v152 : BitVec 32 := v151
  let v153 : Index := Scalar.indexCast v152
  let c0_73 : Index := 0#32
  ![1, v153.toNat, 0]
@[reducible] def k0_t8_loop (k0_t1 : Fin k0_t1_loop.trips) : Scf.Loop 32 :=
  let c0_i32_86 : BitVec 32 := 0#32
  let c0_i32 : BitVec 32 := 0#32
  let c1_i32 : BitVec 32 := 1#32
  let arg13 : BitVec 32 := Scf.iv c0_i32 c1_i32 k0_t1
  let c1_i32_84 : BitVec 32 := 1#32
  let v192 : BitVec 32 := Scalar.addi arg13 c1_i32_84
  let v194 : BitVec 32 := Scalar.subi v192 c0_i32_86
  let c1_i32_87 : BitVec 32 := 1#32
  let v196 : BitVec 32 := Scalar.divsi v194 c1_i32_87
  let v197 : BitVec 32 := Scalar.muli v196 c1_i32_87
  let v198 : BitVec 32 := Scalar.addi c0_i32_86 v197
  let c1_i32_88 : BitVec 32 := 1#32
  ⟨c0_i32_86, v198, c1_i32_88⟩
def k0_mult12 (k0_t1 : Fin k0_t1_loop.trips) (k0_t8 : Fin (k0_t8_loop k0_t1).trips) : BitVec 32 :=
  let c0_i32_86 : BitVec 32 := 0#32
  let c1_i32_88 : BitVec 32 := 1#32
  let arg14 : BitVec 32 := Scf.iv c0_i32_86 c1_i32_88 k0_t8
  let c256_i32_315 : BitVec 32 := 256#32
  let v728 : BitVec 32 := Scalar.muli arg14 c256_i32_315
  v728
def k0_off26 (k0_t1 : Fin k0_t1_loop.trips) (k0_t8 : Fin (k0_t8_loop k0_t1).trips) : Fin 3 → Nat :=
  let c0_i32_86 : BitVec 32 := 0#32
  let c1_i32_88 : BitVec 32 := 1#32
  let arg14 : BitVec 32 := Scf.iv c0_i32_86 c1_i32_88 k0_t8
  let v730 : Index := Scalar.indexCast arg14
  let c0_316 : Index := 0#32
  let c0_317 : Index := 0#32
  ![v730.toNat, 0, 0]
def k0_off27 (k0_t1 : Fin k0_t1_loop.trips) (k0_t8 : Fin (k0_t8_loop k0_t1).trips) : Fin 2 → Nat :=
  let c0_i32_86 : BitVec 32 := 0#32
  let c1_i32_88 : BitVec 32 := 1#32
  let arg14 : BitVec 32 := Scf.iv c0_i32_86 c1_i32_88 k0_t8
  let c256_i32_315 : BitVec 32 := 256#32
  let v728 : BitVec 32 := Scalar.muli arg14 c256_i32_315
  let v729 : BitVec 32 := v728
  let v738 : Index := Scalar.indexCast v729
  let c0_318 : Index := 0#32
  ![v738.toNat, 0]
def k0_off28 (k0_t1 : Fin k0_t1_loop.trips) (k0_t8 : Fin (k0_t8_loop k0_t1).trips) : Fin 2 → Nat :=
  let c0_321 : Index := 0#32
  let c0_i32_86 : BitVec 32 := 0#32
  let c1_i32_88 : BitVec 32 := 1#32
  let arg14 : BitVec 32 := Scf.iv c0_i32_86 c1_i32_88 k0_t8
  let c256_i32_315 : BitVec 32 := 256#32
  let v728 : BitVec 32 := Scalar.muli arg14 c256_i32_315
  let v729 : BitVec 32 := v728
  let v750 : Index := Scalar.indexCast v729
  ![0, v750.toNat]
@[reducible] def k0_t9_loop (k0_t1 : Fin k0_t1_loop.trips) : Scf.Loop 32 :=
  let c0_i32_86 : BitVec 32 := 0#32
  let c0_i32 : BitVec 32 := 0#32
  let c1_i32 : BitVec 32 := 1#32
  let arg13 : BitVec 32 := Scf.iv c0_i32 c1_i32 k0_t1
  let c1_i32_84 : BitVec 32 := 1#32
  let v192 : BitVec 32 := Scalar.addi arg13 c1_i32_84
  let v194 : BitVec 32 := Scalar.subi v192 c0_i32_86
  let c1_i32_87 : BitVec 32 := 1#32
  let v196 : BitVec 32 := Scalar.divsi v194 c1_i32_87
  let v197 : BitVec 32 := Scalar.muli v196 c1_i32_87
  let v198 : BitVec 32 := Scalar.addi c0_i32_86 v197
  let v195 : BitVec 32 := Scalar.addi c0_i32_86 v194
  let c1_i32_89 : BitVec 32 := 1#32
  ⟨v198, v195, c1_i32_89⟩
def k0_mult13 (k0_t1 : Fin k0_t1_loop.trips) (k0_t9 : Fin (k0_t9_loop k0_t1).trips) : BitVec 32 :=
  let c0_i32_86 : BitVec 32 := 0#32
  let c0_i32 : BitVec 32 := 0#32
  let c1_i32 : BitVec 32 := 1#32
  let arg13 : BitVec 32 := Scf.iv c0_i32 c1_i32 k0_t1
  let c1_i32_84 : BitVec 32 := 1#32
  let v192 : BitVec 32 := Scalar.addi arg13 c1_i32_84
  let v194 : BitVec 32 := Scalar.subi v192 c0_i32_86
  let c1_i32_87 : BitVec 32 := 1#32
  let v196 : BitVec 32 := Scalar.divsi v194 c1_i32_87
  let v197 : BitVec 32 := Scalar.muli v196 c1_i32_87
  let v198 : BitVec 32 := Scalar.addi c0_i32_86 v197
  let c1_i32_89 : BitVec 32 := 1#32
  let arg14 : BitVec 32 := Scf.iv v198 c1_i32_89 k0_t9
  let c256_i32_315 : BitVec 32 := 256#32
  let v728 : BitVec 32 := Scalar.muli arg14 c256_i32_315
  v728
def k0_off29 (k0_t1 : Fin k0_t1_loop.trips) (k0_t9 : Fin (k0_t9_loop k0_t1).trips) : Fin 3 → Nat :=
  let c0_i32_86 : BitVec 32 := 0#32
  let c0_i32 : BitVec 32 := 0#32
  let c1_i32 : BitVec 32 := 1#32
  let arg13 : BitVec 32 := Scf.iv c0_i32 c1_i32 k0_t1
  let c1_i32_84 : BitVec 32 := 1#32
  let v192 : BitVec 32 := Scalar.addi arg13 c1_i32_84
  let v194 : BitVec 32 := Scalar.subi v192 c0_i32_86
  let c1_i32_87 : BitVec 32 := 1#32
  let v196 : BitVec 32 := Scalar.divsi v194 c1_i32_87
  let v197 : BitVec 32 := Scalar.muli v196 c1_i32_87
  let v198 : BitVec 32 := Scalar.addi c0_i32_86 v197
  let c1_i32_89 : BitVec 32 := 1#32
  let arg14 : BitVec 32 := Scf.iv v198 c1_i32_89 k0_t9
  let v730 : Index := Scalar.indexCast arg14
  let c0_316 : Index := 0#32
  let c0_317 : Index := 0#32
  ![v730.toNat, 0, 0]
def k0_off30 (k0_t1 : Fin k0_t1_loop.trips) (k0_t9 : Fin (k0_t9_loop k0_t1).trips) : Fin 2 → Nat :=
  let c0_i32_86 : BitVec 32 := 0#32
  let c0_i32 : BitVec 32 := 0#32
  let c1_i32 : BitVec 32 := 1#32
  let arg13 : BitVec 32 := Scf.iv c0_i32 c1_i32 k0_t1
  let c1_i32_84 : BitVec 32 := 1#32
  let v192 : BitVec 32 := Scalar.addi arg13 c1_i32_84
  let v194 : BitVec 32 := Scalar.subi v192 c0_i32_86
  let c1_i32_87 : BitVec 32 := 1#32
  let v196 : BitVec 32 := Scalar.divsi v194 c1_i32_87
  let v197 : BitVec 32 := Scalar.muli v196 c1_i32_87
  let v198 : BitVec 32 := Scalar.addi c0_i32_86 v197
  let c1_i32_89 : BitVec 32 := 1#32
  let arg14 : BitVec 32 := Scf.iv v198 c1_i32_89 k0_t9
  let c256_i32_315 : BitVec 32 := 256#32
  let v728 : BitVec 32 := Scalar.muli arg14 c256_i32_315
  let v729 : BitVec 32 := v728
  let v738 : Index := Scalar.indexCast v729
  let c0_318 : Index := 0#32
  ![v738.toNat, 0]
def k0_off31 (k0_t1 : Fin k0_t1_loop.trips) (k0_t9 : Fin (k0_t9_loop k0_t1).trips) : Fin 2 → Nat :=
  let c0_321 : Index := 0#32
  let c0_i32_86 : BitVec 32 := 0#32
  let c0_i32 : BitVec 32 := 0#32
  let c1_i32 : BitVec 32 := 1#32
  let arg13 : BitVec 32 := Scf.iv c0_i32 c1_i32 k0_t1
  let c1_i32_84 : BitVec 32 := 1#32
  let v192 : BitVec 32 := Scalar.addi arg13 c1_i32_84
  let v194 : BitVec 32 := Scalar.subi v192 c0_i32_86
  let c1_i32_87 : BitVec 32 := 1#32
  let v196 : BitVec 32 := Scalar.divsi v194 c1_i32_87
  let v197 : BitVec 32 := Scalar.muli v196 c1_i32_87
  let v198 : BitVec 32 := Scalar.addi c0_i32_86 v197
  let c1_i32_89 : BitVec 32 := 1#32
  let arg14 : BitVec 32 := Scf.iv v198 c1_i32_89 k0_t9
  let c256_i32_315 : BitVec 32 := 256#32
  let v728 : BitVec 32 := Scalar.muli arg14 c256_i32_315
  let v729 : BitVec 32 := v728
  let v750 : Index := Scalar.indexCast v729
  ![0, v750.toNat]
def k0_mult14 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_95 : BitVec 32 := 256#32
  let v215 : BitVec 32 := Scalar.muli arg13 c256_i32_95
  v215
def k0_off32 (k0_t1 : Fin k0_t1_loop.trips) : Fin 3 → Nat :=
  let c0_96 : Index := 0#32
  let c0_i32 : BitVec 32 := 0#32
  let c1_i32 : BitVec 32 := 1#32
  let arg13 : BitVec 32 := Scf.iv c0_i32 c1_i32 k0_t1
  let c256_i32_95 : BitVec 32 := 256#32
  let v215 : BitVec 32 := Scalar.muli arg13 c256_i32_95
  let v216 : BitVec 32 := v215
  let v217 : Index := Scalar.indexCast v216
  let c128 : Index := 128#32
  ![0, v217.toNat, 128]
@[reducible] def k0_t10_loop (k0_t1 : Fin k0_t1_loop.trips) : Scf.Loop 32 :=
  let c0_i32_105 : BitVec 32 := 0#32
  let c0_i32 : BitVec 32 := 0#32
  let c1_i32 : BitVec 32 := 1#32
  let arg13 : BitVec 32 := Scf.iv c0_i32 c1_i32 k0_t1
  let v233 : BitVec 32 := Scalar.subi arg13 c0_i32_105
  let c1_i32_106 : BitVec 32 := 1#32
  let v235 : BitVec 32 := Scalar.divsi v233 c1_i32_106
  let v236 : BitVec 32 := Scalar.muli v235 c1_i32_106
  let v237 : BitVec 32 := Scalar.addi c0_i32_105 v236
  let c1_i32_107 : BitVec 32 := 1#32
  ⟨c0_i32_105, v237, c1_i32_107⟩
def k0_mult15 (k0_t1 : Fin k0_t1_loop.trips) (k0_t10 : Fin (k0_t10_loop k0_t1).trips) : BitVec 32 :=
  let c0_i32_105 : BitVec 32 := 0#32
  let c1_i32_107 : BitVec 32 := 1#32
  let arg14 : BitVec 32 := Scf.iv c0_i32_105 c1_i32_107 k0_t10
  let c256_i32_315 : BitVec 32 := 256#32
  let v728 : BitVec 32 := Scalar.muli arg14 c256_i32_315
  v728
def k0_off33 (k0_t1 : Fin k0_t1_loop.trips) (k0_t10 : Fin (k0_t10_loop k0_t1).trips) : Fin 3 → Nat :=
  let c0_316 : Index := 0#32
  let c0_i32_105 : BitVec 32 := 0#32
  let c1_i32_107 : BitVec 32 := 1#32
  let arg14 : BitVec 32 := Scf.iv c0_i32_105 c1_i32_107 k0_t10
  let c256_i32_315 : BitVec 32 := 256#32
  let v728 : BitVec 32 := Scalar.muli arg14 c256_i32_315
  let v729 : BitVec 32 := v728
  let v730 : Index := Scalar.indexCast v729
  let c0_317 : Index := 0#32
  ![0, v730.toNat, 0]
def k0_off34 (k0_t1 : Fin k0_t1_loop.trips) (k0_t10 : Fin (k0_t10_loop k0_t1).trips) : Fin 2 → Nat :=
  let c0_i32_105 : BitVec 32 := 0#32
  let c1_i32_107 : BitVec 32 := 1#32
  let arg14 : BitVec 32 := Scf.iv c0_i32_105 c1_i32_107 k0_t10
  let c256_i32_315 : BitVec 32 := 256#32
  let v728 : BitVec 32 := Scalar.muli arg14 c256_i32_315
  let v729 : BitVec 32 := v728
  let v749 : Index := Scalar.indexCast v729
  let c0_321 : Index := 0#32
  ![v749.toNat, 0]
def k0_off35 (k0_t1 : Fin k0_t1_loop.trips) (k0_t10 : Fin (k0_t10_loop k0_t1).trips) : Fin 3 → Nat :=
  let c0_i32_105 : BitVec 32 := 0#32
  let c1_i32_107 : BitVec 32 := 1#32
  let arg14 : BitVec 32 := Scf.iv c0_i32_105 c1_i32_107 k0_t10
  let v753 : Index := Scalar.indexCast arg14
  let c0_322 : Index := 0#32
  let c0_323 : Index := 0#32
  ![v753.toNat, 0, 0]
@[reducible] def k0_t11_loop (k0_t1 : Fin k0_t1_loop.trips) : Scf.Loop 32 :=
  let c0_i32_105 : BitVec 32 := 0#32
  let c0_i32 : BitVec 32 := 0#32
  let c1_i32 : BitVec 32 := 1#32
  let arg13 : BitVec 32 := Scf.iv c0_i32 c1_i32 k0_t1
  let v233 : BitVec 32 := Scalar.subi arg13 c0_i32_105
  let c1_i32_106 : BitVec 32 := 1#32
  let v235 : BitVec 32 := Scalar.divsi v233 c1_i32_106
  let v236 : BitVec 32 := Scalar.muli v235 c1_i32_106
  let v237 : BitVec 32 := Scalar.addi c0_i32_105 v236
  let v234 : BitVec 32 := Scalar.addi c0_i32_105 v233
  let c1_i32_108 : BitVec 32 := 1#32
  ⟨v237, v234, c1_i32_108⟩
def k0_mult16 (k0_t1 : Fin k0_t1_loop.trips) (k0_t11 : Fin (k0_t11_loop k0_t1).trips) : BitVec 32 :=
  let c0_i32_105 : BitVec 32 := 0#32
  let c0_i32 : BitVec 32 := 0#32
  let c1_i32 : BitVec 32 := 1#32
  let arg13 : BitVec 32 := Scf.iv c0_i32 c1_i32 k0_t1
  let v233 : BitVec 32 := Scalar.subi arg13 c0_i32_105
  let c1_i32_106 : BitVec 32 := 1#32
  let v235 : BitVec 32 := Scalar.divsi v233 c1_i32_106
  let v236 : BitVec 32 := Scalar.muli v235 c1_i32_106
  let v237 : BitVec 32 := Scalar.addi c0_i32_105 v236
  let c1_i32_108 : BitVec 32 := 1#32
  let arg14 : BitVec 32 := Scf.iv v237 c1_i32_108 k0_t11
  let c256_i32_315 : BitVec 32 := 256#32
  let v728 : BitVec 32 := Scalar.muli arg14 c256_i32_315
  v728
def k0_off36 (k0_t1 : Fin k0_t1_loop.trips) (k0_t11 : Fin (k0_t11_loop k0_t1).trips) : Fin 3 → Nat :=
  let c0_316 : Index := 0#32
  let c0_i32_105 : BitVec 32 := 0#32
  let c0_i32 : BitVec 32 := 0#32
  let c1_i32 : BitVec 32 := 1#32
  let arg13 : BitVec 32 := Scf.iv c0_i32 c1_i32 k0_t1
  let v233 : BitVec 32 := Scalar.subi arg13 c0_i32_105
  let c1_i32_106 : BitVec 32 := 1#32
  let v235 : BitVec 32 := Scalar.divsi v233 c1_i32_106
  let v236 : BitVec 32 := Scalar.muli v235 c1_i32_106
  let v237 : BitVec 32 := Scalar.addi c0_i32_105 v236
  let c1_i32_108 : BitVec 32 := 1#32
  let arg14 : BitVec 32 := Scf.iv v237 c1_i32_108 k0_t11
  let c256_i32_315 : BitVec 32 := 256#32
  let v728 : BitVec 32 := Scalar.muli arg14 c256_i32_315
  let v729 : BitVec 32 := v728
  let v730 : Index := Scalar.indexCast v729
  let c0_317 : Index := 0#32
  ![0, v730.toNat, 0]
def k0_off37 (k0_t1 : Fin k0_t1_loop.trips) (k0_t11 : Fin (k0_t11_loop k0_t1).trips) : Fin 2 → Nat :=
  let c0_i32_105 : BitVec 32 := 0#32
  let c0_i32 : BitVec 32 := 0#32
  let c1_i32 : BitVec 32 := 1#32
  let arg13 : BitVec 32 := Scf.iv c0_i32 c1_i32 k0_t1
  let v233 : BitVec 32 := Scalar.subi arg13 c0_i32_105
  let c1_i32_106 : BitVec 32 := 1#32
  let v235 : BitVec 32 := Scalar.divsi v233 c1_i32_106
  let v236 : BitVec 32 := Scalar.muli v235 c1_i32_106
  let v237 : BitVec 32 := Scalar.addi c0_i32_105 v236
  let c1_i32_108 : BitVec 32 := 1#32
  let arg14 : BitVec 32 := Scf.iv v237 c1_i32_108 k0_t11
  let c256_i32_315 : BitVec 32 := 256#32
  let v728 : BitVec 32 := Scalar.muli arg14 c256_i32_315
  let v729 : BitVec 32 := v728
  let v749 : Index := Scalar.indexCast v729
  let c0_321 : Index := 0#32
  ![v749.toNat, 0]
def k0_off38 (k0_t1 : Fin k0_t1_loop.trips) (k0_t11 : Fin (k0_t11_loop k0_t1).trips) : Fin 3 → Nat :=
  let c0_i32_105 : BitVec 32 := 0#32
  let c0_i32 : BitVec 32 := 0#32
  let c1_i32 : BitVec 32 := 1#32
  let arg13 : BitVec 32 := Scf.iv c0_i32 c1_i32 k0_t1
  let v233 : BitVec 32 := Scalar.subi arg13 c0_i32_105
  let c1_i32_106 : BitVec 32 := 1#32
  let v235 : BitVec 32 := Scalar.divsi v233 c1_i32_106
  let v236 : BitVec 32 := Scalar.muli v235 c1_i32_106
  let v237 : BitVec 32 := Scalar.addi c0_i32_105 v236
  let c1_i32_108 : BitVec 32 := 1#32
  let arg14 : BitVec 32 := Scf.iv v237 c1_i32_108 k0_t11
  let v753 : Index := Scalar.indexCast arg14
  let c0_322 : Index := 0#32
  let c0_323 : Index := 0#32
  ![v753.toNat, 0, 0]
def k0_mult17 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_109 : BitVec 32 := 256#32
  let v240 : BitVec 32 := Scalar.muli arg13 c256_i32_109
  v240
@[reducible] def k0_t12_loop (k0_t1 : Fin k0_t1_loop.trips) : Scf.Loop 32 :=
  let c0_i32_124 : BitVec 32 := 0#32
  let c0_i32 : BitVec 32 := 0#32
  let c1_i32 : BitVec 32 := 1#32
  let arg13 : BitVec 32 := Scf.iv c0_i32 c1_i32 k0_t1
  let c1_i32_122 : BitVec 32 := 1#32
  let v281 : BitVec 32 := Scalar.addi arg13 c1_i32_122
  let v283 : BitVec 32 := Scalar.subi v281 c0_i32_124
  let c1_i32_125 : BitVec 32 := 1#32
  let v285 : BitVec 32 := Scalar.divsi v283 c1_i32_125
  let v286 : BitVec 32 := Scalar.muli v285 c1_i32_125
  let v287 : BitVec 32 := Scalar.addi c0_i32_124 v286
  let c1_i32_126 : BitVec 32 := 1#32
  ⟨c0_i32_124, v287, c1_i32_126⟩
def k0_mult18 (k0_t1 : Fin k0_t1_loop.trips) (k0_t12 : Fin (k0_t12_loop k0_t1).trips) : BitVec 32 :=
  let c0_i32_124 : BitVec 32 := 0#32
  let c1_i32_126 : BitVec 32 := 1#32
  let arg14 : BitVec 32 := Scf.iv c0_i32_124 c1_i32_126 k0_t12
  let c256_i32_315 : BitVec 32 := 256#32
  let v728 : BitVec 32 := Scalar.muli arg14 c256_i32_315
  v728
def k0_off39 (k0_t1 : Fin k0_t1_loop.trips) (k0_t12 : Fin (k0_t12_loop k0_t1).trips) : Fin 3 → Nat :=
  let c0_i32_124 : BitVec 32 := 0#32
  let c1_i32_126 : BitVec 32 := 1#32
  let arg14 : BitVec 32 := Scf.iv c0_i32_124 c1_i32_126 k0_t12
  let v730 : Index := Scalar.indexCast arg14
  let c0_316 : Index := 0#32
  let c0_317 : Index := 0#32
  ![v730.toNat, 0, 0]
def k0_off40 (k0_t1 : Fin k0_t1_loop.trips) (k0_t12 : Fin (k0_t12_loop k0_t1).trips) : Fin 2 → Nat :=
  let c0_i32_124 : BitVec 32 := 0#32
  let c1_i32_126 : BitVec 32 := 1#32
  let arg14 : BitVec 32 := Scf.iv c0_i32_124 c1_i32_126 k0_t12
  let c256_i32_315 : BitVec 32 := 256#32
  let v728 : BitVec 32 := Scalar.muli arg14 c256_i32_315
  let v729 : BitVec 32 := v728
  let v738 : Index := Scalar.indexCast v729
  let c0_318 : Index := 0#32
  ![v738.toNat, 0]
def k0_off41 (k0_t1 : Fin k0_t1_loop.trips) (k0_t12 : Fin (k0_t12_loop k0_t1).trips) : Fin 2 → Nat :=
  let c0_321 : Index := 0#32
  let c0_i32_124 : BitVec 32 := 0#32
  let c1_i32_126 : BitVec 32 := 1#32
  let arg14 : BitVec 32 := Scf.iv c0_i32_124 c1_i32_126 k0_t12
  let c256_i32_315 : BitVec 32 := 256#32
  let v728 : BitVec 32 := Scalar.muli arg14 c256_i32_315
  let v729 : BitVec 32 := v728
  let v750 : Index := Scalar.indexCast v729
  ![0, v750.toNat]
@[reducible] def k0_t13_loop (k0_t1 : Fin k0_t1_loop.trips) : Scf.Loop 32 :=
  let c0_i32_124 : BitVec 32 := 0#32
  let c0_i32 : BitVec 32 := 0#32
  let c1_i32 : BitVec 32 := 1#32
  let arg13 : BitVec 32 := Scf.iv c0_i32 c1_i32 k0_t1
  let c1_i32_122 : BitVec 32 := 1#32
  let v281 : BitVec 32 := Scalar.addi arg13 c1_i32_122
  let v283 : BitVec 32 := Scalar.subi v281 c0_i32_124
  let c1_i32_125 : BitVec 32 := 1#32
  let v285 : BitVec 32 := Scalar.divsi v283 c1_i32_125
  let v286 : BitVec 32 := Scalar.muli v285 c1_i32_125
  let v287 : BitVec 32 := Scalar.addi c0_i32_124 v286
  let v284 : BitVec 32 := Scalar.addi c0_i32_124 v283
  let c1_i32_127 : BitVec 32 := 1#32
  ⟨v287, v284, c1_i32_127⟩
def k0_mult19 (k0_t1 : Fin k0_t1_loop.trips) (k0_t13 : Fin (k0_t13_loop k0_t1).trips) : BitVec 32 :=
  let c0_i32_124 : BitVec 32 := 0#32
  let c0_i32 : BitVec 32 := 0#32
  let c1_i32 : BitVec 32 := 1#32
  let arg13 : BitVec 32 := Scf.iv c0_i32 c1_i32 k0_t1
  let c1_i32_122 : BitVec 32 := 1#32
  let v281 : BitVec 32 := Scalar.addi arg13 c1_i32_122
  let v283 : BitVec 32 := Scalar.subi v281 c0_i32_124
  let c1_i32_125 : BitVec 32 := 1#32
  let v285 : BitVec 32 := Scalar.divsi v283 c1_i32_125
  let v286 : BitVec 32 := Scalar.muli v285 c1_i32_125
  let v287 : BitVec 32 := Scalar.addi c0_i32_124 v286
  let c1_i32_127 : BitVec 32 := 1#32
  let arg14 : BitVec 32 := Scf.iv v287 c1_i32_127 k0_t13
  let c256_i32_315 : BitVec 32 := 256#32
  let v728 : BitVec 32 := Scalar.muli arg14 c256_i32_315
  v728
def k0_off42 (k0_t1 : Fin k0_t1_loop.trips) (k0_t13 : Fin (k0_t13_loop k0_t1).trips) : Fin 3 → Nat :=
  let c0_i32_124 : BitVec 32 := 0#32
  let c0_i32 : BitVec 32 := 0#32
  let c1_i32 : BitVec 32 := 1#32
  let arg13 : BitVec 32 := Scf.iv c0_i32 c1_i32 k0_t1
  let c1_i32_122 : BitVec 32 := 1#32
  let v281 : BitVec 32 := Scalar.addi arg13 c1_i32_122
  let v283 : BitVec 32 := Scalar.subi v281 c0_i32_124
  let c1_i32_125 : BitVec 32 := 1#32
  let v285 : BitVec 32 := Scalar.divsi v283 c1_i32_125
  let v286 : BitVec 32 := Scalar.muli v285 c1_i32_125
  let v287 : BitVec 32 := Scalar.addi c0_i32_124 v286
  let c1_i32_127 : BitVec 32 := 1#32
  let arg14 : BitVec 32 := Scf.iv v287 c1_i32_127 k0_t13
  let v730 : Index := Scalar.indexCast arg14
  let c0_316 : Index := 0#32
  let c0_317 : Index := 0#32
  ![v730.toNat, 0, 0]
def k0_off43 (k0_t1 : Fin k0_t1_loop.trips) (k0_t13 : Fin (k0_t13_loop k0_t1).trips) : Fin 2 → Nat :=
  let c0_i32_124 : BitVec 32 := 0#32
  let c0_i32 : BitVec 32 := 0#32
  let c1_i32 : BitVec 32 := 1#32
  let arg13 : BitVec 32 := Scf.iv c0_i32 c1_i32 k0_t1
  let c1_i32_122 : BitVec 32 := 1#32
  let v281 : BitVec 32 := Scalar.addi arg13 c1_i32_122
  let v283 : BitVec 32 := Scalar.subi v281 c0_i32_124
  let c1_i32_125 : BitVec 32 := 1#32
  let v285 : BitVec 32 := Scalar.divsi v283 c1_i32_125
  let v286 : BitVec 32 := Scalar.muli v285 c1_i32_125
  let v287 : BitVec 32 := Scalar.addi c0_i32_124 v286
  let c1_i32_127 : BitVec 32 := 1#32
  let arg14 : BitVec 32 := Scf.iv v287 c1_i32_127 k0_t13
  let c256_i32_315 : BitVec 32 := 256#32
  let v728 : BitVec 32 := Scalar.muli arg14 c256_i32_315
  let v729 : BitVec 32 := v728
  let v738 : Index := Scalar.indexCast v729
  let c0_318 : Index := 0#32
  ![v738.toNat, 0]
def k0_off44 (k0_t1 : Fin k0_t1_loop.trips) (k0_t13 : Fin (k0_t13_loop k0_t1).trips) : Fin 2 → Nat :=
  let c0_321 : Index := 0#32
  let c0_i32_124 : BitVec 32 := 0#32
  let c0_i32 : BitVec 32 := 0#32
  let c1_i32 : BitVec 32 := 1#32
  let arg13 : BitVec 32 := Scf.iv c0_i32 c1_i32 k0_t1
  let c1_i32_122 : BitVec 32 := 1#32
  let v281 : BitVec 32 := Scalar.addi arg13 c1_i32_122
  let v283 : BitVec 32 := Scalar.subi v281 c0_i32_124
  let c1_i32_125 : BitVec 32 := 1#32
  let v285 : BitVec 32 := Scalar.divsi v283 c1_i32_125
  let v286 : BitVec 32 := Scalar.muli v285 c1_i32_125
  let v287 : BitVec 32 := Scalar.addi c0_i32_124 v286
  let c1_i32_127 : BitVec 32 := 1#32
  let arg14 : BitVec 32 := Scf.iv v287 c1_i32_127 k0_t13
  let c256_i32_315 : BitVec 32 := 256#32
  let v728 : BitVec 32 := Scalar.muli arg14 c256_i32_315
  let v729 : BitVec 32 := v728
  let v750 : Index := Scalar.indexCast v729
  ![0, v750.toNat]
def k0_mult20 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_131 : BitVec 32 := 256#32
  let v297 : BitVec 32 := Scalar.muli arg13 c256_i32_131
  v297
@[reducible] def k0_t14_loop (k0_t1 : Fin k0_t1_loop.trips) : Scf.Loop 32 :=
  let c0_i32_141 : BitVec 32 := 0#32
  let c0_i32 : BitVec 32 := 0#32
  let c1_i32 : BitVec 32 := 1#32
  let arg13 : BitVec 32 := Scf.iv c0_i32 c1_i32 k0_t1
  let v315 : BitVec 32 := Scalar.subi arg13 c0_i32_141
  let c1_i32_142 : BitVec 32 := 1#32
  let v317 : BitVec 32 := Scalar.divsi v315 c1_i32_142
  let v318 : BitVec 32 := Scalar.muli v317 c1_i32_142
  let v319 : BitVec 32 := Scalar.addi c0_i32_141 v318
  let c1_i32_143 : BitVec 32 := 1#32
  ⟨c0_i32_141, v319, c1_i32_143⟩
def k0_mult21 (k0_t1 : Fin k0_t1_loop.trips) (k0_t14 : Fin (k0_t14_loop k0_t1).trips) : BitVec 32 :=
  let c0_i32_141 : BitVec 32 := 0#32
  let c1_i32_143 : BitVec 32 := 1#32
  let arg14 : BitVec 32 := Scf.iv c0_i32_141 c1_i32_143 k0_t14
  let c256_i32_315 : BitVec 32 := 256#32
  let v728 : BitVec 32 := Scalar.muli arg14 c256_i32_315
  v728
def k0_off45 (k0_t1 : Fin k0_t1_loop.trips) (k0_t14 : Fin (k0_t14_loop k0_t1).trips) : Fin 3 → Nat :=
  let c1_316 : Index := 1#32
  let c0_i32_141 : BitVec 32 := 0#32
  let c1_i32_143 : BitVec 32 := 1#32
  let arg14 : BitVec 32 := Scf.iv c0_i32_141 c1_i32_143 k0_t14
  let c256_i32_315 : BitVec 32 := 256#32
  let v728 : BitVec 32 := Scalar.muli arg14 c256_i32_315
  let v729 : BitVec 32 := v728
  let v730 : Index := Scalar.indexCast v729
  let c0_317 : Index := 0#32
  ![1, v730.toNat, 0]
def k0_off46 (k0_t1 : Fin k0_t1_loop.trips) (k0_t14 : Fin (k0_t14_loop k0_t1).trips) : Fin 2 → Nat :=
  let c0_i32_141 : BitVec 32 := 0#32
  let c1_i32_143 : BitVec 32 := 1#32
  let arg14 : BitVec 32 := Scf.iv c0_i32_141 c1_i32_143 k0_t14
  let c256_i32_315 : BitVec 32 := 256#32
  let v728 : BitVec 32 := Scalar.muli arg14 c256_i32_315
  let v729 : BitVec 32 := v728
  let v749 : Index := Scalar.indexCast v729
  let c0_321 : Index := 0#32
  ![v749.toNat, 0]
def k0_off47 (k0_t1 : Fin k0_t1_loop.trips) (k0_t14 : Fin (k0_t14_loop k0_t1).trips) : Fin 3 → Nat :=
  let c0_i32_141 : BitVec 32 := 0#32
  let c1_i32_143 : BitVec 32 := 1#32
  let arg14 : BitVec 32 := Scf.iv c0_i32_141 c1_i32_143 k0_t14
  let v753 : Index := Scalar.indexCast arg14
  let c0_322 : Index := 0#32
  let c0_323 : Index := 0#32
  ![v753.toNat, 0, 0]
@[reducible] def k0_t15_loop (k0_t1 : Fin k0_t1_loop.trips) : Scf.Loop 32 :=
  let c0_i32_141 : BitVec 32 := 0#32
  let c0_i32 : BitVec 32 := 0#32
  let c1_i32 : BitVec 32 := 1#32
  let arg13 : BitVec 32 := Scf.iv c0_i32 c1_i32 k0_t1
  let v315 : BitVec 32 := Scalar.subi arg13 c0_i32_141
  let c1_i32_142 : BitVec 32 := 1#32
  let v317 : BitVec 32 := Scalar.divsi v315 c1_i32_142
  let v318 : BitVec 32 := Scalar.muli v317 c1_i32_142
  let v319 : BitVec 32 := Scalar.addi c0_i32_141 v318
  let v316 : BitVec 32 := Scalar.addi c0_i32_141 v315
  let c1_i32_144 : BitVec 32 := 1#32
  ⟨v319, v316, c1_i32_144⟩
def k0_mult22 (k0_t1 : Fin k0_t1_loop.trips) (k0_t15 : Fin (k0_t15_loop k0_t1).trips) : BitVec 32 :=
  let c0_i32_141 : BitVec 32 := 0#32
  let c0_i32 : BitVec 32 := 0#32
  let c1_i32 : BitVec 32 := 1#32
  let arg13 : BitVec 32 := Scf.iv c0_i32 c1_i32 k0_t1
  let v315 : BitVec 32 := Scalar.subi arg13 c0_i32_141
  let c1_i32_142 : BitVec 32 := 1#32
  let v317 : BitVec 32 := Scalar.divsi v315 c1_i32_142
  let v318 : BitVec 32 := Scalar.muli v317 c1_i32_142
  let v319 : BitVec 32 := Scalar.addi c0_i32_141 v318
  let c1_i32_144 : BitVec 32 := 1#32
  let arg14 : BitVec 32 := Scf.iv v319 c1_i32_144 k0_t15
  let c256_i32_315 : BitVec 32 := 256#32
  let v728 : BitVec 32 := Scalar.muli arg14 c256_i32_315
  v728
def k0_off48 (k0_t1 : Fin k0_t1_loop.trips) (k0_t15 : Fin (k0_t15_loop k0_t1).trips) : Fin 3 → Nat :=
  let c1_316 : Index := 1#32
  let c0_i32_141 : BitVec 32 := 0#32
  let c0_i32 : BitVec 32 := 0#32
  let c1_i32 : BitVec 32 := 1#32
  let arg13 : BitVec 32 := Scf.iv c0_i32 c1_i32 k0_t1
  let v315 : BitVec 32 := Scalar.subi arg13 c0_i32_141
  let c1_i32_142 : BitVec 32 := 1#32
  let v317 : BitVec 32 := Scalar.divsi v315 c1_i32_142
  let v318 : BitVec 32 := Scalar.muli v317 c1_i32_142
  let v319 : BitVec 32 := Scalar.addi c0_i32_141 v318
  let c1_i32_144 : BitVec 32 := 1#32
  let arg14 : BitVec 32 := Scf.iv v319 c1_i32_144 k0_t15
  let c256_i32_315 : BitVec 32 := 256#32
  let v728 : BitVec 32 := Scalar.muli arg14 c256_i32_315
  let v729 : BitVec 32 := v728
  let v730 : Index := Scalar.indexCast v729
  let c0_317 : Index := 0#32
  ![1, v730.toNat, 0]
def k0_off49 (k0_t1 : Fin k0_t1_loop.trips) (k0_t15 : Fin (k0_t15_loop k0_t1).trips) : Fin 2 → Nat :=
  let c0_i32_141 : BitVec 32 := 0#32
  let c0_i32 : BitVec 32 := 0#32
  let c1_i32 : BitVec 32 := 1#32
  let arg13 : BitVec 32 := Scf.iv c0_i32 c1_i32 k0_t1
  let v315 : BitVec 32 := Scalar.subi arg13 c0_i32_141
  let c1_i32_142 : BitVec 32 := 1#32
  let v317 : BitVec 32 := Scalar.divsi v315 c1_i32_142
  let v318 : BitVec 32 := Scalar.muli v317 c1_i32_142
  let v319 : BitVec 32 := Scalar.addi c0_i32_141 v318
  let c1_i32_144 : BitVec 32 := 1#32
  let arg14 : BitVec 32 := Scf.iv v319 c1_i32_144 k0_t15
  let c256_i32_315 : BitVec 32 := 256#32
  let v728 : BitVec 32 := Scalar.muli arg14 c256_i32_315
  let v729 : BitVec 32 := v728
  let v749 : Index := Scalar.indexCast v729
  let c0_321 : Index := 0#32
  ![v749.toNat, 0]
def k0_off50 (k0_t1 : Fin k0_t1_loop.trips) (k0_t15 : Fin (k0_t15_loop k0_t1).trips) : Fin 3 → Nat :=
  let c0_i32_141 : BitVec 32 := 0#32
  let c0_i32 : BitVec 32 := 0#32
  let c1_i32 : BitVec 32 := 1#32
  let arg13 : BitVec 32 := Scf.iv c0_i32 c1_i32 k0_t1
  let v315 : BitVec 32 := Scalar.subi arg13 c0_i32_141
  let c1_i32_142 : BitVec 32 := 1#32
  let v317 : BitVec 32 := Scalar.divsi v315 c1_i32_142
  let v318 : BitVec 32 := Scalar.muli v317 c1_i32_142
  let v319 : BitVec 32 := Scalar.addi c0_i32_141 v318
  let c1_i32_144 : BitVec 32 := 1#32
  let arg14 : BitVec 32 := Scf.iv v319 c1_i32_144 k0_t15
  let v753 : Index := Scalar.indexCast arg14
  let c0_322 : Index := 0#32
  let c0_323 : Index := 0#32
  ![v753.toNat, 0, 0]
def k0_mult23 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_145 : BitVec 32 := 256#32
  let v322 : BitVec 32 := Scalar.muli arg13 c256_i32_145
  v322
@[reducible] def k0_t16_loop (k0_t1 : Fin k0_t1_loop.trips) : Scf.Loop 32 :=
  let c0_i32_160 : BitVec 32 := 0#32
  let c0_i32 : BitVec 32 := 0#32
  let c1_i32 : BitVec 32 := 1#32
  let arg13 : BitVec 32 := Scf.iv c0_i32 c1_i32 k0_t1
  let c1_i32_158 : BitVec 32 := 1#32
  let v363 : BitVec 32 := Scalar.addi arg13 c1_i32_158
  let v365 : BitVec 32 := Scalar.subi v363 c0_i32_160
  let c1_i32_161 : BitVec 32 := 1#32
  let v367 : BitVec 32 := Scalar.divsi v365 c1_i32_161
  let v368 : BitVec 32 := Scalar.muli v367 c1_i32_161
  let v369 : BitVec 32 := Scalar.addi c0_i32_160 v368
  let c1_i32_162 : BitVec 32 := 1#32
  ⟨c0_i32_160, v369, c1_i32_162⟩
def k0_mult24 (k0_t1 : Fin k0_t1_loop.trips) (k0_t16 : Fin (k0_t16_loop k0_t1).trips) : BitVec 32 :=
  let c0_i32_160 : BitVec 32 := 0#32
  let c1_i32_162 : BitVec 32 := 1#32
  let arg14 : BitVec 32 := Scf.iv c0_i32_160 c1_i32_162 k0_t16
  let c256_i32_315 : BitVec 32 := 256#32
  let v728 : BitVec 32 := Scalar.muli arg14 c256_i32_315
  v728
def k0_off51 (k0_t1 : Fin k0_t1_loop.trips) (k0_t16 : Fin (k0_t16_loop k0_t1).trips) : Fin 3 → Nat :=
  let c0_i32_160 : BitVec 32 := 0#32
  let c1_i32_162 : BitVec 32 := 1#32
  let arg14 : BitVec 32 := Scf.iv c0_i32_160 c1_i32_162 k0_t16
  let v730 : Index := Scalar.indexCast arg14
  let c0_316 : Index := 0#32
  let c0_317 : Index := 0#32
  ![v730.toNat, 0, 0]
def k0_off52 (k0_t1 : Fin k0_t1_loop.trips) (k0_t16 : Fin (k0_t16_loop k0_t1).trips) : Fin 2 → Nat :=
  let c0_i32_160 : BitVec 32 := 0#32
  let c1_i32_162 : BitVec 32 := 1#32
  let arg14 : BitVec 32 := Scf.iv c0_i32_160 c1_i32_162 k0_t16
  let c256_i32_315 : BitVec 32 := 256#32
  let v728 : BitVec 32 := Scalar.muli arg14 c256_i32_315
  let v729 : BitVec 32 := v728
  let v738 : Index := Scalar.indexCast v729
  let c0_318 : Index := 0#32
  ![v738.toNat, 0]
def k0_off53 (k0_t1 : Fin k0_t1_loop.trips) (k0_t16 : Fin (k0_t16_loop k0_t1).trips) : Fin 2 → Nat :=
  let c0_321 : Index := 0#32
  let c0_i32_160 : BitVec 32 := 0#32
  let c1_i32_162 : BitVec 32 := 1#32
  let arg14 : BitVec 32 := Scf.iv c0_i32_160 c1_i32_162 k0_t16
  let c256_i32_315 : BitVec 32 := 256#32
  let v728 : BitVec 32 := Scalar.muli arg14 c256_i32_315
  let v729 : BitVec 32 := v728
  let v750 : Index := Scalar.indexCast v729
  ![0, v750.toNat]
@[reducible] def k0_t17_loop (k0_t1 : Fin k0_t1_loop.trips) : Scf.Loop 32 :=
  let c0_i32_160 : BitVec 32 := 0#32
  let c0_i32 : BitVec 32 := 0#32
  let c1_i32 : BitVec 32 := 1#32
  let arg13 : BitVec 32 := Scf.iv c0_i32 c1_i32 k0_t1
  let c1_i32_158 : BitVec 32 := 1#32
  let v363 : BitVec 32 := Scalar.addi arg13 c1_i32_158
  let v365 : BitVec 32 := Scalar.subi v363 c0_i32_160
  let c1_i32_161 : BitVec 32 := 1#32
  let v367 : BitVec 32 := Scalar.divsi v365 c1_i32_161
  let v368 : BitVec 32 := Scalar.muli v367 c1_i32_161
  let v369 : BitVec 32 := Scalar.addi c0_i32_160 v368
  let v366 : BitVec 32 := Scalar.addi c0_i32_160 v365
  let c1_i32_163 : BitVec 32 := 1#32
  ⟨v369, v366, c1_i32_163⟩
def k0_mult25 (k0_t1 : Fin k0_t1_loop.trips) (k0_t17 : Fin (k0_t17_loop k0_t1).trips) : BitVec 32 :=
  let c0_i32_160 : BitVec 32 := 0#32
  let c0_i32 : BitVec 32 := 0#32
  let c1_i32 : BitVec 32 := 1#32
  let arg13 : BitVec 32 := Scf.iv c0_i32 c1_i32 k0_t1
  let c1_i32_158 : BitVec 32 := 1#32
  let v363 : BitVec 32 := Scalar.addi arg13 c1_i32_158
  let v365 : BitVec 32 := Scalar.subi v363 c0_i32_160
  let c1_i32_161 : BitVec 32 := 1#32
  let v367 : BitVec 32 := Scalar.divsi v365 c1_i32_161
  let v368 : BitVec 32 := Scalar.muli v367 c1_i32_161
  let v369 : BitVec 32 := Scalar.addi c0_i32_160 v368
  let c1_i32_163 : BitVec 32 := 1#32
  let arg14 : BitVec 32 := Scf.iv v369 c1_i32_163 k0_t17
  let c256_i32_315 : BitVec 32 := 256#32
  let v728 : BitVec 32 := Scalar.muli arg14 c256_i32_315
  v728
def k0_off54 (k0_t1 : Fin k0_t1_loop.trips) (k0_t17 : Fin (k0_t17_loop k0_t1).trips) : Fin 3 → Nat :=
  let c0_i32_160 : BitVec 32 := 0#32
  let c0_i32 : BitVec 32 := 0#32
  let c1_i32 : BitVec 32 := 1#32
  let arg13 : BitVec 32 := Scf.iv c0_i32 c1_i32 k0_t1
  let c1_i32_158 : BitVec 32 := 1#32
  let v363 : BitVec 32 := Scalar.addi arg13 c1_i32_158
  let v365 : BitVec 32 := Scalar.subi v363 c0_i32_160
  let c1_i32_161 : BitVec 32 := 1#32
  let v367 : BitVec 32 := Scalar.divsi v365 c1_i32_161
  let v368 : BitVec 32 := Scalar.muli v367 c1_i32_161
  let v369 : BitVec 32 := Scalar.addi c0_i32_160 v368
  let c1_i32_163 : BitVec 32 := 1#32
  let arg14 : BitVec 32 := Scf.iv v369 c1_i32_163 k0_t17
  let v730 : Index := Scalar.indexCast arg14
  let c0_316 : Index := 0#32
  let c0_317 : Index := 0#32
  ![v730.toNat, 0, 0]
def k0_off55 (k0_t1 : Fin k0_t1_loop.trips) (k0_t17 : Fin (k0_t17_loop k0_t1).trips) : Fin 2 → Nat :=
  let c0_i32_160 : BitVec 32 := 0#32
  let c0_i32 : BitVec 32 := 0#32
  let c1_i32 : BitVec 32 := 1#32
  let arg13 : BitVec 32 := Scf.iv c0_i32 c1_i32 k0_t1
  let c1_i32_158 : BitVec 32 := 1#32
  let v363 : BitVec 32 := Scalar.addi arg13 c1_i32_158
  let v365 : BitVec 32 := Scalar.subi v363 c0_i32_160
  let c1_i32_161 : BitVec 32 := 1#32
  let v367 : BitVec 32 := Scalar.divsi v365 c1_i32_161
  let v368 : BitVec 32 := Scalar.muli v367 c1_i32_161
  let v369 : BitVec 32 := Scalar.addi c0_i32_160 v368
  let c1_i32_163 : BitVec 32 := 1#32
  let arg14 : BitVec 32 := Scf.iv v369 c1_i32_163 k0_t17
  let c256_i32_315 : BitVec 32 := 256#32
  let v728 : BitVec 32 := Scalar.muli arg14 c256_i32_315
  let v729 : BitVec 32 := v728
  let v738 : Index := Scalar.indexCast v729
  let c0_318 : Index := 0#32
  ![v738.toNat, 0]
def k0_off56 (k0_t1 : Fin k0_t1_loop.trips) (k0_t17 : Fin (k0_t17_loop k0_t1).trips) : Fin 2 → Nat :=
  let c0_321 : Index := 0#32
  let c0_i32_160 : BitVec 32 := 0#32
  let c0_i32 : BitVec 32 := 0#32
  let c1_i32 : BitVec 32 := 1#32
  let arg13 : BitVec 32 := Scf.iv c0_i32 c1_i32 k0_t1
  let c1_i32_158 : BitVec 32 := 1#32
  let v363 : BitVec 32 := Scalar.addi arg13 c1_i32_158
  let v365 : BitVec 32 := Scalar.subi v363 c0_i32_160
  let c1_i32_161 : BitVec 32 := 1#32
  let v367 : BitVec 32 := Scalar.divsi v365 c1_i32_161
  let v368 : BitVec 32 := Scalar.muli v367 c1_i32_161
  let v369 : BitVec 32 := Scalar.addi c0_i32_160 v368
  let c1_i32_163 : BitVec 32 := 1#32
  let arg14 : BitVec 32 := Scf.iv v369 c1_i32_163 k0_t17
  let c256_i32_315 : BitVec 32 := 256#32
  let v728 : BitVec 32 := Scalar.muli arg14 c256_i32_315
  let v729 : BitVec 32 := v728
  let v750 : Index := Scalar.indexCast v729
  ![0, v750.toNat]
def k0_mult26 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_169 : BitVec 32 := 256#32
  let v386 : BitVec 32 := Scalar.muli arg13 c256_i32_169
  v386
def k0_off57 (k0_t1 : Fin k0_t1_loop.trips) : Fin 3 → Nat :=
  let c0_170 : Index := 0#32
  let c0_i32 : BitVec 32 := 0#32
  let c1_i32 : BitVec 32 := 1#32
  let arg13 : BitVec 32 := Scf.iv c0_i32 c1_i32 k0_t1
  let c256_i32_169 : BitVec 32 := 256#32
  let v386 : BitVec 32 := Scalar.muli arg13 c256_i32_169
  let v387 : BitVec 32 := v386
  let v388 : Index := Scalar.indexCast v387
  let c256 : Index := 256#32
  ![0, v388.toNat, 256]
@[reducible] def k0_t18_loop (k0_t1 : Fin k0_t1_loop.trips) : Scf.Loop 32 :=
  let c0_i32_178 : BitVec 32 := 0#32
  let c0_i32 : BitVec 32 := 0#32
  let c1_i32 : BitVec 32 := 1#32
  let arg13 : BitVec 32 := Scf.iv c0_i32 c1_i32 k0_t1
  let v404 : BitVec 32 := Scalar.subi arg13 c0_i32_178
  let c1_i32_179 : BitVec 32 := 1#32
  let v406 : BitVec 32 := Scalar.divsi v404 c1_i32_179
  let v407 : BitVec 32 := Scalar.muli v406 c1_i32_179
  let v408 : BitVec 32 := Scalar.addi c0_i32_178 v407
  let c1_i32_180 : BitVec 32 := 1#32
  ⟨c0_i32_178, v408, c1_i32_180⟩
def k0_mult27 (k0_t1 : Fin k0_t1_loop.trips) (k0_t18 : Fin (k0_t18_loop k0_t1).trips) : BitVec 32 :=
  let c0_i32_178 : BitVec 32 := 0#32
  let c1_i32_180 : BitVec 32 := 1#32
  let arg14 : BitVec 32 := Scf.iv c0_i32_178 c1_i32_180 k0_t18
  let c256_i32_315 : BitVec 32 := 256#32
  let v728 : BitVec 32 := Scalar.muli arg14 c256_i32_315
  v728
def k0_off58 (k0_t1 : Fin k0_t1_loop.trips) (k0_t18 : Fin (k0_t18_loop k0_t1).trips) : Fin 3 → Nat :=
  let c2_316 : Index := 2#32
  let c0_i32_178 : BitVec 32 := 0#32
  let c1_i32_180 : BitVec 32 := 1#32
  let arg14 : BitVec 32 := Scf.iv c0_i32_178 c1_i32_180 k0_t18
  let c256_i32_315 : BitVec 32 := 256#32
  let v728 : BitVec 32 := Scalar.muli arg14 c256_i32_315
  let v729 : BitVec 32 := v728
  let v730 : Index := Scalar.indexCast v729
  let c0_317 : Index := 0#32
  ![2, v730.toNat, 0]
def k0_off59 (k0_t1 : Fin k0_t1_loop.trips) (k0_t18 : Fin (k0_t18_loop k0_t1).trips) : Fin 2 → Nat :=
  let c0_i32_178 : BitVec 32 := 0#32
  let c1_i32_180 : BitVec 32 := 1#32
  let arg14 : BitVec 32 := Scf.iv c0_i32_178 c1_i32_180 k0_t18
  let c256_i32_315 : BitVec 32 := 256#32
  let v728 : BitVec 32 := Scalar.muli arg14 c256_i32_315
  let v729 : BitVec 32 := v728
  let v749 : Index := Scalar.indexCast v729
  let c0_321 : Index := 0#32
  ![v749.toNat, 0]
def k0_off60 (k0_t1 : Fin k0_t1_loop.trips) (k0_t18 : Fin (k0_t18_loop k0_t1).trips) : Fin 3 → Nat :=
  let c0_i32_178 : BitVec 32 := 0#32
  let c1_i32_180 : BitVec 32 := 1#32
  let arg14 : BitVec 32 := Scf.iv c0_i32_178 c1_i32_180 k0_t18
  let v753 : Index := Scalar.indexCast arg14
  let c0_322 : Index := 0#32
  let c0_323 : Index := 0#32
  ![v753.toNat, 0, 0]
@[reducible] def k0_t19_loop (k0_t1 : Fin k0_t1_loop.trips) : Scf.Loop 32 :=
  let c0_i32_178 : BitVec 32 := 0#32
  let c0_i32 : BitVec 32 := 0#32
  let c1_i32 : BitVec 32 := 1#32
  let arg13 : BitVec 32 := Scf.iv c0_i32 c1_i32 k0_t1
  let v404 : BitVec 32 := Scalar.subi arg13 c0_i32_178
  let c1_i32_179 : BitVec 32 := 1#32
  let v406 : BitVec 32 := Scalar.divsi v404 c1_i32_179
  let v407 : BitVec 32 := Scalar.muli v406 c1_i32_179
  let v408 : BitVec 32 := Scalar.addi c0_i32_178 v407
  let v405 : BitVec 32 := Scalar.addi c0_i32_178 v404
  let c1_i32_181 : BitVec 32 := 1#32
  ⟨v408, v405, c1_i32_181⟩
def k0_mult28 (k0_t1 : Fin k0_t1_loop.trips) (k0_t19 : Fin (k0_t19_loop k0_t1).trips) : BitVec 32 :=
  let c0_i32_178 : BitVec 32 := 0#32
  let c0_i32 : BitVec 32 := 0#32
  let c1_i32 : BitVec 32 := 1#32
  let arg13 : BitVec 32 := Scf.iv c0_i32 c1_i32 k0_t1
  let v404 : BitVec 32 := Scalar.subi arg13 c0_i32_178
  let c1_i32_179 : BitVec 32 := 1#32
  let v406 : BitVec 32 := Scalar.divsi v404 c1_i32_179
  let v407 : BitVec 32 := Scalar.muli v406 c1_i32_179
  let v408 : BitVec 32 := Scalar.addi c0_i32_178 v407
  let c1_i32_181 : BitVec 32 := 1#32
  let arg14 : BitVec 32 := Scf.iv v408 c1_i32_181 k0_t19
  let c256_i32_315 : BitVec 32 := 256#32
  let v728 : BitVec 32 := Scalar.muli arg14 c256_i32_315
  v728
def k0_off61 (k0_t1 : Fin k0_t1_loop.trips) (k0_t19 : Fin (k0_t19_loop k0_t1).trips) : Fin 3 → Nat :=
  let c2_316 : Index := 2#32
  let c0_i32_178 : BitVec 32 := 0#32
  let c0_i32 : BitVec 32 := 0#32
  let c1_i32 : BitVec 32 := 1#32
  let arg13 : BitVec 32 := Scf.iv c0_i32 c1_i32 k0_t1
  let v404 : BitVec 32 := Scalar.subi arg13 c0_i32_178
  let c1_i32_179 : BitVec 32 := 1#32
  let v406 : BitVec 32 := Scalar.divsi v404 c1_i32_179
  let v407 : BitVec 32 := Scalar.muli v406 c1_i32_179
  let v408 : BitVec 32 := Scalar.addi c0_i32_178 v407
  let c1_i32_181 : BitVec 32 := 1#32
  let arg14 : BitVec 32 := Scf.iv v408 c1_i32_181 k0_t19
  let c256_i32_315 : BitVec 32 := 256#32
  let v728 : BitVec 32 := Scalar.muli arg14 c256_i32_315
  let v729 : BitVec 32 := v728
  let v730 : Index := Scalar.indexCast v729
  let c0_317 : Index := 0#32
  ![2, v730.toNat, 0]
def k0_off62 (k0_t1 : Fin k0_t1_loop.trips) (k0_t19 : Fin (k0_t19_loop k0_t1).trips) : Fin 2 → Nat :=
  let c0_i32_178 : BitVec 32 := 0#32
  let c0_i32 : BitVec 32 := 0#32
  let c1_i32 : BitVec 32 := 1#32
  let arg13 : BitVec 32 := Scf.iv c0_i32 c1_i32 k0_t1
  let v404 : BitVec 32 := Scalar.subi arg13 c0_i32_178
  let c1_i32_179 : BitVec 32 := 1#32
  let v406 : BitVec 32 := Scalar.divsi v404 c1_i32_179
  let v407 : BitVec 32 := Scalar.muli v406 c1_i32_179
  let v408 : BitVec 32 := Scalar.addi c0_i32_178 v407
  let c1_i32_181 : BitVec 32 := 1#32
  let arg14 : BitVec 32 := Scf.iv v408 c1_i32_181 k0_t19
  let c256_i32_315 : BitVec 32 := 256#32
  let v728 : BitVec 32 := Scalar.muli arg14 c256_i32_315
  let v729 : BitVec 32 := v728
  let v749 : Index := Scalar.indexCast v729
  let c0_321 : Index := 0#32
  ![v749.toNat, 0]
def k0_off63 (k0_t1 : Fin k0_t1_loop.trips) (k0_t19 : Fin (k0_t19_loop k0_t1).trips) : Fin 3 → Nat :=
  let c0_i32_178 : BitVec 32 := 0#32
  let c0_i32 : BitVec 32 := 0#32
  let c1_i32 : BitVec 32 := 1#32
  let arg13 : BitVec 32 := Scf.iv c0_i32 c1_i32 k0_t1
  let v404 : BitVec 32 := Scalar.subi arg13 c0_i32_178
  let c1_i32_179 : BitVec 32 := 1#32
  let v406 : BitVec 32 := Scalar.divsi v404 c1_i32_179
  let v407 : BitVec 32 := Scalar.muli v406 c1_i32_179
  let v408 : BitVec 32 := Scalar.addi c0_i32_178 v407
  let c1_i32_181 : BitVec 32 := 1#32
  let arg14 : BitVec 32 := Scf.iv v408 c1_i32_181 k0_t19
  let v753 : Index := Scalar.indexCast arg14
  let c0_322 : Index := 0#32
  let c0_323 : Index := 0#32
  ![v753.toNat, 0, 0]
def k0_mult29 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_182 : BitVec 32 := 256#32
  let v411 : BitVec 32 := Scalar.muli arg13 c256_i32_182
  v411
def k0_off64 (k0_t1 : Fin k0_t1_loop.trips) : Fin 3 → Nat :=
  let c2_183 : Index := 2#32
  let c0_i32 : BitVec 32 := 0#32
  let c1_i32 : BitVec 32 := 1#32
  let arg13 : BitVec 32 := Scf.iv c0_i32 c1_i32 k0_t1
  let c256_i32_182 : BitVec 32 := 256#32
  let v411 : BitVec 32 := Scalar.muli arg13 c256_i32_182
  let v412 : BitVec 32 := v411
  let v413 : Index := Scalar.indexCast v412
  let c0_184 : Index := 0#32
  ![2, v413.toNat, 0]
@[reducible] def k0_t20_loop (k0_t1 : Fin k0_t1_loop.trips) : Scf.Loop 32 :=
  let c0_i32_197 : BitVec 32 := 0#32
  let c0_i32 : BitVec 32 := 0#32
  let c1_i32 : BitVec 32 := 1#32
  let arg13 : BitVec 32 := Scf.iv c0_i32 c1_i32 k0_t1
  let c1_i32_195 : BitVec 32 := 1#32
  let v452 : BitVec 32 := Scalar.addi arg13 c1_i32_195
  let v454 : BitVec 32 := Scalar.subi v452 c0_i32_197
  let c1_i32_198 : BitVec 32 := 1#32
  let v456 : BitVec 32 := Scalar.divsi v454 c1_i32_198
  let v457 : BitVec 32 := Scalar.muli v456 c1_i32_198
  let v458 : BitVec 32 := Scalar.addi c0_i32_197 v457
  let c1_i32_199 : BitVec 32 := 1#32
  ⟨c0_i32_197, v458, c1_i32_199⟩
def k0_mult30 (k0_t1 : Fin k0_t1_loop.trips) (k0_t20 : Fin (k0_t20_loop k0_t1).trips) : BitVec 32 :=
  let c0_i32_197 : BitVec 32 := 0#32
  let c1_i32_199 : BitVec 32 := 1#32
  let arg14 : BitVec 32 := Scf.iv c0_i32_197 c1_i32_199 k0_t20
  let c256_i32_315 : BitVec 32 := 256#32
  let v728 : BitVec 32 := Scalar.muli arg14 c256_i32_315
  v728
def k0_off65 (k0_t1 : Fin k0_t1_loop.trips) (k0_t20 : Fin (k0_t20_loop k0_t1).trips) : Fin 3 → Nat :=
  let c0_i32_197 : BitVec 32 := 0#32
  let c1_i32_199 : BitVec 32 := 1#32
  let arg14 : BitVec 32 := Scf.iv c0_i32_197 c1_i32_199 k0_t20
  let v730 : Index := Scalar.indexCast arg14
  let c0_316 : Index := 0#32
  let c0_317 : Index := 0#32
  ![v730.toNat, 0, 0]
def k0_off66 (k0_t1 : Fin k0_t1_loop.trips) (k0_t20 : Fin (k0_t20_loop k0_t1).trips) : Fin 2 → Nat :=
  let c0_i32_197 : BitVec 32 := 0#32
  let c1_i32_199 : BitVec 32 := 1#32
  let arg14 : BitVec 32 := Scf.iv c0_i32_197 c1_i32_199 k0_t20
  let c256_i32_315 : BitVec 32 := 256#32
  let v728 : BitVec 32 := Scalar.muli arg14 c256_i32_315
  let v729 : BitVec 32 := v728
  let v738 : Index := Scalar.indexCast v729
  let c0_318 : Index := 0#32
  ![v738.toNat, 0]
def k0_off67 (k0_t1 : Fin k0_t1_loop.trips) (k0_t20 : Fin (k0_t20_loop k0_t1).trips) : Fin 2 → Nat :=
  let c64 : Index := 64#32
  let c0_i32_197 : BitVec 32 := 0#32
  let c1_i32_199 : BitVec 32 := 1#32
  let arg14 : BitVec 32 := Scf.iv c0_i32_197 c1_i32_199 k0_t20
  let c256_i32_315 : BitVec 32 := 256#32
  let v728 : BitVec 32 := Scalar.muli arg14 c256_i32_315
  let v729 : BitVec 32 := v728
  let v750 : Index := Scalar.indexCast v729
  ![64, v750.toNat]
@[reducible] def k0_t21_loop (k0_t1 : Fin k0_t1_loop.trips) : Scf.Loop 32 :=
  let c0_i32_197 : BitVec 32 := 0#32
  let c0_i32 : BitVec 32 := 0#32
  let c1_i32 : BitVec 32 := 1#32
  let arg13 : BitVec 32 := Scf.iv c0_i32 c1_i32 k0_t1
  let c1_i32_195 : BitVec 32 := 1#32
  let v452 : BitVec 32 := Scalar.addi arg13 c1_i32_195
  let v454 : BitVec 32 := Scalar.subi v452 c0_i32_197
  let c1_i32_198 : BitVec 32 := 1#32
  let v456 : BitVec 32 := Scalar.divsi v454 c1_i32_198
  let v457 : BitVec 32 := Scalar.muli v456 c1_i32_198
  let v458 : BitVec 32 := Scalar.addi c0_i32_197 v457
  let v455 : BitVec 32 := Scalar.addi c0_i32_197 v454
  let c1_i32_200 : BitVec 32 := 1#32
  ⟨v458, v455, c1_i32_200⟩
def k0_mult31 (k0_t1 : Fin k0_t1_loop.trips) (k0_t21 : Fin (k0_t21_loop k0_t1).trips) : BitVec 32 :=
  let c0_i32_197 : BitVec 32 := 0#32
  let c0_i32 : BitVec 32 := 0#32
  let c1_i32 : BitVec 32 := 1#32
  let arg13 : BitVec 32 := Scf.iv c0_i32 c1_i32 k0_t1
  let c1_i32_195 : BitVec 32 := 1#32
  let v452 : BitVec 32 := Scalar.addi arg13 c1_i32_195
  let v454 : BitVec 32 := Scalar.subi v452 c0_i32_197
  let c1_i32_198 : BitVec 32 := 1#32
  let v456 : BitVec 32 := Scalar.divsi v454 c1_i32_198
  let v457 : BitVec 32 := Scalar.muli v456 c1_i32_198
  let v458 : BitVec 32 := Scalar.addi c0_i32_197 v457
  let c1_i32_200 : BitVec 32 := 1#32
  let arg14 : BitVec 32 := Scf.iv v458 c1_i32_200 k0_t21
  let c256_i32_315 : BitVec 32 := 256#32
  let v728 : BitVec 32 := Scalar.muli arg14 c256_i32_315
  v728
def k0_off68 (k0_t1 : Fin k0_t1_loop.trips) (k0_t21 : Fin (k0_t21_loop k0_t1).trips) : Fin 3 → Nat :=
  let c0_i32_197 : BitVec 32 := 0#32
  let c0_i32 : BitVec 32 := 0#32
  let c1_i32 : BitVec 32 := 1#32
  let arg13 : BitVec 32 := Scf.iv c0_i32 c1_i32 k0_t1
  let c1_i32_195 : BitVec 32 := 1#32
  let v452 : BitVec 32 := Scalar.addi arg13 c1_i32_195
  let v454 : BitVec 32 := Scalar.subi v452 c0_i32_197
  let c1_i32_198 : BitVec 32 := 1#32
  let v456 : BitVec 32 := Scalar.divsi v454 c1_i32_198
  let v457 : BitVec 32 := Scalar.muli v456 c1_i32_198
  let v458 : BitVec 32 := Scalar.addi c0_i32_197 v457
  let c1_i32_200 : BitVec 32 := 1#32
  let arg14 : BitVec 32 := Scf.iv v458 c1_i32_200 k0_t21
  let v730 : Index := Scalar.indexCast arg14
  let c0_316 : Index := 0#32
  let c0_317 : Index := 0#32
  ![v730.toNat, 0, 0]
def k0_off69 (k0_t1 : Fin k0_t1_loop.trips) (k0_t21 : Fin (k0_t21_loop k0_t1).trips) : Fin 2 → Nat :=
  let c0_i32_197 : BitVec 32 := 0#32
  let c0_i32 : BitVec 32 := 0#32
  let c1_i32 : BitVec 32 := 1#32
  let arg13 : BitVec 32 := Scf.iv c0_i32 c1_i32 k0_t1
  let c1_i32_195 : BitVec 32 := 1#32
  let v452 : BitVec 32 := Scalar.addi arg13 c1_i32_195
  let v454 : BitVec 32 := Scalar.subi v452 c0_i32_197
  let c1_i32_198 : BitVec 32 := 1#32
  let v456 : BitVec 32 := Scalar.divsi v454 c1_i32_198
  let v457 : BitVec 32 := Scalar.muli v456 c1_i32_198
  let v458 : BitVec 32 := Scalar.addi c0_i32_197 v457
  let c1_i32_200 : BitVec 32 := 1#32
  let arg14 : BitVec 32 := Scf.iv v458 c1_i32_200 k0_t21
  let c256_i32_315 : BitVec 32 := 256#32
  let v728 : BitVec 32 := Scalar.muli arg14 c256_i32_315
  let v729 : BitVec 32 := v728
  let v738 : Index := Scalar.indexCast v729
  let c0_318 : Index := 0#32
  ![v738.toNat, 0]
def k0_off70 (k0_t1 : Fin k0_t1_loop.trips) (k0_t21 : Fin (k0_t21_loop k0_t1).trips) : Fin 2 → Nat :=
  let c64 : Index := 64#32
  let c0_i32_197 : BitVec 32 := 0#32
  let c0_i32 : BitVec 32 := 0#32
  let c1_i32 : BitVec 32 := 1#32
  let arg13 : BitVec 32 := Scf.iv c0_i32 c1_i32 k0_t1
  let c1_i32_195 : BitVec 32 := 1#32
  let v452 : BitVec 32 := Scalar.addi arg13 c1_i32_195
  let v454 : BitVec 32 := Scalar.subi v452 c0_i32_197
  let c1_i32_198 : BitVec 32 := 1#32
  let v456 : BitVec 32 := Scalar.divsi v454 c1_i32_198
  let v457 : BitVec 32 := Scalar.muli v456 c1_i32_198
  let v458 : BitVec 32 := Scalar.addi c0_i32_197 v457
  let c1_i32_200 : BitVec 32 := 1#32
  let arg14 : BitVec 32 := Scf.iv v458 c1_i32_200 k0_t21
  let c256_i32_315 : BitVec 32 := 256#32
  let v728 : BitVec 32 := Scalar.muli arg14 c256_i32_315
  let v729 : BitVec 32 := v728
  let v750 : Index := Scalar.indexCast v729
  ![64, v750.toNat]
def k0_mult32 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_204 : BitVec 32 := 256#32
  let v468 : BitVec 32 := Scalar.muli arg13 c256_i32_204
  v468
@[reducible] def k0_t22_loop (k0_t1 : Fin k0_t1_loop.trips) : Scf.Loop 32 :=
  let c0_i32_214 : BitVec 32 := 0#32
  let c0_i32 : BitVec 32 := 0#32
  let c1_i32 : BitVec 32 := 1#32
  let arg13 : BitVec 32 := Scf.iv c0_i32 c1_i32 k0_t1
  let v486 : BitVec 32 := Scalar.subi arg13 c0_i32_214
  let c1_i32_215 : BitVec 32 := 1#32
  let v488 : BitVec 32 := Scalar.divsi v486 c1_i32_215
  let v489 : BitVec 32 := Scalar.muli v488 c1_i32_215
  let v490 : BitVec 32 := Scalar.addi c0_i32_214 v489
  let c1_i32_216 : BitVec 32 := 1#32
  ⟨c0_i32_214, v490, c1_i32_216⟩
def k0_mult33 (k0_t1 : Fin k0_t1_loop.trips) (k0_t22 : Fin (k0_t22_loop k0_t1).trips) : BitVec 32 :=
  let c0_i32_214 : BitVec 32 := 0#32
  let c1_i32_216 : BitVec 32 := 1#32
  let arg14 : BitVec 32 := Scf.iv c0_i32_214 c1_i32_216 k0_t22
  let c256_i32_315 : BitVec 32 := 256#32
  let v728 : BitVec 32 := Scalar.muli arg14 c256_i32_315
  v728
def k0_off71 (k0_t1 : Fin k0_t1_loop.trips) (k0_t22 : Fin (k0_t22_loop k0_t1).trips) : Fin 3 → Nat :=
  let c3_316 : Index := 3#32
  let c0_i32_214 : BitVec 32 := 0#32
  let c1_i32_216 : BitVec 32 := 1#32
  let arg14 : BitVec 32 := Scf.iv c0_i32_214 c1_i32_216 k0_t22
  let c256_i32_315 : BitVec 32 := 256#32
  let v728 : BitVec 32 := Scalar.muli arg14 c256_i32_315
  let v729 : BitVec 32 := v728
  let v730 : Index := Scalar.indexCast v729
  let c0_317 : Index := 0#32
  ![3, v730.toNat, 0]
def k0_off72 (k0_t1 : Fin k0_t1_loop.trips) (k0_t22 : Fin (k0_t22_loop k0_t1).trips) : Fin 2 → Nat :=
  let c0_i32_214 : BitVec 32 := 0#32
  let c1_i32_216 : BitVec 32 := 1#32
  let arg14 : BitVec 32 := Scf.iv c0_i32_214 c1_i32_216 k0_t22
  let c256_i32_315 : BitVec 32 := 256#32
  let v728 : BitVec 32 := Scalar.muli arg14 c256_i32_315
  let v729 : BitVec 32 := v728
  let v749 : Index := Scalar.indexCast v729
  let c0_321 : Index := 0#32
  ![v749.toNat, 0]
def k0_off73 (k0_t1 : Fin k0_t1_loop.trips) (k0_t22 : Fin (k0_t22_loop k0_t1).trips) : Fin 3 → Nat :=
  let c0_i32_214 : BitVec 32 := 0#32
  let c1_i32_216 : BitVec 32 := 1#32
  let arg14 : BitVec 32 := Scf.iv c0_i32_214 c1_i32_216 k0_t22
  let v753 : Index := Scalar.indexCast arg14
  let c0_322 : Index := 0#32
  let c0_323 : Index := 0#32
  ![v753.toNat, 0, 0]
@[reducible] def k0_t23_loop (k0_t1 : Fin k0_t1_loop.trips) : Scf.Loop 32 :=
  let c0_i32_214 : BitVec 32 := 0#32
  let c0_i32 : BitVec 32 := 0#32
  let c1_i32 : BitVec 32 := 1#32
  let arg13 : BitVec 32 := Scf.iv c0_i32 c1_i32 k0_t1
  let v486 : BitVec 32 := Scalar.subi arg13 c0_i32_214
  let c1_i32_215 : BitVec 32 := 1#32
  let v488 : BitVec 32 := Scalar.divsi v486 c1_i32_215
  let v489 : BitVec 32 := Scalar.muli v488 c1_i32_215
  let v490 : BitVec 32 := Scalar.addi c0_i32_214 v489
  let v487 : BitVec 32 := Scalar.addi c0_i32_214 v486
  let c1_i32_217 : BitVec 32 := 1#32
  ⟨v490, v487, c1_i32_217⟩
def k0_mult34 (k0_t1 : Fin k0_t1_loop.trips) (k0_t23 : Fin (k0_t23_loop k0_t1).trips) : BitVec 32 :=
  let c0_i32_214 : BitVec 32 := 0#32
  let c0_i32 : BitVec 32 := 0#32
  let c1_i32 : BitVec 32 := 1#32
  let arg13 : BitVec 32 := Scf.iv c0_i32 c1_i32 k0_t1
  let v486 : BitVec 32 := Scalar.subi arg13 c0_i32_214
  let c1_i32_215 : BitVec 32 := 1#32
  let v488 : BitVec 32 := Scalar.divsi v486 c1_i32_215
  let v489 : BitVec 32 := Scalar.muli v488 c1_i32_215
  let v490 : BitVec 32 := Scalar.addi c0_i32_214 v489
  let c1_i32_217 : BitVec 32 := 1#32
  let arg14 : BitVec 32 := Scf.iv v490 c1_i32_217 k0_t23
  let c256_i32_315 : BitVec 32 := 256#32
  let v728 : BitVec 32 := Scalar.muli arg14 c256_i32_315
  v728
def k0_off74 (k0_t1 : Fin k0_t1_loop.trips) (k0_t23 : Fin (k0_t23_loop k0_t1).trips) : Fin 3 → Nat :=
  let c3_316 : Index := 3#32
  let c0_i32_214 : BitVec 32 := 0#32
  let c0_i32 : BitVec 32 := 0#32
  let c1_i32 : BitVec 32 := 1#32
  let arg13 : BitVec 32 := Scf.iv c0_i32 c1_i32 k0_t1
  let v486 : BitVec 32 := Scalar.subi arg13 c0_i32_214
  let c1_i32_215 : BitVec 32 := 1#32
  let v488 : BitVec 32 := Scalar.divsi v486 c1_i32_215
  let v489 : BitVec 32 := Scalar.muli v488 c1_i32_215
  let v490 : BitVec 32 := Scalar.addi c0_i32_214 v489
  let c1_i32_217 : BitVec 32 := 1#32
  let arg14 : BitVec 32 := Scf.iv v490 c1_i32_217 k0_t23
  let c256_i32_315 : BitVec 32 := 256#32
  let v728 : BitVec 32 := Scalar.muli arg14 c256_i32_315
  let v729 : BitVec 32 := v728
  let v730 : Index := Scalar.indexCast v729
  let c0_317 : Index := 0#32
  ![3, v730.toNat, 0]
def k0_off75 (k0_t1 : Fin k0_t1_loop.trips) (k0_t23 : Fin (k0_t23_loop k0_t1).trips) : Fin 2 → Nat :=
  let c0_i32_214 : BitVec 32 := 0#32
  let c0_i32 : BitVec 32 := 0#32
  let c1_i32 : BitVec 32 := 1#32
  let arg13 : BitVec 32 := Scf.iv c0_i32 c1_i32 k0_t1
  let v486 : BitVec 32 := Scalar.subi arg13 c0_i32_214
  let c1_i32_215 : BitVec 32 := 1#32
  let v488 : BitVec 32 := Scalar.divsi v486 c1_i32_215
  let v489 : BitVec 32 := Scalar.muli v488 c1_i32_215
  let v490 : BitVec 32 := Scalar.addi c0_i32_214 v489
  let c1_i32_217 : BitVec 32 := 1#32
  let arg14 : BitVec 32 := Scf.iv v490 c1_i32_217 k0_t23
  let c256_i32_315 : BitVec 32 := 256#32
  let v728 : BitVec 32 := Scalar.muli arg14 c256_i32_315
  let v729 : BitVec 32 := v728
  let v749 : Index := Scalar.indexCast v729
  let c0_321 : Index := 0#32
  ![v749.toNat, 0]
def k0_off76 (k0_t1 : Fin k0_t1_loop.trips) (k0_t23 : Fin (k0_t23_loop k0_t1).trips) : Fin 3 → Nat :=
  let c0_i32_214 : BitVec 32 := 0#32
  let c0_i32 : BitVec 32 := 0#32
  let c1_i32 : BitVec 32 := 1#32
  let arg13 : BitVec 32 := Scf.iv c0_i32 c1_i32 k0_t1
  let v486 : BitVec 32 := Scalar.subi arg13 c0_i32_214
  let c1_i32_215 : BitVec 32 := 1#32
  let v488 : BitVec 32 := Scalar.divsi v486 c1_i32_215
  let v489 : BitVec 32 := Scalar.muli v488 c1_i32_215
  let v490 : BitVec 32 := Scalar.addi c0_i32_214 v489
  let c1_i32_217 : BitVec 32 := 1#32
  let arg14 : BitVec 32 := Scf.iv v490 c1_i32_217 k0_t23
  let v753 : Index := Scalar.indexCast arg14
  let c0_322 : Index := 0#32
  let c0_323 : Index := 0#32
  ![v753.toNat, 0, 0]
def k0_mult35 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_218 : BitVec 32 := 256#32
  let v493 : BitVec 32 := Scalar.muli arg13 c256_i32_218
  v493
def k0_off77 (k0_t1 : Fin k0_t1_loop.trips) : Fin 3 → Nat :=
  let c3_219 : Index := 3#32
  let c0_i32 : BitVec 32 := 0#32
  let c1_i32 : BitVec 32 := 1#32
  let arg13 : BitVec 32 := Scf.iv c0_i32 c1_i32 k0_t1
  let c256_i32_218 : BitVec 32 := 256#32
  let v493 : BitVec 32 := Scalar.muli arg13 c256_i32_218
  let v494 : BitVec 32 := v493
  let v495 : Index := Scalar.indexCast v494
  let c0_220 : Index := 0#32
  ![3, v495.toNat, 0]
@[reducible] def k0_t24_loop (k0_t1 : Fin k0_t1_loop.trips) : Scf.Loop 32 :=
  let c0_i32_233 : BitVec 32 := 0#32
  let c0_i32 : BitVec 32 := 0#32
  let c1_i32 : BitVec 32 := 1#32
  let arg13 : BitVec 32 := Scf.iv c0_i32 c1_i32 k0_t1
  let c1_i32_231 : BitVec 32 := 1#32
  let v534 : BitVec 32 := Scalar.addi arg13 c1_i32_231
  let v536 : BitVec 32 := Scalar.subi v534 c0_i32_233
  let c1_i32_234 : BitVec 32 := 1#32
  let v538 : BitVec 32 := Scalar.divsi v536 c1_i32_234
  let v539 : BitVec 32 := Scalar.muli v538 c1_i32_234
  let v540 : BitVec 32 := Scalar.addi c0_i32_233 v539
  let c1_i32_235 : BitVec 32 := 1#32
  ⟨c0_i32_233, v540, c1_i32_235⟩
def k0_mult36 (k0_t1 : Fin k0_t1_loop.trips) (k0_t24 : Fin (k0_t24_loop k0_t1).trips) : BitVec 32 :=
  let c0_i32_233 : BitVec 32 := 0#32
  let c1_i32_235 : BitVec 32 := 1#32
  let arg14 : BitVec 32 := Scf.iv c0_i32_233 c1_i32_235 k0_t24
  let c256_i32_315 : BitVec 32 := 256#32
  let v728 : BitVec 32 := Scalar.muli arg14 c256_i32_315
  v728
def k0_off78 (k0_t1 : Fin k0_t1_loop.trips) (k0_t24 : Fin (k0_t24_loop k0_t1).trips) : Fin 3 → Nat :=
  let c0_i32_233 : BitVec 32 := 0#32
  let c1_i32_235 : BitVec 32 := 1#32
  let arg14 : BitVec 32 := Scf.iv c0_i32_233 c1_i32_235 k0_t24
  let v730 : Index := Scalar.indexCast arg14
  let c0_316 : Index := 0#32
  let c0_317 : Index := 0#32
  ![v730.toNat, 0, 0]
def k0_off79 (k0_t1 : Fin k0_t1_loop.trips) (k0_t24 : Fin (k0_t24_loop k0_t1).trips) : Fin 2 → Nat :=
  let c0_i32_233 : BitVec 32 := 0#32
  let c1_i32_235 : BitVec 32 := 1#32
  let arg14 : BitVec 32 := Scf.iv c0_i32_233 c1_i32_235 k0_t24
  let c256_i32_315 : BitVec 32 := 256#32
  let v728 : BitVec 32 := Scalar.muli arg14 c256_i32_315
  let v729 : BitVec 32 := v728
  let v738 : Index := Scalar.indexCast v729
  let c0_318 : Index := 0#32
  ![v738.toNat, 0]
def k0_off80 (k0_t1 : Fin k0_t1_loop.trips) (k0_t24 : Fin (k0_t24_loop k0_t1).trips) : Fin 2 → Nat :=
  let c64 : Index := 64#32
  let c0_i32_233 : BitVec 32 := 0#32
  let c1_i32_235 : BitVec 32 := 1#32
  let arg14 : BitVec 32 := Scf.iv c0_i32_233 c1_i32_235 k0_t24
  let c256_i32_315 : BitVec 32 := 256#32
  let v728 : BitVec 32 := Scalar.muli arg14 c256_i32_315
  let v729 : BitVec 32 := v728
  let v750 : Index := Scalar.indexCast v729
  ![64, v750.toNat]
@[reducible] def k0_t25_loop (k0_t1 : Fin k0_t1_loop.trips) : Scf.Loop 32 :=
  let c0_i32_233 : BitVec 32 := 0#32
  let c0_i32 : BitVec 32 := 0#32
  let c1_i32 : BitVec 32 := 1#32
  let arg13 : BitVec 32 := Scf.iv c0_i32 c1_i32 k0_t1
  let c1_i32_231 : BitVec 32 := 1#32
  let v534 : BitVec 32 := Scalar.addi arg13 c1_i32_231
  let v536 : BitVec 32 := Scalar.subi v534 c0_i32_233
  let c1_i32_234 : BitVec 32 := 1#32
  let v538 : BitVec 32 := Scalar.divsi v536 c1_i32_234
  let v539 : BitVec 32 := Scalar.muli v538 c1_i32_234
  let v540 : BitVec 32 := Scalar.addi c0_i32_233 v539
  let v537 : BitVec 32 := Scalar.addi c0_i32_233 v536
  let c1_i32_236 : BitVec 32 := 1#32
  ⟨v540, v537, c1_i32_236⟩
def k0_mult37 (k0_t1 : Fin k0_t1_loop.trips) (k0_t25 : Fin (k0_t25_loop k0_t1).trips) : BitVec 32 :=
  let c0_i32_233 : BitVec 32 := 0#32
  let c0_i32 : BitVec 32 := 0#32
  let c1_i32 : BitVec 32 := 1#32
  let arg13 : BitVec 32 := Scf.iv c0_i32 c1_i32 k0_t1
  let c1_i32_231 : BitVec 32 := 1#32
  let v534 : BitVec 32 := Scalar.addi arg13 c1_i32_231
  let v536 : BitVec 32 := Scalar.subi v534 c0_i32_233
  let c1_i32_234 : BitVec 32 := 1#32
  let v538 : BitVec 32 := Scalar.divsi v536 c1_i32_234
  let v539 : BitVec 32 := Scalar.muli v538 c1_i32_234
  let v540 : BitVec 32 := Scalar.addi c0_i32_233 v539
  let c1_i32_236 : BitVec 32 := 1#32
  let arg14 : BitVec 32 := Scf.iv v540 c1_i32_236 k0_t25
  let c256_i32_315 : BitVec 32 := 256#32
  let v728 : BitVec 32 := Scalar.muli arg14 c256_i32_315
  v728
def k0_off81 (k0_t1 : Fin k0_t1_loop.trips) (k0_t25 : Fin (k0_t25_loop k0_t1).trips) : Fin 3 → Nat :=
  let c0_i32_233 : BitVec 32 := 0#32
  let c0_i32 : BitVec 32 := 0#32
  let c1_i32 : BitVec 32 := 1#32
  let arg13 : BitVec 32 := Scf.iv c0_i32 c1_i32 k0_t1
  let c1_i32_231 : BitVec 32 := 1#32
  let v534 : BitVec 32 := Scalar.addi arg13 c1_i32_231
  let v536 : BitVec 32 := Scalar.subi v534 c0_i32_233
  let c1_i32_234 : BitVec 32 := 1#32
  let v538 : BitVec 32 := Scalar.divsi v536 c1_i32_234
  let v539 : BitVec 32 := Scalar.muli v538 c1_i32_234
  let v540 : BitVec 32 := Scalar.addi c0_i32_233 v539
  let c1_i32_236 : BitVec 32 := 1#32
  let arg14 : BitVec 32 := Scf.iv v540 c1_i32_236 k0_t25
  let v730 : Index := Scalar.indexCast arg14
  let c0_316 : Index := 0#32
  let c0_317 : Index := 0#32
  ![v730.toNat, 0, 0]
def k0_off82 (k0_t1 : Fin k0_t1_loop.trips) (k0_t25 : Fin (k0_t25_loop k0_t1).trips) : Fin 2 → Nat :=
  let c0_i32_233 : BitVec 32 := 0#32
  let c0_i32 : BitVec 32 := 0#32
  let c1_i32 : BitVec 32 := 1#32
  let arg13 : BitVec 32 := Scf.iv c0_i32 c1_i32 k0_t1
  let c1_i32_231 : BitVec 32 := 1#32
  let v534 : BitVec 32 := Scalar.addi arg13 c1_i32_231
  let v536 : BitVec 32 := Scalar.subi v534 c0_i32_233
  let c1_i32_234 : BitVec 32 := 1#32
  let v538 : BitVec 32 := Scalar.divsi v536 c1_i32_234
  let v539 : BitVec 32 := Scalar.muli v538 c1_i32_234
  let v540 : BitVec 32 := Scalar.addi c0_i32_233 v539
  let c1_i32_236 : BitVec 32 := 1#32
  let arg14 : BitVec 32 := Scf.iv v540 c1_i32_236 k0_t25
  let c256_i32_315 : BitVec 32 := 256#32
  let v728 : BitVec 32 := Scalar.muli arg14 c256_i32_315
  let v729 : BitVec 32 := v728
  let v738 : Index := Scalar.indexCast v729
  let c0_318 : Index := 0#32
  ![v738.toNat, 0]
def k0_off83 (k0_t1 : Fin k0_t1_loop.trips) (k0_t25 : Fin (k0_t25_loop k0_t1).trips) : Fin 2 → Nat :=
  let c64 : Index := 64#32
  let c0_i32_233 : BitVec 32 := 0#32
  let c0_i32 : BitVec 32 := 0#32
  let c1_i32 : BitVec 32 := 1#32
  let arg13 : BitVec 32 := Scf.iv c0_i32 c1_i32 k0_t1
  let c1_i32_231 : BitVec 32 := 1#32
  let v534 : BitVec 32 := Scalar.addi arg13 c1_i32_231
  let v536 : BitVec 32 := Scalar.subi v534 c0_i32_233
  let c1_i32_234 : BitVec 32 := 1#32
  let v538 : BitVec 32 := Scalar.divsi v536 c1_i32_234
  let v539 : BitVec 32 := Scalar.muli v538 c1_i32_234
  let v540 : BitVec 32 := Scalar.addi c0_i32_233 v539
  let c1_i32_236 : BitVec 32 := 1#32
  let arg14 : BitVec 32 := Scf.iv v540 c1_i32_236 k0_t25
  let c256_i32_315 : BitVec 32 := 256#32
  let v728 : BitVec 32 := Scalar.muli arg14 c256_i32_315
  let v729 : BitVec 32 := v728
  let v750 : Index := Scalar.indexCast v729
  ![64, v750.toNat]
def k0_mult38 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_242 : BitVec 32 := 256#32
  let v557 : BitVec 32 := Scalar.muli arg13 c256_i32_242
  v557
def k0_off84 (k0_t1 : Fin k0_t1_loop.trips) : Fin 3 → Nat :=
  let c0_243 : Index := 0#32
  let c0_i32 : BitVec 32 := 0#32
  let c1_i32 : BitVec 32 := 1#32
  let arg13 : BitVec 32 := Scf.iv c0_i32 c1_i32 k0_t1
  let c256_i32_242 : BitVec 32 := 256#32
  let v557 : BitVec 32 := Scalar.muli arg13 c256_i32_242
  let v558 : BitVec 32 := v557
  let v559 : Index := Scalar.indexCast v558
  let c384 : Index := 384#32
  ![0, v559.toNat, 384]
@[reducible] def k0_t26_loop (k0_t1 : Fin k0_t1_loop.trips) : Scf.Loop 32 :=
  let c0_i32_251 : BitVec 32 := 0#32
  let c0_i32 : BitVec 32 := 0#32
  let c1_i32 : BitVec 32 := 1#32
  let arg13 : BitVec 32 := Scf.iv c0_i32 c1_i32 k0_t1
  let v575 : BitVec 32 := Scalar.subi arg13 c0_i32_251
  let c1_i32_252 : BitVec 32 := 1#32
  let v577 : BitVec 32 := Scalar.divsi v575 c1_i32_252
  let v578 : BitVec 32 := Scalar.muli v577 c1_i32_252
  let v579 : BitVec 32 := Scalar.addi c0_i32_251 v578
  let c1_i32_253 : BitVec 32 := 1#32
  ⟨c0_i32_251, v579, c1_i32_253⟩
def k0_mult39 (k0_t1 : Fin k0_t1_loop.trips) (k0_t26 : Fin (k0_t26_loop k0_t1).trips) : BitVec 32 :=
  let c0_i32_251 : BitVec 32 := 0#32
  let c1_i32_253 : BitVec 32 := 1#32
  let arg14 : BitVec 32 := Scf.iv c0_i32_251 c1_i32_253 k0_t26
  let c256_i32_315 : BitVec 32 := 256#32
  let v728 : BitVec 32 := Scalar.muli arg14 c256_i32_315
  v728
def k0_off85 (k0_t1 : Fin k0_t1_loop.trips) (k0_t26 : Fin (k0_t26_loop k0_t1).trips) : Fin 3 → Nat :=
  let c2_316 : Index := 2#32
  let c0_i32_251 : BitVec 32 := 0#32
  let c1_i32_253 : BitVec 32 := 1#32
  let arg14 : BitVec 32 := Scf.iv c0_i32_251 c1_i32_253 k0_t26
  let c256_i32_315 : BitVec 32 := 256#32
  let v728 : BitVec 32 := Scalar.muli arg14 c256_i32_315
  let v729 : BitVec 32 := v728
  let v730 : Index := Scalar.indexCast v729
  let c0_317 : Index := 0#32
  ![2, v730.toNat, 0]
def k0_off86 (k0_t1 : Fin k0_t1_loop.trips) (k0_t26 : Fin (k0_t26_loop k0_t1).trips) : Fin 2 → Nat :=
  let c0_i32_251 : BitVec 32 := 0#32
  let c1_i32_253 : BitVec 32 := 1#32
  let arg14 : BitVec 32 := Scf.iv c0_i32_251 c1_i32_253 k0_t26
  let c256_i32_315 : BitVec 32 := 256#32
  let v728 : BitVec 32 := Scalar.muli arg14 c256_i32_315
  let v729 : BitVec 32 := v728
  let v749 : Index := Scalar.indexCast v729
  let c0_321 : Index := 0#32
  ![v749.toNat, 0]
def k0_off87 (k0_t1 : Fin k0_t1_loop.trips) (k0_t26 : Fin (k0_t26_loop k0_t1).trips) : Fin 3 → Nat :=
  let c0_i32_251 : BitVec 32 := 0#32
  let c1_i32_253 : BitVec 32 := 1#32
  let arg14 : BitVec 32 := Scf.iv c0_i32_251 c1_i32_253 k0_t26
  let v753 : Index := Scalar.indexCast arg14
  let c0_322 : Index := 0#32
  let c0_323 : Index := 0#32
  ![v753.toNat, 0, 0]
@[reducible] def k0_t27_loop (k0_t1 : Fin k0_t1_loop.trips) : Scf.Loop 32 :=
  let c0_i32_251 : BitVec 32 := 0#32
  let c0_i32 : BitVec 32 := 0#32
  let c1_i32 : BitVec 32 := 1#32
  let arg13 : BitVec 32 := Scf.iv c0_i32 c1_i32 k0_t1
  let v575 : BitVec 32 := Scalar.subi arg13 c0_i32_251
  let c1_i32_252 : BitVec 32 := 1#32
  let v577 : BitVec 32 := Scalar.divsi v575 c1_i32_252
  let v578 : BitVec 32 := Scalar.muli v577 c1_i32_252
  let v579 : BitVec 32 := Scalar.addi c0_i32_251 v578
  let v576 : BitVec 32 := Scalar.addi c0_i32_251 v575
  let c1_i32_254 : BitVec 32 := 1#32
  ⟨v579, v576, c1_i32_254⟩
def k0_mult40 (k0_t1 : Fin k0_t1_loop.trips) (k0_t27 : Fin (k0_t27_loop k0_t1).trips) : BitVec 32 :=
  let c0_i32_251 : BitVec 32 := 0#32
  let c0_i32 : BitVec 32 := 0#32
  let c1_i32 : BitVec 32 := 1#32
  let arg13 : BitVec 32 := Scf.iv c0_i32 c1_i32 k0_t1
  let v575 : BitVec 32 := Scalar.subi arg13 c0_i32_251
  let c1_i32_252 : BitVec 32 := 1#32
  let v577 : BitVec 32 := Scalar.divsi v575 c1_i32_252
  let v578 : BitVec 32 := Scalar.muli v577 c1_i32_252
  let v579 : BitVec 32 := Scalar.addi c0_i32_251 v578
  let c1_i32_254 : BitVec 32 := 1#32
  let arg14 : BitVec 32 := Scf.iv v579 c1_i32_254 k0_t27
  let c256_i32_315 : BitVec 32 := 256#32
  let v728 : BitVec 32 := Scalar.muli arg14 c256_i32_315
  v728
def k0_off88 (k0_t1 : Fin k0_t1_loop.trips) (k0_t27 : Fin (k0_t27_loop k0_t1).trips) : Fin 3 → Nat :=
  let c2_316 : Index := 2#32
  let c0_i32_251 : BitVec 32 := 0#32
  let c0_i32 : BitVec 32 := 0#32
  let c1_i32 : BitVec 32 := 1#32
  let arg13 : BitVec 32 := Scf.iv c0_i32 c1_i32 k0_t1
  let v575 : BitVec 32 := Scalar.subi arg13 c0_i32_251
  let c1_i32_252 : BitVec 32 := 1#32
  let v577 : BitVec 32 := Scalar.divsi v575 c1_i32_252
  let v578 : BitVec 32 := Scalar.muli v577 c1_i32_252
  let v579 : BitVec 32 := Scalar.addi c0_i32_251 v578
  let c1_i32_254 : BitVec 32 := 1#32
  let arg14 : BitVec 32 := Scf.iv v579 c1_i32_254 k0_t27
  let c256_i32_315 : BitVec 32 := 256#32
  let v728 : BitVec 32 := Scalar.muli arg14 c256_i32_315
  let v729 : BitVec 32 := v728
  let v730 : Index := Scalar.indexCast v729
  let c0_317 : Index := 0#32
  ![2, v730.toNat, 0]
def k0_off89 (k0_t1 : Fin k0_t1_loop.trips) (k0_t27 : Fin (k0_t27_loop k0_t1).trips) : Fin 2 → Nat :=
  let c0_i32_251 : BitVec 32 := 0#32
  let c0_i32 : BitVec 32 := 0#32
  let c1_i32 : BitVec 32 := 1#32
  let arg13 : BitVec 32 := Scf.iv c0_i32 c1_i32 k0_t1
  let v575 : BitVec 32 := Scalar.subi arg13 c0_i32_251
  let c1_i32_252 : BitVec 32 := 1#32
  let v577 : BitVec 32 := Scalar.divsi v575 c1_i32_252
  let v578 : BitVec 32 := Scalar.muli v577 c1_i32_252
  let v579 : BitVec 32 := Scalar.addi c0_i32_251 v578
  let c1_i32_254 : BitVec 32 := 1#32
  let arg14 : BitVec 32 := Scf.iv v579 c1_i32_254 k0_t27
  let c256_i32_315 : BitVec 32 := 256#32
  let v728 : BitVec 32 := Scalar.muli arg14 c256_i32_315
  let v729 : BitVec 32 := v728
  let v749 : Index := Scalar.indexCast v729
  let c0_321 : Index := 0#32
  ![v749.toNat, 0]
def k0_off90 (k0_t1 : Fin k0_t1_loop.trips) (k0_t27 : Fin (k0_t27_loop k0_t1).trips) : Fin 3 → Nat :=
  let c0_i32_251 : BitVec 32 := 0#32
  let c0_i32 : BitVec 32 := 0#32
  let c1_i32 : BitVec 32 := 1#32
  let arg13 : BitVec 32 := Scf.iv c0_i32 c1_i32 k0_t1
  let v575 : BitVec 32 := Scalar.subi arg13 c0_i32_251
  let c1_i32_252 : BitVec 32 := 1#32
  let v577 : BitVec 32 := Scalar.divsi v575 c1_i32_252
  let v578 : BitVec 32 := Scalar.muli v577 c1_i32_252
  let v579 : BitVec 32 := Scalar.addi c0_i32_251 v578
  let c1_i32_254 : BitVec 32 := 1#32
  let arg14 : BitVec 32 := Scf.iv v579 c1_i32_254 k0_t27
  let v753 : Index := Scalar.indexCast arg14
  let c0_322 : Index := 0#32
  let c0_323 : Index := 0#32
  ![v753.toNat, 0, 0]
def k0_mult41 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_255 : BitVec 32 := 256#32
  let v582 : BitVec 32 := Scalar.muli arg13 c256_i32_255
  v582
@[reducible] def k0_t28_loop (k0_t1 : Fin k0_t1_loop.trips) : Scf.Loop 32 :=
  let c0_i32_270 : BitVec 32 := 0#32
  let c0_i32 : BitVec 32 := 0#32
  let c1_i32 : BitVec 32 := 1#32
  let arg13 : BitVec 32 := Scf.iv c0_i32 c1_i32 k0_t1
  let c1_i32_268 : BitVec 32 := 1#32
  let v623 : BitVec 32 := Scalar.addi arg13 c1_i32_268
  let v625 : BitVec 32 := Scalar.subi v623 c0_i32_270
  let c1_i32_271 : BitVec 32 := 1#32
  let v627 : BitVec 32 := Scalar.divsi v625 c1_i32_271
  let v628 : BitVec 32 := Scalar.muli v627 c1_i32_271
  let v629 : BitVec 32 := Scalar.addi c0_i32_270 v628
  let c1_i32_272 : BitVec 32 := 1#32
  ⟨c0_i32_270, v629, c1_i32_272⟩
def k0_mult42 (k0_t1 : Fin k0_t1_loop.trips) (k0_t28 : Fin (k0_t28_loop k0_t1).trips) : BitVec 32 :=
  let c0_i32_270 : BitVec 32 := 0#32
  let c1_i32_272 : BitVec 32 := 1#32
  let arg14 : BitVec 32 := Scf.iv c0_i32_270 c1_i32_272 k0_t28
  let c256_i32_315 : BitVec 32 := 256#32
  let v728 : BitVec 32 := Scalar.muli arg14 c256_i32_315
  v728
def k0_off91 (k0_t1 : Fin k0_t1_loop.trips) (k0_t28 : Fin (k0_t28_loop k0_t1).trips) : Fin 3 → Nat :=
  let c0_i32_270 : BitVec 32 := 0#32
  let c1_i32_272 : BitVec 32 := 1#32
  let arg14 : BitVec 32 := Scf.iv c0_i32_270 c1_i32_272 k0_t28
  let v730 : Index := Scalar.indexCast arg14
  let c0_316 : Index := 0#32
  let c0_317 : Index := 0#32
  ![v730.toNat, 0, 0]
def k0_off92 (k0_t1 : Fin k0_t1_loop.trips) (k0_t28 : Fin (k0_t28_loop k0_t1).trips) : Fin 2 → Nat :=
  let c0_i32_270 : BitVec 32 := 0#32
  let c1_i32_272 : BitVec 32 := 1#32
  let arg14 : BitVec 32 := Scf.iv c0_i32_270 c1_i32_272 k0_t28
  let c256_i32_315 : BitVec 32 := 256#32
  let v728 : BitVec 32 := Scalar.muli arg14 c256_i32_315
  let v729 : BitVec 32 := v728
  let v738 : Index := Scalar.indexCast v729
  let c0_318 : Index := 0#32
  ![v738.toNat, 0]
def k0_off93 (k0_t1 : Fin k0_t1_loop.trips) (k0_t28 : Fin (k0_t28_loop k0_t1).trips) : Fin 2 → Nat :=
  let c64 : Index := 64#32
  let c0_i32_270 : BitVec 32 := 0#32
  let c1_i32_272 : BitVec 32 := 1#32
  let arg14 : BitVec 32 := Scf.iv c0_i32_270 c1_i32_272 k0_t28
  let c256_i32_315 : BitVec 32 := 256#32
  let v728 : BitVec 32 := Scalar.muli arg14 c256_i32_315
  let v729 : BitVec 32 := v728
  let v750 : Index := Scalar.indexCast v729
  ![64, v750.toNat]
@[reducible] def k0_t29_loop (k0_t1 : Fin k0_t1_loop.trips) : Scf.Loop 32 :=
  let c0_i32_270 : BitVec 32 := 0#32
  let c0_i32 : BitVec 32 := 0#32
  let c1_i32 : BitVec 32 := 1#32
  let arg13 : BitVec 32 := Scf.iv c0_i32 c1_i32 k0_t1
  let c1_i32_268 : BitVec 32 := 1#32
  let v623 : BitVec 32 := Scalar.addi arg13 c1_i32_268
  let v625 : BitVec 32 := Scalar.subi v623 c0_i32_270
  let c1_i32_271 : BitVec 32 := 1#32
  let v627 : BitVec 32 := Scalar.divsi v625 c1_i32_271
  let v628 : BitVec 32 := Scalar.muli v627 c1_i32_271
  let v629 : BitVec 32 := Scalar.addi c0_i32_270 v628
  let v626 : BitVec 32 := Scalar.addi c0_i32_270 v625
  let c1_i32_273 : BitVec 32 := 1#32
  ⟨v629, v626, c1_i32_273⟩
def k0_mult43 (k0_t1 : Fin k0_t1_loop.trips) (k0_t29 : Fin (k0_t29_loop k0_t1).trips) : BitVec 32 :=
  let c0_i32_270 : BitVec 32 := 0#32
  let c0_i32 : BitVec 32 := 0#32
  let c1_i32 : BitVec 32 := 1#32
  let arg13 : BitVec 32 := Scf.iv c0_i32 c1_i32 k0_t1
  let c1_i32_268 : BitVec 32 := 1#32
  let v623 : BitVec 32 := Scalar.addi arg13 c1_i32_268
  let v625 : BitVec 32 := Scalar.subi v623 c0_i32_270
  let c1_i32_271 : BitVec 32 := 1#32
  let v627 : BitVec 32 := Scalar.divsi v625 c1_i32_271
  let v628 : BitVec 32 := Scalar.muli v627 c1_i32_271
  let v629 : BitVec 32 := Scalar.addi c0_i32_270 v628
  let c1_i32_273 : BitVec 32 := 1#32
  let arg14 : BitVec 32 := Scf.iv v629 c1_i32_273 k0_t29
  let c256_i32_315 : BitVec 32 := 256#32
  let v728 : BitVec 32 := Scalar.muli arg14 c256_i32_315
  v728
def k0_off94 (k0_t1 : Fin k0_t1_loop.trips) (k0_t29 : Fin (k0_t29_loop k0_t1).trips) : Fin 3 → Nat :=
  let c0_i32_270 : BitVec 32 := 0#32
  let c0_i32 : BitVec 32 := 0#32
  let c1_i32 : BitVec 32 := 1#32
  let arg13 : BitVec 32 := Scf.iv c0_i32 c1_i32 k0_t1
  let c1_i32_268 : BitVec 32 := 1#32
  let v623 : BitVec 32 := Scalar.addi arg13 c1_i32_268
  let v625 : BitVec 32 := Scalar.subi v623 c0_i32_270
  let c1_i32_271 : BitVec 32 := 1#32
  let v627 : BitVec 32 := Scalar.divsi v625 c1_i32_271
  let v628 : BitVec 32 := Scalar.muli v627 c1_i32_271
  let v629 : BitVec 32 := Scalar.addi c0_i32_270 v628
  let c1_i32_273 : BitVec 32 := 1#32
  let arg14 : BitVec 32 := Scf.iv v629 c1_i32_273 k0_t29
  let v730 : Index := Scalar.indexCast arg14
  let c0_316 : Index := 0#32
  let c0_317 : Index := 0#32
  ![v730.toNat, 0, 0]
def k0_off95 (k0_t1 : Fin k0_t1_loop.trips) (k0_t29 : Fin (k0_t29_loop k0_t1).trips) : Fin 2 → Nat :=
  let c0_i32_270 : BitVec 32 := 0#32
  let c0_i32 : BitVec 32 := 0#32
  let c1_i32 : BitVec 32 := 1#32
  let arg13 : BitVec 32 := Scf.iv c0_i32 c1_i32 k0_t1
  let c1_i32_268 : BitVec 32 := 1#32
  let v623 : BitVec 32 := Scalar.addi arg13 c1_i32_268
  let v625 : BitVec 32 := Scalar.subi v623 c0_i32_270
  let c1_i32_271 : BitVec 32 := 1#32
  let v627 : BitVec 32 := Scalar.divsi v625 c1_i32_271
  let v628 : BitVec 32 := Scalar.muli v627 c1_i32_271
  let v629 : BitVec 32 := Scalar.addi c0_i32_270 v628
  let c1_i32_273 : BitVec 32 := 1#32
  let arg14 : BitVec 32 := Scf.iv v629 c1_i32_273 k0_t29
  let c256_i32_315 : BitVec 32 := 256#32
  let v728 : BitVec 32 := Scalar.muli arg14 c256_i32_315
  let v729 : BitVec 32 := v728
  let v738 : Index := Scalar.indexCast v729
  let c0_318 : Index := 0#32
  ![v738.toNat, 0]
def k0_off96 (k0_t1 : Fin k0_t1_loop.trips) (k0_t29 : Fin (k0_t29_loop k0_t1).trips) : Fin 2 → Nat :=
  let c64 : Index := 64#32
  let c0_i32_270 : BitVec 32 := 0#32
  let c0_i32 : BitVec 32 := 0#32
  let c1_i32 : BitVec 32 := 1#32
  let arg13 : BitVec 32 := Scf.iv c0_i32 c1_i32 k0_t1
  let c1_i32_268 : BitVec 32 := 1#32
  let v623 : BitVec 32 := Scalar.addi arg13 c1_i32_268
  let v625 : BitVec 32 := Scalar.subi v623 c0_i32_270
  let c1_i32_271 : BitVec 32 := 1#32
  let v627 : BitVec 32 := Scalar.divsi v625 c1_i32_271
  let v628 : BitVec 32 := Scalar.muli v627 c1_i32_271
  let v629 : BitVec 32 := Scalar.addi c0_i32_270 v628
  let c1_i32_273 : BitVec 32 := 1#32
  let arg14 : BitVec 32 := Scf.iv v629 c1_i32_273 k0_t29
  let c256_i32_315 : BitVec 32 := 256#32
  let v728 : BitVec 32 := Scalar.muli arg14 c256_i32_315
  let v729 : BitVec 32 := v728
  let v750 : Index := Scalar.indexCast v729
  ![64, v750.toNat]
def k0_mult44 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_277 : BitVec 32 := 256#32
  let v639 : BitVec 32 := Scalar.muli arg13 c256_i32_277
  v639
@[reducible] def k0_t30_loop (k0_t1 : Fin k0_t1_loop.trips) : Scf.Loop 32 :=
  let c0_i32_287 : BitVec 32 := 0#32
  let c0_i32 : BitVec 32 := 0#32
  let c1_i32 : BitVec 32 := 1#32
  let arg13 : BitVec 32 := Scf.iv c0_i32 c1_i32 k0_t1
  let v657 : BitVec 32 := Scalar.subi arg13 c0_i32_287
  let c1_i32_288 : BitVec 32 := 1#32
  let v659 : BitVec 32 := Scalar.divsi v657 c1_i32_288
  let v660 : BitVec 32 := Scalar.muli v659 c1_i32_288
  let v661 : BitVec 32 := Scalar.addi c0_i32_287 v660
  let c1_i32_289 : BitVec 32 := 1#32
  ⟨c0_i32_287, v661, c1_i32_289⟩
def k0_mult45 (k0_t1 : Fin k0_t1_loop.trips) (k0_t30 : Fin (k0_t30_loop k0_t1).trips) : BitVec 32 :=
  let c0_i32_287 : BitVec 32 := 0#32
  let c1_i32_289 : BitVec 32 := 1#32
  let arg14 : BitVec 32 := Scf.iv c0_i32_287 c1_i32_289 k0_t30
  let c256_i32_315 : BitVec 32 := 256#32
  let v728 : BitVec 32 := Scalar.muli arg14 c256_i32_315
  v728
def k0_off97 (k0_t1 : Fin k0_t1_loop.trips) (k0_t30 : Fin (k0_t30_loop k0_t1).trips) : Fin 3 → Nat :=
  let c3_316 : Index := 3#32
  let c0_i32_287 : BitVec 32 := 0#32
  let c1_i32_289 : BitVec 32 := 1#32
  let arg14 : BitVec 32 := Scf.iv c0_i32_287 c1_i32_289 k0_t30
  let c256_i32_315 : BitVec 32 := 256#32
  let v728 : BitVec 32 := Scalar.muli arg14 c256_i32_315
  let v729 : BitVec 32 := v728
  let v730 : Index := Scalar.indexCast v729
  let c0_317 : Index := 0#32
  ![3, v730.toNat, 0]
def k0_off98 (k0_t1 : Fin k0_t1_loop.trips) (k0_t30 : Fin (k0_t30_loop k0_t1).trips) : Fin 2 → Nat :=
  let c0_i32_287 : BitVec 32 := 0#32
  let c1_i32_289 : BitVec 32 := 1#32
  let arg14 : BitVec 32 := Scf.iv c0_i32_287 c1_i32_289 k0_t30
  let c256_i32_315 : BitVec 32 := 256#32
  let v728 : BitVec 32 := Scalar.muli arg14 c256_i32_315
  let v729 : BitVec 32 := v728
  let v749 : Index := Scalar.indexCast v729
  let c0_321 : Index := 0#32
  ![v749.toNat, 0]
def k0_off99 (k0_t1 : Fin k0_t1_loop.trips) (k0_t30 : Fin (k0_t30_loop k0_t1).trips) : Fin 3 → Nat :=
  let c0_i32_287 : BitVec 32 := 0#32
  let c1_i32_289 : BitVec 32 := 1#32
  let arg14 : BitVec 32 := Scf.iv c0_i32_287 c1_i32_289 k0_t30
  let v753 : Index := Scalar.indexCast arg14
  let c0_322 : Index := 0#32
  let c0_323 : Index := 0#32
  ![v753.toNat, 0, 0]
@[reducible] def k0_t31_loop (k0_t1 : Fin k0_t1_loop.trips) : Scf.Loop 32 :=
  let c0_i32_287 : BitVec 32 := 0#32
  let c0_i32 : BitVec 32 := 0#32
  let c1_i32 : BitVec 32 := 1#32
  let arg13 : BitVec 32 := Scf.iv c0_i32 c1_i32 k0_t1
  let v657 : BitVec 32 := Scalar.subi arg13 c0_i32_287
  let c1_i32_288 : BitVec 32 := 1#32
  let v659 : BitVec 32 := Scalar.divsi v657 c1_i32_288
  let v660 : BitVec 32 := Scalar.muli v659 c1_i32_288
  let v661 : BitVec 32 := Scalar.addi c0_i32_287 v660
  let v658 : BitVec 32 := Scalar.addi c0_i32_287 v657
  let c1_i32_290 : BitVec 32 := 1#32
  ⟨v661, v658, c1_i32_290⟩
def k0_mult46 (k0_t1 : Fin k0_t1_loop.trips) (k0_t31 : Fin (k0_t31_loop k0_t1).trips) : BitVec 32 :=
  let c0_i32_287 : BitVec 32 := 0#32
  let c0_i32 : BitVec 32 := 0#32
  let c1_i32 : BitVec 32 := 1#32
  let arg13 : BitVec 32 := Scf.iv c0_i32 c1_i32 k0_t1
  let v657 : BitVec 32 := Scalar.subi arg13 c0_i32_287
  let c1_i32_288 : BitVec 32 := 1#32
  let v659 : BitVec 32 := Scalar.divsi v657 c1_i32_288
  let v660 : BitVec 32 := Scalar.muli v659 c1_i32_288
  let v661 : BitVec 32 := Scalar.addi c0_i32_287 v660
  let c1_i32_290 : BitVec 32 := 1#32
  let arg14 : BitVec 32 := Scf.iv v661 c1_i32_290 k0_t31
  let c256_i32_315 : BitVec 32 := 256#32
  let v728 : BitVec 32 := Scalar.muli arg14 c256_i32_315
  v728
def k0_off100 (k0_t1 : Fin k0_t1_loop.trips) (k0_t31 : Fin (k0_t31_loop k0_t1).trips) : Fin 3 → Nat :=
  let c3_316 : Index := 3#32
  let c0_i32_287 : BitVec 32 := 0#32
  let c0_i32 : BitVec 32 := 0#32
  let c1_i32 : BitVec 32 := 1#32
  let arg13 : BitVec 32 := Scf.iv c0_i32 c1_i32 k0_t1
  let v657 : BitVec 32 := Scalar.subi arg13 c0_i32_287
  let c1_i32_288 : BitVec 32 := 1#32
  let v659 : BitVec 32 := Scalar.divsi v657 c1_i32_288
  let v660 : BitVec 32 := Scalar.muli v659 c1_i32_288
  let v661 : BitVec 32 := Scalar.addi c0_i32_287 v660
  let c1_i32_290 : BitVec 32 := 1#32
  let arg14 : BitVec 32 := Scf.iv v661 c1_i32_290 k0_t31
  let c256_i32_315 : BitVec 32 := 256#32
  let v728 : BitVec 32 := Scalar.muli arg14 c256_i32_315
  let v729 : BitVec 32 := v728
  let v730 : Index := Scalar.indexCast v729
  let c0_317 : Index := 0#32
  ![3, v730.toNat, 0]
def k0_off101 (k0_t1 : Fin k0_t1_loop.trips) (k0_t31 : Fin (k0_t31_loop k0_t1).trips) : Fin 2 → Nat :=
  let c0_i32_287 : BitVec 32 := 0#32
  let c0_i32 : BitVec 32 := 0#32
  let c1_i32 : BitVec 32 := 1#32
  let arg13 : BitVec 32 := Scf.iv c0_i32 c1_i32 k0_t1
  let v657 : BitVec 32 := Scalar.subi arg13 c0_i32_287
  let c1_i32_288 : BitVec 32 := 1#32
  let v659 : BitVec 32 := Scalar.divsi v657 c1_i32_288
  let v660 : BitVec 32 := Scalar.muli v659 c1_i32_288
  let v661 : BitVec 32 := Scalar.addi c0_i32_287 v660
  let c1_i32_290 : BitVec 32 := 1#32
  let arg14 : BitVec 32 := Scf.iv v661 c1_i32_290 k0_t31
  let c256_i32_315 : BitVec 32 := 256#32
  let v728 : BitVec 32 := Scalar.muli arg14 c256_i32_315
  let v729 : BitVec 32 := v728
  let v749 : Index := Scalar.indexCast v729
  let c0_321 : Index := 0#32
  ![v749.toNat, 0]
def k0_off102 (k0_t1 : Fin k0_t1_loop.trips) (k0_t31 : Fin (k0_t31_loop k0_t1).trips) : Fin 3 → Nat :=
  let c0_i32_287 : BitVec 32 := 0#32
  let c0_i32 : BitVec 32 := 0#32
  let c1_i32 : BitVec 32 := 1#32
  let arg13 : BitVec 32 := Scf.iv c0_i32 c1_i32 k0_t1
  let v657 : BitVec 32 := Scalar.subi arg13 c0_i32_287
  let c1_i32_288 : BitVec 32 := 1#32
  let v659 : BitVec 32 := Scalar.divsi v657 c1_i32_288
  let v660 : BitVec 32 := Scalar.muli v659 c1_i32_288
  let v661 : BitVec 32 := Scalar.addi c0_i32_287 v660
  let c1_i32_290 : BitVec 32 := 1#32
  let arg14 : BitVec 32 := Scf.iv v661 c1_i32_290 k0_t31
  let v753 : Index := Scalar.indexCast arg14
  let c0_322 : Index := 0#32
  let c0_323 : Index := 0#32
  ![v753.toNat, 0, 0]
def k0_mult47 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32_291 : BitVec 32 := 256#32
  let v664 : BitVec 32 := Scalar.muli arg13 c256_i32_291
  v664
@[reducible] def k0_t32_loop (k0_t1 : Fin k0_t1_loop.trips) : Scf.Loop 32 :=
  let c0_i32_306 : BitVec 32 := 0#32
  let c0_i32 : BitVec 32 := 0#32
  let c1_i32 : BitVec 32 := 1#32
  let arg13 : BitVec 32 := Scf.iv c0_i32 c1_i32 k0_t1
  let c1_i32_304 : BitVec 32 := 1#32
  let v705 : BitVec 32 := Scalar.addi arg13 c1_i32_304
  let v707 : BitVec 32 := Scalar.subi v705 c0_i32_306
  let c1_i32_307 : BitVec 32 := 1#32
  let v709 : BitVec 32 := Scalar.divsi v707 c1_i32_307
  let v710 : BitVec 32 := Scalar.muli v709 c1_i32_307
  let v711 : BitVec 32 := Scalar.addi c0_i32_306 v710
  let c1_i32_308 : BitVec 32 := 1#32
  ⟨c0_i32_306, v711, c1_i32_308⟩
def k0_mult48 (k0_t1 : Fin k0_t1_loop.trips) (k0_t32 : Fin (k0_t32_loop k0_t1).trips) : BitVec 32 :=
  let c0_i32_306 : BitVec 32 := 0#32
  let c1_i32_308 : BitVec 32 := 1#32
  let arg14 : BitVec 32 := Scf.iv c0_i32_306 c1_i32_308 k0_t32
  let c256_i32_315 : BitVec 32 := 256#32
  let v728 : BitVec 32 := Scalar.muli arg14 c256_i32_315
  v728
def k0_off103 (k0_t1 : Fin k0_t1_loop.trips) (k0_t32 : Fin (k0_t32_loop k0_t1).trips) : Fin 3 → Nat :=
  let c0_i32_306 : BitVec 32 := 0#32
  let c1_i32_308 : BitVec 32 := 1#32
  let arg14 : BitVec 32 := Scf.iv c0_i32_306 c1_i32_308 k0_t32
  let v730 : Index := Scalar.indexCast arg14
  let c0_316 : Index := 0#32
  let c0_317 : Index := 0#32
  ![v730.toNat, 0, 0]
def k0_off104 (k0_t1 : Fin k0_t1_loop.trips) (k0_t32 : Fin (k0_t32_loop k0_t1).trips) : Fin 2 → Nat :=
  let c0_i32_306 : BitVec 32 := 0#32
  let c1_i32_308 : BitVec 32 := 1#32
  let arg14 : BitVec 32 := Scf.iv c0_i32_306 c1_i32_308 k0_t32
  let c256_i32_315 : BitVec 32 := 256#32
  let v728 : BitVec 32 := Scalar.muli arg14 c256_i32_315
  let v729 : BitVec 32 := v728
  let v738 : Index := Scalar.indexCast v729
  let c0_318 : Index := 0#32
  ![v738.toNat, 0]
def k0_off105 (k0_t1 : Fin k0_t1_loop.trips) (k0_t32 : Fin (k0_t32_loop k0_t1).trips) : Fin 2 → Nat :=
  let c64 : Index := 64#32
  let c0_i32_306 : BitVec 32 := 0#32
  let c1_i32_308 : BitVec 32 := 1#32
  let arg14 : BitVec 32 := Scf.iv c0_i32_306 c1_i32_308 k0_t32
  let c256_i32_315 : BitVec 32 := 256#32
  let v728 : BitVec 32 := Scalar.muli arg14 c256_i32_315
  let v729 : BitVec 32 := v728
  let v750 : Index := Scalar.indexCast v729
  ![64, v750.toNat]
@[reducible] def k0_t33_loop (k0_t1 : Fin k0_t1_loop.trips) : Scf.Loop 32 :=
  let c0_i32_306 : BitVec 32 := 0#32
  let c0_i32 : BitVec 32 := 0#32
  let c1_i32 : BitVec 32 := 1#32
  let arg13 : BitVec 32 := Scf.iv c0_i32 c1_i32 k0_t1
  let c1_i32_304 : BitVec 32 := 1#32
  let v705 : BitVec 32 := Scalar.addi arg13 c1_i32_304
  let v707 : BitVec 32 := Scalar.subi v705 c0_i32_306
  let c1_i32_307 : BitVec 32 := 1#32
  let v709 : BitVec 32 := Scalar.divsi v707 c1_i32_307
  let v710 : BitVec 32 := Scalar.muli v709 c1_i32_307
  let v711 : BitVec 32 := Scalar.addi c0_i32_306 v710
  let v708 : BitVec 32 := Scalar.addi c0_i32_306 v707
  let c1_i32_309 : BitVec 32 := 1#32
  ⟨v711, v708, c1_i32_309⟩
def k0_mult49 (k0_t1 : Fin k0_t1_loop.trips) (k0_t33 : Fin (k0_t33_loop k0_t1).trips) : BitVec 32 :=
  let c0_i32_306 : BitVec 32 := 0#32
  let c0_i32 : BitVec 32 := 0#32
  let c1_i32 : BitVec 32 := 1#32
  let arg13 : BitVec 32 := Scf.iv c0_i32 c1_i32 k0_t1
  let c1_i32_304 : BitVec 32 := 1#32
  let v705 : BitVec 32 := Scalar.addi arg13 c1_i32_304
  let v707 : BitVec 32 := Scalar.subi v705 c0_i32_306
  let c1_i32_307 : BitVec 32 := 1#32
  let v709 : BitVec 32 := Scalar.divsi v707 c1_i32_307
  let v710 : BitVec 32 := Scalar.muli v709 c1_i32_307
  let v711 : BitVec 32 := Scalar.addi c0_i32_306 v710
  let c1_i32_309 : BitVec 32 := 1#32
  let arg14 : BitVec 32 := Scf.iv v711 c1_i32_309 k0_t33
  let c256_i32_315 : BitVec 32 := 256#32
  let v728 : BitVec 32 := Scalar.muli arg14 c256_i32_315
  v728
def k0_off106 (k0_t1 : Fin k0_t1_loop.trips) (k0_t33 : Fin (k0_t33_loop k0_t1).trips) : Fin 3 → Nat :=
  let c0_i32_306 : BitVec 32 := 0#32
  let c0_i32 : BitVec 32 := 0#32
  let c1_i32 : BitVec 32 := 1#32
  let arg13 : BitVec 32 := Scf.iv c0_i32 c1_i32 k0_t1
  let c1_i32_304 : BitVec 32 := 1#32
  let v705 : BitVec 32 := Scalar.addi arg13 c1_i32_304
  let v707 : BitVec 32 := Scalar.subi v705 c0_i32_306
  let c1_i32_307 : BitVec 32 := 1#32
  let v709 : BitVec 32 := Scalar.divsi v707 c1_i32_307
  let v710 : BitVec 32 := Scalar.muli v709 c1_i32_307
  let v711 : BitVec 32 := Scalar.addi c0_i32_306 v710
  let c1_i32_309 : BitVec 32 := 1#32
  let arg14 : BitVec 32 := Scf.iv v711 c1_i32_309 k0_t33
  let v730 : Index := Scalar.indexCast arg14
  let c0_316 : Index := 0#32
  let c0_317 : Index := 0#32
  ![v730.toNat, 0, 0]
def k0_off107 (k0_t1 : Fin k0_t1_loop.trips) (k0_t33 : Fin (k0_t33_loop k0_t1).trips) : Fin 2 → Nat :=
  let c0_i32_306 : BitVec 32 := 0#32
  let c0_i32 : BitVec 32 := 0#32
  let c1_i32 : BitVec 32 := 1#32
  let arg13 : BitVec 32 := Scf.iv c0_i32 c1_i32 k0_t1
  let c1_i32_304 : BitVec 32 := 1#32
  let v705 : BitVec 32 := Scalar.addi arg13 c1_i32_304
  let v707 : BitVec 32 := Scalar.subi v705 c0_i32_306
  let c1_i32_307 : BitVec 32 := 1#32
  let v709 : BitVec 32 := Scalar.divsi v707 c1_i32_307
  let v710 : BitVec 32 := Scalar.muli v709 c1_i32_307
  let v711 : BitVec 32 := Scalar.addi c0_i32_306 v710
  let c1_i32_309 : BitVec 32 := 1#32
  let arg14 : BitVec 32 := Scf.iv v711 c1_i32_309 k0_t33
  let c256_i32_315 : BitVec 32 := 256#32
  let v728 : BitVec 32 := Scalar.muli arg14 c256_i32_315
  let v729 : BitVec 32 := v728
  let v738 : Index := Scalar.indexCast v729
  let c0_318 : Index := 0#32
  ![v738.toNat, 0]
def k0_off108 (k0_t1 : Fin k0_t1_loop.trips) (k0_t33 : Fin (k0_t33_loop k0_t1).trips) : Fin 2 → Nat :=
  let c64 : Index := 64#32
  let c0_i32_306 : BitVec 32 := 0#32
  let c0_i32 : BitVec 32 := 0#32
  let c1_i32 : BitVec 32 := 1#32
  let arg13 : BitVec 32 := Scf.iv c0_i32 c1_i32 k0_t1
  let c1_i32_304 : BitVec 32 := 1#32
  let v705 : BitVec 32 := Scalar.addi arg13 c1_i32_304
  let v707 : BitVec 32 := Scalar.subi v705 c0_i32_306
  let c1_i32_307 : BitVec 32 := 1#32
  let v709 : BitVec 32 := Scalar.divsi v707 c1_i32_307
  let v710 : BitVec 32 := Scalar.muli v709 c1_i32_307
  let v711 : BitVec 32 := Scalar.addi c0_i32_306 v710
  let c1_i32_309 : BitVec 32 := 1#32
  let arg14 : BitVec 32 := Scf.iv v711 c1_i32_309 k0_t33
  let c256_i32_315 : BitVec 32 := 256#32
  let v728 : BitVec 32 := Scalar.muli arg14 c256_i32_315
  let v729 : BitVec 32 := v728
  let v750 : Index := Scalar.indexCast v729
  ![64, v750.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4096x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x4096x2048 : Shape := ⟨3, ![8, 4096, 2048]⟩
abbrev S32 : Shape := ⟨1, ![32]⟩
abbrev S8x4096x512 : Shape := ⟨3, ![8, 4096, 512]⟩
abbrev S8 : Shape := ⟨1, ![8]⟩
abbrev S8x4096x8x4x64 : Shape := ⟨5, ![8, 4096, 8, 4, 64]⟩
abbrev S8x4096x8x64 : Shape := ⟨4, ![8, 4096, 8, 64]⟩
abbrev S8x8x4096x4096x4 : Shape := ⟨5, ![8, 8, 4096, 4096, 4]⟩
abbrev S8x8x4x4096x4096 : Shape := ⟨5, ![8, 8, 4, 4096, 4096]⟩
abbrev S8x4 : Shape := ⟨2, ![8, 4]⟩
abbrev S8x1 : Shape := ⟨2, ![8, 1]⟩
abbrev S1x8x4x1x1 : Shape := ⟨5, ![1, 8, 4, 1, 1]⟩
abbrev S4096x4096 : Shape := ⟨2, ![4096, 4096]⟩
abbrev S1x1x1x4096x4096 : Shape := ⟨5, ![1, 1, 1, 4096, 4096]⟩
abbrev S8x8x4x4096 : Shape := ⟨4, ![8, 8, 4, 4096]⟩
abbrev S8x8x4x4096x1 : Shape := ⟨5, ![8, 8, 4, 4096, 1]⟩
abbrev S8x8x64x4x4096 : Shape := ⟨5, ![8, 8, 64, 4, 4096]⟩
abbrev S1x1x8x1x1 : Shape := ⟨5, ![1, 1, 8, 1, 1]⟩

abbrev nBuf : Space → Nat
  | .hbm => 7
  | .vmem => 7
  | .smem => 0
  | _ => 0

abbrev bufTy : (tb : Table) → Fin (tcTables nBuf tb) → BufTy
  | .hbm, ⟨0, _⟩ => ⟨S8x4096x2048, .fp8e4m3⟩
  | .hbm, ⟨1, _⟩ => ⟨S32, .f32⟩
  | .hbm, ⟨2, _⟩ => ⟨S8x4096x512, .fp8e4m3⟩
  | .hbm, ⟨3, _⟩ => ⟨S8, .f32⟩
  | .hbm, ⟨4, _⟩ => ⟨S8x4096x512, .fp8e4m3⟩
  | .hbm, ⟨5, _⟩ => ⟨S8, .f32⟩
  | .hbm, ⟨6, _⟩ => ⟨S8x4096x2048, .bf16⟩
  | .local _ .vmem, ⟨0, _⟩ => ⟨S8x4096x2048, .fp8e4m3⟩
  | .local _ .vmem, ⟨1, _⟩ => ⟨S32, .f32⟩
  | .local _ .vmem, ⟨2, _⟩ => ⟨S8x4096x512, .fp8e4m3⟩
  | .local _ .vmem, ⟨3, _⟩ => ⟨S8, .f32⟩
  | .local _ .vmem, ⟨4, _⟩ => ⟨S8x4096x512, .fp8e4m3⟩
  | .local _ .vmem, ⟨5, _⟩ => ⟨S8, .f32⟩
  | .local _ .vmem, ⟨6, _⟩ => ⟨S8x4096x2048, .bf16⟩
  | _, _ => ⟨S8x4096x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x4096x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4096x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelFrame.lean ====
/- The memory-safety run of `Kernel`'s kernel: one trip of its loop over the query tiles, the loop, the body at a grid
   point, and the launch over the grid, the result's contents left unnamed. Every argument array ends as it was launched
   and every semaphore counter at zero (`frame`). -/
module

public import proofs.«01_k».proof.Proof.Gen.Kernel.Loops
public import proofs.«01_k».proof.Proof.Gen.Kernel.Frame
public import proofs.«01_k».proof.Proof.Gen.Kernel.Points

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One trip over the query tiles -/
/-- What the loop over the query tiles touches: the scales, the queries, the keys' and the values' tables at their
    contents; the result's buffer and the two tables the heads share at any. -/
abbrev Held (c : Dev nD) (arg2 : Memref sig .tc .smem S32 .f32) (harg2 : arg2.IsWhole) (arg3 : Memref sig .tc .smem S8 .f32) (harg3 : arg3.IsWhole) (arg4 : Memref sig .tc .smem S8 .f32) (harg4 : arg4.IsWhole) (arg5 : Memref sig .tc .vmem S1x4096x512 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x4096x512 .bf16) (harg8 : arg8.IsWhole) (arg9 : Memref sig .tc .vmem S4x4096x128 .fp8e4m3) (harg9 : arg9.IsWhole) (arg10 : Memref sig .tc .vmem S128x4096 .fp8e4m3) (harg10 : arg10.IsWhole) (arg11 : Memref sig .tc .vmem S4096x256 .f32) (harg11 : arg11.IsWhole) (arg12 : Memref sig .tc .vmem S16x8x256 .f32) (harg12 : arg12.IsWhole) (f2 : BufTy.Contents (Elt F) arg2.view.ty) (f3 : BufTy.Contents (Elt F) arg3.view.ty) (f4 : BufTy.Contents (Elt F) arg4.view.ty) (f5 : BufTy.Contents (Elt F) arg5.view.ty) (f9 : BufTy.Contents (Elt F) arg9.view.ty) (f10 : BufTy.Contents (Elt F) arg10.view.ty) : sProp 𝕄 :=
  iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg9.view.loc (c : Thread nD τ) ↦[arg9.view.set]{fullShare} f9) ∗ (arg10.view.loc (c : Thread nD τ) ↦[arg10.view.set]{fullShare} f10) ∗ (∃ f : BufTy.Contents (Elt F) arg8.view.ty, (arg8.view.loc (c : Thread nD τ) ↦[arg8.view.set]{fullShare} f)) ∗ (∃ f : BufTy.Contents (Elt F) arg11.view.ty, (arg11.view.loc (c : Thread nD τ) ↦[arg11.view.set]{fullShare} f)) ∗ (∃ f : BufTy.Contents (Elt F) arg12.view.ty, (arg12.view.loc (c : Thread nD τ) ↦[arg12.view.set]{fullShare} f)))
set_option maxHeartbeats 40000000 in
/-- One query tile: the eight heads' passes over the keys, each head's loops by their invariants. -/
theorem trip (c : Dev nD) (i : grid0.Coords) (arg2 : Memref sig .tc .smem S32 .f32) (harg2 : arg2.IsWhole) (arg3 : Memref sig .tc .smem S8 .f32) (harg3 : arg3.IsWhole) (arg4 : Memref sig .tc .smem S8 .f32) (harg4 : arg4.IsWhole) (arg5 : Memref sig .tc .vmem S1x4096x512 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x4096x512 .bf16) (harg8 : arg8.IsWhole) (arg9 : Memref sig .tc .vmem S4x4096x128 .fp8e4m3) (harg9 : arg9.IsWhole) (arg10 : Memref sig .tc .vmem S128x4096 .fp8e4m3) (harg10 : arg10.IsWhole) (arg11 : Memref sig .tc .vmem S4096x256 .f32) (harg11 : arg11.IsWhole) (arg12 : Memref sig .tc .vmem S16x8x256 .f32) (harg12 : arg12.IsWhole) (arg1 : BitVec 32) (f2 : BufTy.Contents (Elt F) arg2.view.ty) (f3 : BufTy.Contents (Elt F) arg3.view.ty) (f4 : BufTy.Contents (Elt F) arg4.view.ty) (f5 : BufTy.Contents (Elt F) arg5.view.ty) (f9 : BufTy.Contents (Elt F) arg9.view.ty) (f10 : BufTy.Contents (Elt F) arg10.view.ty) (k : Fin k0_t1_loop.trips) (acc : Unit) :
    Held c arg2 harg2 arg3 harg3 arg4 harg4 arg5 harg5 arg6 harg6 arg7 harg7 arg8 harg8 arg9 harg9 arg10 harg10 arg11 harg11 arg12 harg12 f2 f3 f4 f5 f9 f10 ⊢ wp frame (wpE (defs₀ (F := F)) Variants.none (c : Thread nD τ) none) Set.univ
      (k0_t1_body (F := F) i arg2 harg2 arg3 harg3 arg4 harg4 arg5 harg5 arg6 harg6 arg7 harg7 arg8 harg8 arg9 harg9 arg10 harg10 arg11 harg11 arg12 harg12 arg1 k acc) (fun _ => Held c arg2 harg2 arg3 harg3 arg4 harg4 arg5 harg5 arg6 harg6 arg7 harg7 arg8 harg8 arg9 harg9 arg10 harg10 arg11 harg11 arg12 harg12 f2 f3 f4 f5 f9 f10) := by
  unfold k0_t1_body
  simp only [k0_part17_eq_skeleton]; unfold k0_part17_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, bind_assoc, pure_bind]
  iintro ⟨H2, H3, H4, H5, H9, H10, ⟨%f8, H8⟩, ⟨%f11, H11⟩, ⟨%f12, H12⟩⟩
  sl_exec
  sl_step
  isplitl [H2]; · iexact H2
  isplitl [H3]; · iexact H3
  isplitl [H4]; · iexact H4
  isplitl [H5]; · iexact H5
  isplitl [H9]; · iexact H9
  isplitl [H10]; · iexact H10
  isplitl [H8]; · iexists _; iexact H8
  isplitl [H11]; · iexists _; iexact H11
  iexists _; iexact H12

set_option warn.classDefReducibility false in
/-- The loop over the query tiles keeps what it touches. -/
@[sl_loop] def loopInv_k0_t1 (c : Dev nD) (i : grid0.Coords) (arg2 : Memref sig .tc .smem S32 .f32) (harg2 : arg2.IsWhole) (arg3 : Memref sig .tc .smem S8 .f32) (harg3 : arg3.IsWhole) (arg4 : Memref sig .tc .smem S8 .f32) (harg4 : arg4.IsWhole) (arg5 : Memref sig .tc .vmem S1x4096x512 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x4096x512 .bf16) (harg8 : arg8.IsWhole) (arg9 : Memref sig .tc .vmem S4x4096x128 .fp8e4m3) (harg9 : arg9.IsWhole) (arg10 : Memref sig .tc .vmem S128x4096 .fp8e4m3) (harg10 : arg10.IsWhole) (arg11 : Memref sig .tc .vmem S4096x256 .f32) (harg11 : arg11.IsWhole) (arg12 : Memref sig .tc .vmem S16x8x256 .f32) (harg12 : arg12.IsWhole) (arg1 : BitVec 32) (f2 : BufTy.Contents (Elt F) arg2.view.ty) (f3 : BufTy.Contents (Elt F) arg3.view.ty) (f4 : BufTy.Contents (Elt F) arg4.view.ty) (f5 : BufTy.Contents (Elt F) arg5.view.ty) (f9 : BufTy.Contents (Elt F) arg9.view.ty) (f10 : BufTy.Contents (Elt F) arg10.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg1 where
  inv := fun _ _ => Held c arg2 harg2 arg3 harg3 arg4 harg4 arg5 harg5 arg6 harg6 arg7 harg7 arg8 harg8 arg9 harg9 arg10 harg10 arg11 harg11 arg12 harg12 f2 f3 f4 f5 f9 f10
  step := fun k acc => trip c i arg2 harg2 arg3 harg3 arg4 harg4 arg5 harg5 arg6 harg6 arg7 harg7 arg8 harg8 arg9 harg9 arg10 harg10 arg11 harg11 arg12 harg12 arg1 f2 f3 f4 f5 f9 f10 k acc
/-! ## The body at a grid point -/

set_option maxHeartbeats 4000000 in
/-- The kernel on whole buffers: the inputs end as they were, everything else at some contents. -/
theorem sound_kernel (c : Dev nD) (i : grid0.Coords) (arg2 : Memref sig .tc .smem S32 .f32) (harg2 : arg2.IsWhole) (arg3 : Memref sig .tc .smem S8 .f32) (harg3 : arg3.IsWhole) (arg4 : Memref sig .tc .smem S8 .f32) (harg4 : arg4.IsWhole) (arg5 : Memref sig .tc .vmem S1x4096x512 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x4096x512 .bf16) (harg8 : arg8.IsWhole) (arg9 : Memref sig .tc .vmem S4x4096x128 .fp8e4m3) (harg9 : arg9.IsWhole) (arg10 : Memref sig .tc .vmem S128x4096 .fp8e4m3) (harg10 : arg10.IsWhole) (arg11 : Memref sig .tc .vmem S4096x256 .f32) (harg11 : arg11.IsWhole) (arg12 : Memref sig .tc .vmem S16x8x256 .f32) (harg12 : arg12.IsWhole) (x2 : Vec F S32 .f32) (x3 : Vec F S8 .f32) (x4 : Vec F S8 .f32) (x5 : Vec F S1x4096x512 .fp8e4m3) (x6 : Vec F S1x4096x128 .fp8e4m3) (x7 : Vec F S1x4096x128 .fp8e4m3) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none (c : Thread nD τ) none) Set.univ (cc0_fp8_causal_gqa (F := F) i arg2 harg2 arg3 harg3 arg4 harg4 arg5 harg5 arg6 harg6 arg7 harg7 arg8 harg8 arg9 harg9 arg10 harg10 arg11 harg11 arg12 harg12) K := by
  simp only [cc0_fp8_causal_gqa_eq_skeleton]; unfold cc0_fp8_causal_gqa_skel
  simp only [k0_part18_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  sl_exec
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  iexists _; iexists _; isplitr
  swap; · iexact H12
  ipureintro; rfl

/-! ## The pipeline's proof data: the result's window forgotten -/

variable (m : (ℓ : Loc nD τ sig) → Buf (Elt F) ℓ) (ρ : Dev nD → PrngReg)

/-- The result's window is the one whose contents are not named. -/
def fgt : Fin cfg0.W → Bool := fun w => match w with
  | ⟨6, _⟩ => true
  | _ => false

/-- The proof data: the arrays as the region finds them, each input's buffer at its block after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, the windows one by one, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare d))

/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ (∃ d, owns (c : Thread nD τ) (st0_6 t) fullShare d))

set_option maxHeartbeats 1000000 in
/-- The body at any point, the scratch buffers taken from the invariant and put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq]
  iintro ⟨⟨⟨⟨%s9, HS9⟩, ⟨%s10, HS10⟩, ⟨%s11, HS11⟩, ⟨%s12, HS12⟩⟩, HΦ⟩, Ho, ⟨%d0, H0⟩, ⟨%d1, H1⟩, ⟨%d2, H2⟩, ⟨%d3, H3⟩, ⟨%d4, H4⟩, ⟨%d5, H5⟩, ⟨%d6, H6⟩⟩
  iapply (sound_kernel c (grid0.coords t) _ _ _ _ _ _ _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS9]
  · iexists s9; rw [owns_whole]; iexact HS9
  isplitl [HS10]
  · iexists s10; rw [owns_whole]; iexact HS10
  isplitl [HS11]
  · iexists s11; rw [owns_whole]; iexact HS11
  isplitl [HS12]
  · iexists s12; rw [owns_whole]; iexact HS12
  iintro ⟨H0, H1, H2, H3, H4, H5, ⟨%e6, H6⟩, ⟨%e9, HS9⟩, ⟨%e10, HS10⟩, ⟨%e11, HS11⟩, ⟨%e12, HS12⟩⟩
  isplitl [HS9 HS10 HS11 HS12 HΦ]
  · isplitl [HS9 HS10 HS11 HS12]
    · isplitl [HS9]; · iexists e9; rw [← owns_whole]; iexact HS9
      isplitl [HS10]; · iexists e10; rw [← owns_whole]; iexact HS10
      isplitl [HS11]; · iexists e11; rw [← owns_whole]; iexact HS11
      iexists e12; rw [← owns_whole]; iexact HS12
    iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists e6; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every weakly fair execution from any memory with zero counters terminates with the arrays as the pipeline leaves them
    and every semaphore counter at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl) (hQ' := fun _ h => h)

/-- The argument arrays end as launched, every semaphore counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨h.1.arr_in c 3 rfl,
      h.1.arr_in c 0 rfl,
      h.1.arr_in c 4 rfl,
      h.1.arr_in c 1 rfl,
      h.1.arr_in c 5 rfl,
      h.1.arr_in c 2 rfl⟩, h.2⟩) (run_main m ρ)

end Cert.Proof.Kernel

end
-- ==== Proof.KernelIdealFrame.lean ====
/- The memory-safety run of `KernelIdeal`'s kernel: one trip of its loop over the query tiles, the loop, the body at a grid
   point, and the launch over the grid, the result's contents left unnamed. Every argument array ends as it was launched
   and every semaphore counter at zero (`frame`). -/
module

public import proofs.«01_k».proof.Proof.Gen.KernelIdeal.Loops
public import proofs.«01_k».proof.Proof.Gen.KernelIdeal.Frame
public import proofs.«01_k».proof.Proof.Gen.KernelIdeal.Points

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One trip over the query tiles -/
/-- What the loop over the query tiles touches: the scales, the queries, the keys' and the values' tables at their
    contents; the result's buffer and the two tables the heads share at any. -/
abbrev Held (c : Dev nD) (arg2 : Memref sig .tc .smem S32 .f32) (harg2 : arg2.IsWhole) (arg3 : Memref sig .tc .smem S8 .f32) (harg3 : arg3.IsWhole) (arg4 : Memref sig .tc .smem S8 .f32) (harg4 : arg4.IsWhole) (arg5 : Memref sig .tc .vmem S1x4096x512 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x4096x512 .bf16) (harg8 : arg8.IsWhole) (arg9 : Memref sig .tc .vmem S4x4096x128 .fp8e4m3) (harg9 : arg9.IsWhole) (arg10 : Memref sig .tc .vmem S128x4096 .fp8e4m3) (harg10 : arg10.IsWhole) (arg11 : Memref sig .tc .vmem S4096x256 .f32) (harg11 : arg11.IsWhole) (arg12 : Memref sig .tc .vmem S16x8x256 .f32) (harg12 : arg12.IsWhole) (f2 : BufTy.Contents (Elt F) arg2.view.ty) (f3 : BufTy.Contents (Elt F) arg3.view.ty) (f4 : BufTy.Contents (Elt F) arg4.view.ty) (f5 : BufTy.Contents (Elt F) arg5.view.ty) (f9 : BufTy.Contents (Elt F) arg9.view.ty) (f10 : BufTy.Contents (Elt F) arg10.view.ty) : sProp 𝕄 :=
  iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg9.view.loc (c : Thread nD τ) ↦[arg9.view.set]{fullShare} f9) ∗ (arg10.view.loc (c : Thread nD τ) ↦[arg10.view.set]{fullShare} f10) ∗ (∃ f : BufTy.Contents (Elt F) arg8.view.ty, (arg8.view.loc (c : Thread nD τ) ↦[arg8.view.set]{fullShare} f)) ∗ (∃ f : BufTy.Contents (Elt F) arg11.view.ty, (arg11.view.loc (c : Thread nD τ) ↦[arg11.view.set]{fullShare} f)) ∗ (∃ f : BufTy.Contents (Elt F) arg12.view.ty, (arg12.view.loc (c : Thread nD τ) ↦[arg12.view.set]{fullShare} f)))
set_option maxHeartbeats 40000000 in
/-- One query tile: the eight heads' passes over the keys, each head's loops by their invariants. -/
theorem trip (c : Dev nD) (i : grid0.Coords) (arg2 : Memref sig .tc .smem S32 .f32) (harg2 : arg2.IsWhole) (arg3 : Memref sig .tc .smem S8 .f32) (harg3 : arg3.IsWhole) (arg4 : Memref sig .tc .smem S8 .f32) (harg4 : arg4.IsWhole) (arg5 : Memref sig .tc .vmem S1x4096x512 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x4096x512 .bf16) (harg8 : arg8.IsWhole) (arg9 : Memref sig .tc .vmem S4x4096x128 .fp8e4m3) (harg9 : arg9.IsWhole) (arg10 : Memref sig .tc .vmem S128x4096 .fp8e4m3) (harg10 : arg10.IsWhole) (arg11 : Memref sig .tc .vmem S4096x256 .f32) (harg11 : arg11.IsWhole) (arg12 : Memref sig .tc .vmem S16x8x256 .f32) (harg12 : arg12.IsWhole) (arg1 : BitVec 32) (f2 : BufTy.Contents (Elt F) arg2.view.ty) (f3 : BufTy.Contents (Elt F) arg3.view.ty) (f4 : BufTy.Contents (Elt F) arg4.view.ty) (f5 : BufTy.Contents (Elt F) arg5.view.ty) (f9 : BufTy.Contents (Elt F) arg9.view.ty) (f10 : BufTy.Contents (Elt F) arg10.view.ty) (k : Fin k0_t1_loop.trips) (acc : Unit) :
    Held c arg2 harg2 arg3 harg3 arg4 harg4 arg5 harg5 arg6 harg6 arg7 harg7 arg8 harg8 arg9 harg9 arg10 harg10 arg11 harg11 arg12 harg12 f2 f3 f4 f5 f9 f10 ⊢ wp frame (wpE (defs₀ (F := F)) Variants.none (c : Thread nD τ) none) Set.univ
      (k0_t1_body (F := F) i arg2 harg2 arg3 harg3 arg4 harg4 arg5 harg5 arg6 harg6 arg7 harg7 arg8 harg8 arg9 harg9 arg10 harg10 arg11 harg11 arg12 harg12 arg1 k acc) (fun _ => Held c arg2 harg2 arg3 harg3 arg4 harg4 arg5 harg5 arg6 harg6 arg7 harg7 arg8 harg8 arg9 harg9 arg10 harg10 arg11 harg11 arg12 harg12 f2 f3 f4 f5 f9 f10) := by
  unfold k0_t1_body
  simp only [k0_part17_eq_skeleton]; unfold k0_part17_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, bind_assoc, pure_bind]
  iintro ⟨H2, H3, H4, H5, H9, H10, ⟨%f8, H8⟩, ⟨%f11, H11⟩, ⟨%f12, H12⟩⟩
  sl_exec
  sl_step
  isplitl [H2]; · iexact H2
  isplitl [H3]; · iexact H3
  isplitl [H4]; · iexact H4
  isplitl [H5]; · iexact H5
  isplitl [H9]; · iexact H9
  isplitl [H10]; · iexact H10
  isplitl [H8]; · iexists _; iexact H8
  isplitl [H11]; · iexists _; iexact H11
  iexists _; iexact H12

set_option warn.classDefReducibility false in
/-- The loop over the query tiles keeps what it touches. -/
@[sl_loop] def loopInv_k0_t1 (c : Dev nD) (i : grid0.Coords) (arg2 : Memref sig .tc .smem S32 .f32) (harg2 : arg2.IsWhole) (arg3 : Memref sig .tc .smem S8 .f32) (harg3 : arg3.IsWhole) (arg4 : Memref sig .tc .smem S8 .f32) (harg4 : arg4.IsWhole) (arg5 : Memref sig .tc .vmem S1x4096x512 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x4096x512 .bf16) (harg8 : arg8.IsWhole) (arg9 : Memref sig .tc .vmem S4x4096x128 .fp8e4m3) (harg9 : arg9.IsWhole) (arg10 : Memref sig .tc .vmem S128x4096 .fp8e4m3) (harg10 : arg10.IsWhole) (arg11 : Memref sig .tc .vmem S4096x256 .f32) (harg11 : arg11.IsWhole) (arg12 : Memref sig .tc .vmem S16x8x256 .f32) (harg12 : arg12.IsWhole) (arg1 : BitVec 32) (f2 : BufTy.Contents (Elt F) arg2.view.ty) (f3 : BufTy.Contents (Elt F) arg3.view.ty) (f4 : BufTy.Contents (Elt F) arg4.view.ty) (f5 : BufTy.Contents (Elt F) arg5.view.ty) (f9 : BufTy.Contents (Elt F) arg9.view.ty) (f10 : BufTy.Contents (Elt F) arg10.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg1 where
  inv := fun _ _ => Held c arg2 harg2 arg3 harg3 arg4 harg4 arg5 harg5 arg6 harg6 arg7 harg7 arg8 harg8 arg9 harg9 arg10 harg10 arg11 harg11 arg12 harg12 f2 f3 f4 f5 f9 f10
  step := fun k acc => trip c i arg2 harg2 arg3 harg3 arg4 harg4 arg5 harg5 arg6 harg6 arg7 harg7 arg8 harg8 arg9 harg9 arg10 harg10 arg11 harg11 arg12 harg12 arg1 f2 f3 f4 f5 f9 f10 k acc
/-! ## The body at a grid point -/

set_option maxHeartbeats 4000000 in
/-- The kernel on whole buffers: the inputs end as they were, everything else at some contents. -/
theorem sound_kernel (c : Dev nD) (i : grid0.Coords) (arg2 : Memref sig .tc .smem S32 .f32) (harg2 : arg2.IsWhole) (arg3 : Memref sig .tc .smem S8 .f32) (harg3 : arg3.IsWhole) (arg4 : Memref sig .tc .smem S8 .f32) (harg4 : arg4.IsWhole) (arg5 : Memref sig .tc .vmem S1x4096x512 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x4096x512 .bf16) (harg8 : arg8.IsWhole) (arg9 : Memref sig .tc .vmem S4x4096x128 .fp8e4m3) (harg9 : arg9.IsWhole) (arg10 : Memref sig .tc .vmem S128x4096 .fp8e4m3) (harg10 : arg10.IsWhole) (arg11 : Memref sig .tc .vmem S4096x256 .f32) (harg11 : arg11.IsWhole) (arg12 : Memref sig .tc .vmem S16x8x256 .f32) (harg12 : arg12.IsWhole) (x2 : Vec F S32 .f32) (x3 : Vec F S8 .f32) (x4 : Vec F S8 .f32) (x5 : Vec F S1x4096x512 .fp8e4m3) (x6 : Vec F S1x4096x128 .fp8e4m3) (x7 : Vec F S1x4096x128 .fp8e4m3) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none (c : Thread nD τ) none) Set.univ (cc0_fp8_causal_gqa (F := F) i arg2 harg2 arg3 harg3 arg4 harg4 arg5 harg5 arg6 harg6 arg7 harg7 arg8 harg8 arg9 harg9 arg10 harg10 arg11 harg11 arg12 harg12) K := by
  simp only [cc0_fp8_causal_gqa_eq_skeleton]; unfold cc0_fp8_causal_gqa_skel
  simp only [k0_part18_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  sl_exec
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  iexists _; iexists _; isplitr
  swap; · iexact H12
  ipureintro; rfl

/-! ## The pipeline's proof data: the result's window forgotten -/

variable (m : (ℓ : Loc nD τ sig) → Buf (Elt F) ℓ) (ρ : Dev nD → PrngReg)

/-- The result's window is the one whose contents are not named. -/
def fgt : Fin cfg0.W → Bool := fun w => match w with
  | ⟨6, _⟩ => true
  | _ => false

/-- The proof data: the arrays as the region finds them, each input's buffer at its block after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, the windows one by one, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare d))

/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ (∃ d, owns (c : Thread nD τ) (st0_6 t) fullShare d))

set_option maxHeartbeats 1000000 in
/-- The body at any point, the scratch buffers taken from the invariant and put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq]
  iintro ⟨⟨⟨⟨%s9, HS9⟩, ⟨%s10, HS10⟩, ⟨%s11, HS11⟩, ⟨%s12, HS12⟩⟩, HΦ⟩, Ho, ⟨%d0, H0⟩, ⟨%d1, H1⟩, ⟨%d2, H2⟩, ⟨%d3, H3⟩, ⟨%d4, H4⟩, ⟨%d5, H5⟩, ⟨%d6, H6⟩⟩
  iapply (sound_kernel c (grid0.coords t) _ _ _ _ _ _ _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS9]
  · iexists s9; rw [owns_whole]; iexact HS9
  isplitl [HS10]
  · iexists s10; rw [owns_whole]; iexact HS10
  isplitl [HS11]
  · iexists s11; rw [owns_whole]; iexact HS11
  isplitl [HS12]
  · iexists s12; rw [owns_whole]; iexact HS12
  iintro ⟨H0, H1, H2, H3, H4, H5, ⟨%e6, H6⟩, ⟨%e9, HS9⟩, ⟨%e10, HS10⟩, ⟨%e11, HS11⟩, ⟨%e12, HS12⟩⟩
  isplitl [HS9 HS10 HS11 HS12 HΦ]
  · isplitl [HS9 HS10 HS11 HS12]
    · isplitl [HS9]; · iexists e9; rw [← owns_whole]; iexact HS9
      isplitl [HS10]; · iexists e10; rw [← owns_whole]; iexact HS10
      isplitl [HS11]; · iexists e11; rw [← owns_whole]; iexact HS11
      iexists e12; rw [← owns_whole]; iexact HS12
    iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists e6; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every weakly fair execution from any memory with zero counters terminates with the arrays as the pipeline leaves them
    and every semaphore counter at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl) (hQ' := fun _ h => h)

/-- The argument arrays end as launched, every semaphore counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨h.1.arr_in c 3 rfl,
      h.1.arr_in c 0 rfl,
      h.1.arr_in c 4 rfl,
      h.1.arr_in c 1 rfl,
      h.1.arr_in c 5 rfl,
      h.1.arr_in c 2 rfl⟩, h.2⟩) (run_main m ρ)

end Cert.Proof.KernelIdeal

end
-- ==== Proof.KI.Program.lean ====
/- One query tile's program as eight uses of ONE head's program.

   The printed body of the loop over the query tiles is cut at places that do not follow the heads, and every head has its
   own names for the same loops, offsets and arithmetic. `headProg` is one head: its scores against the key tiles before
   the query's own (`scoreBody`), its scores against its own tile, and its product with the values (`valueBody`). `trip_eq`
   says the printed body is four pairs of heads, each pair's result stored as one block of the output. -/
module

public import proofs.«01_k».proof.Proof.Gen.KernelIdeal.Loops
public import proofs.«01_k».proof.Proof.Gen.KernelIdeal.Points

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

universe v

/-- Programs of the kernel's core. -/
abbrev Pr (F : FTy → Type) [FloatOps F] (α : Type) := Prog (TpuEff nD τ sig (Elt F) Λ₀ .tc) α

/-- Where a block of shape `t` lies in an array of shape `s`. -/
structure Place (s : Shape) (size : Fin s.rank → Nat) where
  off : Fin s.rank → Nat
  inb : ∀ a, off a + size a ≤ s.size a

/-- A counted loop, under a name no rewriting of the printed loops applies to. -/
def loopP {E : Type → Type v} {w : Nat} {σ : Type} (l : Scf.Loop w) (hok : l.OK) (init : σ) (body : Fin l.trips → σ → Prog E σ) :
    Prog E σ := Scf.Loop.for l hok init body

/-- A loop carrying a pair, its result taken apart. -/
theorem for_pair {E : Type → Type v} {w : Nat} {α β : Type} (l : Scf.Loop w) (hok : l.OK) (init : α × β)
    (body : Fin l.trips → α × β → Prog E (α × β)) :
    Scf.Loop.for l hok init body = (loopP l hok init body >>= fun x => pure (x.1, x.2)) := by
  simp only [loopP, Prod.mk.eta, bind_pure]

/-- A loop of no trips returns what it was given. -/
theorem for_none {E : Type → Type v} {w : Nat} {σ : Type} (l : Scf.Loop w) (hok : l.OK) (h : l.trips = 0) (init : σ)
    (body : Fin l.trips → σ → Prog E σ) : Scf.Loop.for l hok init body = pure init := by
  have h0 : ∀ (n : Nat) (b : Fin n → σ → Prog E σ), n = 0 → Scf.forFrom b (List.finRange n) init = pure init := by
    intro n b hn; subst hn; rfl
  exact (Scf.for_eq _ _ _ hok init body).trans (h0 _ body h)

/-- One trip of a head's pass over the key tiles before the query's own: the tile's exponentials stored at `oE`, the
    running maxima at `oM`, the maxima and the running sums carried. -/
def scoreBody (arg9 : Memref sig .tc .vmem S4x4096x128 .fp8e4m3) (arg11 : Memref sig .tc .vmem S4096x256 .f32) (arg12 : Memref sig .tc .vmem S16x8x256 .f32)
    {n : Nat} (oK : Fin n → Place S4x4096x128 S1x256x128.size) (oE : Fin n → Place S4096x256 S256x256.size) (oM : Fin n → Place S16x8x256 S1x8x256.size)
    (q : Vec F S1x256x128 .fp8e4m3) (a b : Elt F .f32) :
    Fin n → FVec F S8x256 .f32 × FVec F S8x256 .f32 → Pr F (FVec F S8x256 .f32 × FVec F S8x256 .f32) :=
  fun j acc => do
    let kc : Vec F S1x256x128 .fp8e4m3 ← Prog.lift (.load arg9 (Rect.unit (s := S4x4096x128) (oK j).off S1x256x128.size (oK j).inb).toLoadRect (View.loadsAt_vmem h_S1x256x128))
    let _ : Vec F S256x256 .f32 ← Prog.lift (.load arg11 (Rect.unit (s := S4096x256) (oE j).off S256x256.size (oE j).inb).toLoadRect (View.loadsAt_vmem h_S256x256))
    Prog.lift (.store arg11 (Rect.unit (s := S4096x256) (oE j).off S256x256.size (oE j).inb) (k0_pay12 q a b acc.1 kc) Finset.univ (View.stores_vmem_bits_univ h_S256x256 rfl) (.inl rfl))
    let _ : Vec F S1x8x256 .f32 ← Prog.lift (.load arg12 (Rect.unit (s := S16x8x256) (oM j).off S1x8x256.size (oM j).inb).toLoadRect (View.loadsAt_vmem h_S1x8x256))
    Prog.lift (.store arg12 (Rect.unit (s := S16x8x256) (oM j).off S1x8x256.size (oM j).inb) (k0_pay13 q a b acc.1 kc) Finset.univ (View.stores_vmem_bits_univ h_S1x8x256 rfl) (.inl rfl))
    pure (k0_pay9 q a b acc.1 kc, k0_pay11 q a b acc.1 acc.2 kc)

/-- One trip of a head's product with the values: a key tile's codes, from its exponentials and maxima, times its values. -/
def valueBody (arg10 : Memref sig .tc .vmem S128x4096 .fp8e4m3) (arg11 : Memref sig .tc .vmem S4096x256 .f32) (arg12 : Memref sig .tc .vmem S16x8x256 .f32)
    {n : Nat} (oM : Fin n → Place S16x8x256 S1x8x256.size) (oE : Fin n → Place S4096x256 S256x256.size) (oV : Fin n → Place S128x4096 S64x256.size)
    (m l : FVec F S8x256 .f32) (t : FVec F S32x8x256 .f32) : Fin n → FVec F S64x256 .f32 → Pr F (FVec F S64x256 .f32) :=
  fun j acc => do
    let mc : Vec F S1x8x256 .f32 ← Prog.lift (.load arg12 (Rect.unit (s := S16x8x256) (oM j).off S1x8x256.size (oM j).inb).toLoadRect (View.loadsAt_vmem h_S1x8x256))
    let ec : Vec F S256x256 .f32 ← Prog.lift (.load arg11 (Rect.unit (s := S4096x256) (oE j).off S256x256.size (oE j).inb).toLoadRect (View.loadsAt_vmem h_S256x256))
    let vc : Vec F S64x256 .fp8e4m3 ← Prog.lift (.load arg10 (Rect.unit (s := S128x4096) (oV j).off S64x256.size (oV j).inb).toLoadRect (View.loadsAt_vmem h_S64x256))
    pure (k0_pay28 m l t acc mc ec vc)

/-- The places one head reads and writes, trip by trip. -/
structure HeadPlaces (n n' : Nat) where
  q : Place S1x4096x512 S1x256x128.size
  a : Place S32 S1.size
  b : Place S8 S1.size
  v : Place S8 S1.size
  K : Fin n → Place S4x4096x128 S1x256x128.size
  E : Fin n → Place S4096x256 S256x256.size
  M : Fin n → Place S16x8x256 S1x8x256.size
  dK : Place S4x4096x128 S1x256x128.size
  dE : Place S4096x256 S256x256.size
  dM : Place S16x8x256 S1x8x256.size
  pM : Fin n' → Place S16x8x256 S1x8x256.size
  pE : Fin n' → Place S4096x256 S256x256.size
  pV : Fin n' → Place S128x4096 S64x256.size

/-- One head at one query tile. -/
def headProg (arg2 : Memref sig .tc .smem S32 .f32) (arg3 : Memref sig .tc .smem S8 .f32) (arg4 : Memref sig .tc .smem S8 .f32) (arg5 : Memref sig .tc .vmem S1x4096x512 .fp8e4m3)
    (arg9 : Memref sig .tc .vmem S4x4096x128 .fp8e4m3) (arg10 : Memref sig .tc .vmem S128x4096 .fp8e4m3) (arg11 : Memref sig .tc .vmem S4096x256 .f32) (arg12 : Memref sig .tc .vmem S16x8x256 .f32)
    (l l' : Scf.Loop 32) (ok : l.OK) (ok' : l'.OK) (P : HeadPlaces l.trips l'.trips) : Pr F (FVec F S64x256 .f32) := do
  let q : Vec F S1x256x128 .fp8e4m3 ← Prog.lift (.load arg5 (Rect.unit (s := S1x4096x512) P.q.off S1x256x128.size P.q.inb).toLoadRect (View.loadsAt_vmem h_S1x256x128))
  let a : Elt F .f32 ← smemLoad arg2 (Rect.unit (s := S32) P.a.off S1.size P.a.inb) numel1_S1 rfl
  let b : Elt F .f32 ← smemLoad arg3 (Rect.unit (s := S8) P.b.off S1.size P.b.inb) numel1_S1 rfl
  let ml ← loopP l ok (k0_pay6 (F := F), k0_pay7 (F := F)) (scoreBody arg9 arg11 arg12 P.K P.E P.M q a b)
  let kc : Vec F S1x256x128 .fp8e4m3 ← Prog.lift (.load arg9 (Rect.unit (s := S4x4096x128) P.dK.off S1x256x128.size P.dK.inb).toLoadRect (View.loadsAt_vmem h_S1x256x128))
  let _ : Vec F S256x256 .f32 ← Prog.lift (.load arg11 (Rect.unit (s := S4096x256) P.dE.off S256x256.size P.dE.inb).toLoadRect (View.loadsAt_vmem h_S256x256))
  Prog.lift (.store arg11 (Rect.unit (s := S4096x256) P.dE.off S256x256.size P.dE.inb) (k0_pay23 ml.1 (k0_pay20 k0_pay2 q a b kc)) Finset.univ (View.stores_vmem_bits_univ h_S256x256 rfl) (.inl rfl))
  let _ : Vec F S1x8x256 .f32 ← Prog.lift (.load arg12 (Rect.unit (s := S16x8x256) P.dM.off S1x8x256.size P.dM.inb).toLoadRect (View.loadsAt_vmem h_S1x8x256))
  Prog.lift (.store arg12 (Rect.unit (s := S16x8x256) P.dM.off S1x8x256.size P.dM.inb) (k0_pay24 ml.1 (k0_pay20 k0_pay2 q a b kc)) Finset.univ (View.stores_vmem_bits_univ h_S1x8x256 rfl) (.inl rfl))
  let o ← loopP l' ok' (k0_pay27 (F := F)) (valueBody arg10 arg11 arg12 P.pM P.pE P.pV ml.1 ml.2 (k0_pay20 k0_pay2 q a b kc))
  let vs : Elt F .f32 ← smemLoad arg4 (Rect.unit (s := S8) P.v.off S1.size P.v.inb) numel1_S1 rfl
  pure (k0_pay30 o vs)

/-- Two heads' outputs as one block of the result. -/
def pairOut (o o' : FVec F S64x256 .f32) : FVec F S1x256x128 .bf16 :=
  shapeCast S1x256x128 (truncf .bf16 (transpose S256x128 [1, 0]
    (concatenate S128x256 0 [⟨S64x256, o⟩, ⟨S64x256, o'⟩] concatenates_S64x256_S64x256_S128x256_d0)
    transposes_S128x256_p1_0_S256x128) bitsLt_bf16_f32) shapeCasts_S256x128_S1x256x128

/-- Where head 0 reads and writes. -/
def places0 (i : grid0.Coords) (k : Fin k0_t1_loop.trips) : HeadPlaces (k0_t2_loop k).trips (k0_t4_loop k).trips where
  q := ⟨k0_off1 k, k0_off1_inb k⟩
  a := ⟨k0_off2 i 0#32, k0_off2_inb i 0⟩
  b := ⟨k0_off3 i 0#32, k0_off3_inb i 0⟩
  v := ⟨k0_off3 i 0#32, k0_off3_inb i 0⟩
  K := fun j => ⟨k0_off4 k j, k0_off4_inb k j⟩
  E := fun j => ⟨k0_off5 k j, k0_off5_inb k j⟩
  M := fun j => ⟨k0_off6 k j, k0_off6_inb k j⟩
  dK := ⟨k0_off10 k, k0_off10_inb k⟩
  dE := ⟨k0_off11 k, k0_off11_inb k⟩
  dM := ⟨k0_off12 k, k0_off12_inb k⟩
  pM := fun j => ⟨k0_off13 k j, k0_off13_inb k j⟩
  pE := fun j => ⟨k0_off14 k j, k0_off14_inb k j⟩
  pV := fun j => ⟨k0_off15 k j, k0_off15_inb k j⟩

/-- Where head 1 reads and writes. -/
def places1 (i : grid0.Coords) (k : Fin k0_t1_loop.trips) : HeadPlaces (k0_t6_loop k).trips (k0_t8_loop k).trips where
  q := ⟨k0_off1 k, k0_off1_inb k⟩
  a := ⟨k0_off2 i 1#32, k0_off2_inb i 1⟩
  b := ⟨k0_off3 i 0#32, k0_off3_inb i 0⟩
  v := ⟨k0_off3 i 0#32, k0_off3_inb i 0⟩
  K := fun j => ⟨k0_off19 k j, k0_off19_inb k j⟩
  E := fun j => ⟨k0_off20 k j, k0_off20_inb k j⟩
  M := fun j => ⟨k0_off21 k j, k0_off21_inb k j⟩
  dK := ⟨k0_off25 k, k0_off25_inb k⟩
  dE := ⟨k0_off11 k, k0_off11_inb k⟩
  dM := ⟨k0_off12 k, k0_off12_inb k⟩
  pM := fun j => ⟨k0_off26 k j, k0_off26_inb k j⟩
  pE := fun j => ⟨k0_off27 k j, k0_off27_inb k j⟩
  pV := fun j => ⟨k0_off28 k j, k0_off28_inb k j⟩

/-- Where head 2 reads and writes. -/
def places2 (i : grid0.Coords) (k : Fin k0_t1_loop.trips) : HeadPlaces (k0_t10_loop k).trips (k0_t12_loop k).trips where
  q := ⟨k0_off32 k, k0_off32_inb k⟩
  a := ⟨k0_off2 i 2#32, k0_off2_inb i 2⟩
  b := ⟨k0_off3 i 0#32, k0_off3_inb i 0⟩
  v := ⟨k0_off3 i 0#32, k0_off3_inb i 0⟩
  K := fun j => ⟨k0_off33 k j, k0_off33_inb k j⟩
  E := fun j => ⟨k0_off34 k j, k0_off34_inb k j⟩
  M := fun j => ⟨k0_off35 k j, k0_off35_inb k j⟩
  dK := ⟨k0_off10 k, k0_off10_inb k⟩
  dE := ⟨k0_off11 k, k0_off11_inb k⟩
  dM := ⟨k0_off12 k, k0_off12_inb k⟩
  pM := fun j => ⟨k0_off39 k j, k0_off39_inb k j⟩
  pE := fun j => ⟨k0_off40 k j, k0_off40_inb k j⟩
  pV := fun j => ⟨k0_off41 k j, k0_off41_inb k j⟩

/-- Where head 3 reads and writes. -/
def places3 (i : grid0.Coords) (k : Fin k0_t1_loop.trips) : HeadPlaces (k0_t14_loop k).trips (k0_t16_loop k).trips where
  q := ⟨k0_off32 k, k0_off32_inb k⟩
  a := ⟨k0_off2 i 3#32, k0_off2_inb i 3⟩
  b := ⟨k0_off3 i 0#32, k0_off3_inb i 0⟩
  v := ⟨k0_off3 i 0#32, k0_off3_inb i 0⟩
  K := fun j => ⟨k0_off45 k j, k0_off45_inb k j⟩
  E := fun j => ⟨k0_off46 k j, k0_off46_inb k j⟩
  M := fun j => ⟨k0_off47 k j, k0_off47_inb k j⟩
  dK := ⟨k0_off25 k, k0_off25_inb k⟩
  dE := ⟨k0_off11 k, k0_off11_inb k⟩
  dM := ⟨k0_off12 k, k0_off12_inb k⟩
  pM := fun j => ⟨k0_off51 k j, k0_off51_inb k j⟩
  pE := fun j => ⟨k0_off52 k j, k0_off52_inb k j⟩
  pV := fun j => ⟨k0_off53 k j, k0_off53_inb k j⟩

/-- Where head 4 reads and writes. -/
def places4 (i : grid0.Coords) (k : Fin k0_t1_loop.trips) : HeadPlaces (k0_t18_loop k).trips (k0_t20_loop k).trips where
  q := ⟨k0_off57 k, k0_off57_inb k⟩
  a := ⟨k0_off2 i 4#32, k0_off2_inb i 4⟩
  b := ⟨k0_off3 i 1#32, k0_off3_inb i 1⟩
  v := ⟨k0_off3 i 1#32, k0_off3_inb i 1⟩
  K := fun j => ⟨k0_off58 k j, k0_off58_inb k j⟩
  E := fun j => ⟨k0_off59 k j, k0_off59_inb k j⟩
  M := fun j => ⟨k0_off60 k j, k0_off60_inb k j⟩
  dK := ⟨k0_off64 k, k0_off64_inb k⟩
  dE := ⟨k0_off11 k, k0_off11_inb k⟩
  dM := ⟨k0_off12 k, k0_off12_inb k⟩
  pM := fun j => ⟨k0_off65 k j, k0_off65_inb k j⟩
  pE := fun j => ⟨k0_off66 k j, k0_off66_inb k j⟩
  pV := fun j => ⟨k0_off67 k j, k0_off67_inb k j⟩

/-- Where head 5 reads and writes. -/
def places5 (i : grid0.Coords) (k : Fin k0_t1_loop.trips) : HeadPlaces (k0_t22_loop k).trips (k0_t24_loop k).trips where
  q := ⟨k0_off57 k, k0_off57_inb k⟩
  a := ⟨k0_off2 i 5#32, k0_off2_inb i 5⟩
  b := ⟨k0_off3 i 1#32, k0_off3_inb i 1⟩
  v := ⟨k0_off3 i 1#32, k0_off3_inb i 1⟩
  K := fun j => ⟨k0_off71 k j, k0_off71_inb k j⟩
  E := fun j => ⟨k0_off72 k j, k0_off72_inb k j⟩
  M := fun j => ⟨k0_off73 k j, k0_off73_inb k j⟩
  dK := ⟨k0_off77 k, k0_off77_inb k⟩
  dE := ⟨k0_off11 k, k0_off11_inb k⟩
  dM := ⟨k0_off12 k, k0_off12_inb k⟩
  pM := fun j => ⟨k0_off78 k j, k0_off78_inb k j⟩
  pE := fun j => ⟨k0_off79 k j, k0_off79_inb k j⟩
  pV := fun j => ⟨k0_off80 k j, k0_off80_inb k j⟩

/-- Where head 6 reads and writes. -/
def places6 (i : grid0.Coords) (k : Fin k0_t1_loop.trips) : HeadPlaces (k0_t26_loop k).trips (k0_t28_loop k).trips where
  q := ⟨k0_off84 k, k0_off84_inb k⟩
  a := ⟨k0_off2 i 6#32, k0_off2_inb i 6⟩
  b := ⟨k0_off3 i 1#32, k0_off3_inb i 1⟩
  v := ⟨k0_off3 i 1#32, k0_off3_inb i 1⟩
  K := fun j => ⟨k0_off85 k j, k0_off85_inb k j⟩
  E := fun j => ⟨k0_off86 k j, k0_off86_inb k j⟩
  M := fun j => ⟨k0_off87 k j, k0_off87_inb k j⟩
  dK := ⟨k0_off64 k, k0_off64_inb k⟩
  dE := ⟨k0_off11 k, k0_off11_inb k⟩
  dM := ⟨k0_off12 k, k0_off12_inb k⟩
  pM := fun j => ⟨k0_off91 k j, k0_off91_inb k j⟩
  pE := fun j => ⟨k0_off92 k j, k0_off92_inb k j⟩
  pV := fun j => ⟨k0_off93 k j, k0_off93_inb k j⟩

/-- Where head 7 reads and writes. -/
def places7 (i : grid0.Coords) (k : Fin k0_t1_loop.trips) : HeadPlaces (k0_t30_loop k).trips (k0_t32_loop k).trips where
  q := ⟨k0_off84 k, k0_off84_inb k⟩
  a := ⟨k0_off2 i 7#32, k0_off2_inb i 7⟩
  b := ⟨k0_off3 i 1#32, k0_off3_inb i 1⟩
  v := ⟨k0_off3 i 1#32, k0_off3_inb i 1⟩
  K := fun j => ⟨k0_off97 k j, k0_off97_inb k j⟩
  E := fun j => ⟨k0_off98 k j, k0_off98_inb k j⟩
  M := fun j => ⟨k0_off99 k j, k0_off99_inb k j⟩
  dK := ⟨k0_off77 k, k0_off77_inb k⟩
  dE := ⟨k0_off11 k, k0_off11_inb k⟩
  dM := ⟨k0_off12 k, k0_off12_inb k⟩
  pM := fun j => ⟨k0_off103 k j, k0_off103_inb k j⟩
  pE := fun j => ⟨k0_off104 k j, k0_off104_inb k j⟩
  pV := fun j => ⟨k0_off105 k j, k0_off105_inb k j⟩

/-- One query tile: four pairs of heads, each pair stored. -/
def tripProg (i : grid0.Coords) (arg2 : Memref sig .tc .smem S32 .f32) (harg2 : arg2.IsWhole) (arg3 : Memref sig .tc .smem S8 .f32) (harg3 : arg3.IsWhole) (arg4 : Memref sig .tc .smem S8 .f32) (harg4 : arg4.IsWhole) (arg5 : Memref sig .tc .vmem S1x4096x512 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x4096x512 .bf16) (harg8 : arg8.IsWhole) (arg9 : Memref sig .tc .vmem S4x4096x128 .fp8e4m3) (harg9 : arg9.IsWhole) (arg10 : Memref sig .tc .vmem S128x4096 .fp8e4m3) (harg10 : arg10.IsWhole) (arg11 : Memref sig .tc .vmem S4096x256 .f32) (harg11 : arg11.IsWhole) (arg12 : Memref sig .tc .vmem S16x8x256 .f32) (harg12 : arg12.IsWhole) (k : Fin k0_t1_loop.trips) : Pr F Unit := do
  let o0 ← headProg arg2 arg3 arg4 arg5 arg9 arg10 arg11 arg12 (k0_t2_loop k) (k0_t4_loop k) (k0_t2_ok k) (k0_t4_ok k) (places0 i k)
  let o1 ← headProg arg2 arg3 arg4 arg5 arg9 arg10 arg11 arg12 (k0_t6_loop k) (k0_t8_loop k) (k0_t6_ok k) (k0_t8_ok k) (places1 i k)
  let _ : Vec F S1x256x128 .bf16 ← Prog.lift (.load arg8 (Rect.unit (s := S1x4096x512) (k0_off1 k) S1x256x128.size (k0_off1_inb k)).toLoadRect (View.loadsAt_vmem h_S1x256x128))
  Prog.lift (.store arg8 (Rect.unit (s := S1x4096x512) (k0_off1 k) S1x256x128.size (k0_off1_inb k)) (pairOut o0 o1) Finset.univ (View.stores_vmem h_S1x256x128 (harg8.storeExact_slice rfl _ (k0_off1_packedbf16 k)) (fun _ => rfl)) (.inl rfl))
  let o2 ← headProg arg2 arg3 arg4 arg5 arg9 arg10 arg11 arg12 (k0_t10_loop k) (k0_t12_loop k) (k0_t10_ok k) (k0_t12_ok k) (places2 i k)
  let o3 ← headProg arg2 arg3 arg4 arg5 arg9 arg10 arg11 arg12 (k0_t14_loop k) (k0_t16_loop k) (k0_t14_ok k) (k0_t16_ok k) (places3 i k)
  let _ : Vec F S1x256x128 .bf16 ← Prog.lift (.load arg8 (Rect.unit (s := S1x4096x512) (k0_off32 k) S1x256x128.size (k0_off32_inb k)).toLoadRect (View.loadsAt_vmem h_S1x256x128))
  Prog.lift (.store arg8 (Rect.unit (s := S1x4096x512) (k0_off32 k) S1x256x128.size (k0_off32_inb k)) (pairOut o2 o3) Finset.univ (View.stores_vmem h_S1x256x128 (harg8.storeExact_slice rfl _ (k0_off32_packedbf16 k)) (fun _ => rfl)) (.inl rfl))
  let o4 ← headProg arg2 arg3 arg4 arg5 arg9 arg10 arg11 arg12 (k0_t18_loop k) (k0_t20_loop k) (k0_t18_ok k) (k0_t20_ok k) (places4 i k)
  let o5 ← headProg arg2 arg3 arg4 arg5 arg9 arg10 arg11 arg12 (k0_t22_loop k) (k0_t24_loop k) (k0_t22_ok k) (k0_t24_ok k) (places5 i k)
  let _ : Vec F S1x256x128 .bf16 ← Prog.lift (.load arg8 (Rect.unit (s := S1x4096x512) (k0_off57 k) S1x256x128.size (k0_off57_inb k)).toLoadRect (View.loadsAt_vmem h_S1x256x128))
  Prog.lift (.store arg8 (Rect.unit (s := S1x4096x512) (k0_off57 k) S1x256x128.size (k0_off57_inb k)) (pairOut o4 o5) Finset.univ (View.stores_vmem h_S1x256x128 (harg8.storeExact_slice rfl _ (k0_off57_packedbf16 k)) (fun _ => rfl)) (.inl rfl))
  let o6 ← headProg arg2 arg3 arg4 arg5 arg9 arg10 arg11 arg12 (k0_t26_loop k) (k0_t28_loop k) (k0_t26_ok k) (k0_t28_ok k) (places6 i k)
  let o7 ← headProg arg2 arg3 arg4 arg5 arg9 arg10 arg11 arg12 (k0_t30_loop k) (k0_t32_loop k) (k0_t30_ok k) (k0_t32_ok k) (places7 i k)
  let _ : Vec F S1x256x128 .bf16 ← Prog.lift (.load arg8 (Rect.unit (s := S1x4096x512) (k0_off84 k) S1x256x128.size (k0_off84_inb k)).toLoadRect (View.loadsAt_vmem h_S1x256x128))
  Prog.lift (.store arg8 (Rect.unit (s := S1x4096x512) (k0_off84 k) S1x256x128.size (k0_off84_inb k)) (pairOut o6 o7) Finset.univ (View.stores_vmem h_S1x256x128 (harg8.storeExact_slice rfl _ (k0_off84_packedbf16 k)) (fun _ => rfl)) (.inl rfl))
  pure ⟨⟩

set_option maxHeartbeats 40000000 in
/-- The printed trip is the tile's program. -/
theorem trip_eq (i : grid0.Coords) (arg2 : Memref sig .tc .smem S32 .f32) (harg2 : arg2.IsWhole) (arg3 : Memref sig .tc .smem S8 .f32) (harg3 : arg3.IsWhole) (arg4 : Memref sig .tc .smem S8 .f32) (harg4 : arg4.IsWhole) (arg5 : Memref sig .tc .vmem S1x4096x512 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x4096x512 .bf16) (harg8 : arg8.IsWhole) (arg9 : Memref sig .tc .vmem S4x4096x128 .fp8e4m3) (harg9 : arg9.IsWhole) (arg10 : Memref sig .tc .vmem S128x4096 .fp8e4m3) (harg10 : arg10.IsWhole) (arg11 : Memref sig .tc .vmem S4096x256 .f32) (harg11 : arg11.IsWhole) (arg12 : Memref sig .tc .vmem S16x8x256 .f32) (harg12 : arg12.IsWhole) (arg1 : BitVec 32) (k : Fin k0_t1_loop.trips) (acc : Unit) :
    k0_t1_body (F := F) i arg2 harg2 arg3 harg3 arg4 harg4 arg5 harg5 arg6 harg6 arg7 harg7 arg8 harg8 arg9 harg9 arg10 harg10 arg11 harg11 arg12 harg12 arg1 k acc = tripProg i arg2 harg2 arg3 harg3 arg4 harg4 arg5 harg5 arg6 harg6 arg7 harg7 arg8 harg8 arg9 harg9 arg10 harg10 arg11 harg11 arg12 harg12 k := by
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part17_skel, k0_part16_skel, k0_part15_skel, k0_part14_skel, k0_part13_skel, k0_part12_skel, k0_part11_skel, k0_part10_skel, k0_part9_skel, k0_part8_skel, k0_part7_skel, k0_part6_skel, k0_part5_skel, k0_part4_skel, k0_part3_skel, k0_part2_skel, k0_part1_skel, for_none (k0_t3_loop k) (k0_t3_ok k) (Nat.le_zero.mp (k0_t3_abs k).2.1), for_none (k0_t5_loop k) (k0_t5_ok k) (Nat.le_zero.mp (k0_t5_abs k).2.1), for_none (k0_t7_loop k) (k0_t7_ok k) (Nat.le_zero.mp (k0_t7_abs k).2.1), for_none (k0_t9_loop k) (k0_t9_ok k) (Nat.le_zero.mp (k0_t9_abs k).2.1), for_none (k0_t11_loop k) (k0_t11_ok k) (Nat.le_zero.mp (k0_t11_abs k).2.1), for_none (k0_t13_loop k) (k0_t13_ok k) (Nat.le_zero.mp (k0_t13_abs k).2.1), for_none (k0_t15_loop k) (k0_t15_ok k) (Nat.le_zero.mp (k0_t15_abs k).2.1), for_none (k0_t17_loop k) (k0_t17_ok k) (Nat.le_zero.mp (k0_t17_abs k).2.1), for_none (k0_t19_loop k) (k0_t19_ok k) (Nat.le_zero.mp (k0_t19_abs k).2.1), for_none (k0_t21_loop k) (k0_t21_ok k) (Nat.le_zero.mp (k0_t21_abs k).2.1), for_none (k0_t23_loop k) (k0_t23_ok k) (Nat.le_zero.mp (k0_t23_abs k).2.1), for_none (k0_t25_loop k) (k0_t25_ok k) (Nat.le_zero.mp (k0_t25_abs k).2.1), for_none (k0_t27_loop k) (k0_t27_ok k) (Nat.le_zero.mp (k0_t27_abs k).2.1), for_none (k0_t29_loop k) (k0_t29_ok k) (Nat.le_zero.mp (k0_t29_abs k).2.1), for_none (k0_t31_loop k) (k0_t31_ok k) (Nat.le_zero.mp (k0_t31_abs k).2.1), for_none (k0_t33_loop k) (k0_t33_ok k) (Nat.le_zero.mp (k0_t33_abs k).2.1), pure_bind, bind_assoc]
  simp only [for_pair, pure_bind, bind_assoc]
  unfold tripProg headProg
  simp only [pure_bind, bind_assoc]
  rfl

end Cert.Proof.KI
-- ==== Proof.KI.Head.lean ====
/- One head's program on buffers held at any contents: what it leaves and what it returns.

   `ML` is the running maxima and sums after the first key tiles, `eAll`/`mAll` the exponentials and maxima the head leaves
   per key tile, `OV` the product with the values after the first tiles, `headOut` the head's output. `head_wp` runs
   `headProg`: whatever the two tables the heads share held before, it returns `headOut` of the queries, the scales, the
   key tiles and the value tiles it reads. -/
module

public import proofs.«01_k».proof.Proof.KI.Program
public import Idealize.ShloMosaic.Lib.VecWindow

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The values -/

section Spec

variable (q : Vec F S1x256x128 .fp8e4m3) (a b : Elt F .f32) (Kc : ℕ → Vec F S1x256x128 .fp8e4m3)
  (Vc : ℕ → Vec F S64x256 .fp8e4m3)

/-- The running maxima and sums after the first `k` key tiles. -/
def ML : ℕ → FVec F S8x256 .f32 × FVec F S8x256 .f32
  | 0 => (k0_pay6, k0_pay7)
  | k + 1 => (k0_pay9 q a b (ML k).1 (Kc k), k0_pay11 q a b (ML k).1 (ML k).2 (Kc k))

/-- The scores of the query tile's own key tile, masked. -/
abbrev TD (n : ℕ) : FVec F S32x8x256 .f32 := k0_pay20 k0_pay2 q a b (Kc n)

/-- Key tile `j`'s exponentials at the maxima then, -/
def eAll (n j : ℕ) : FVec F S256x256 .f32 :=
  if j = n then k0_pay23 (ML q a b Kc n).1 (TD q a b Kc n) else k0_pay12 q a b (ML q a b Kc j).1 (Kc j)

/-- and those maxima. -/
def mAll (n j : ℕ) : FVec F S1x8x256 .f32 :=
  if j = n then k0_pay24 (ML q a b Kc n).1 (TD q a b Kc n) else k0_pay13 q a b (ML q a b Kc j).1 (Kc j)

/-- The product with the values after the first `j` key tiles. -/
def OV (n : ℕ) : ℕ → FVec F S64x256 .f32
  | 0 => k0_pay27
  | j + 1 => k0_pay28 (ML q a b Kc n).1 (ML q a b Kc n).2 (TD q a b Kc n) (OV n j) (mAll q a b Kc n j) (eAll q a b Kc n j) (Vc j)

/-- The head's output at query tile `n`. -/
def headOut (vs : Elt F .f32) (n : ℕ) : FVec F S64x256 .f32 := k0_pay30 (OV q a b Kc Vc n (n + 1)) vs

end Spec

/-! ## The tables the heads share, tile by tile -/

theorem inbE {j : ℕ} (h : j < 16) : ∀ x, (![256 * j, 0] : Fin 2 → ℕ) x + S256x256.size x ≤ S4096x256.size x := by
  intro x; match x with
  | 0 => show 256 * j + 256 ≤ 4096; omega
  | 1 => exact Nat.le_refl _

theorem inbM {j : ℕ} (h : j < 16) : ∀ x, (![j, 0, 0] : Fin 3 → ℕ) x + S1x8x256.size x ≤ S16x8x256.size x := by
  intro x; match x with
  | 0 => show j + 1 ≤ 16; omega
  | 1 => exact Nat.le_refl _
  | 2 => exact Nat.le_refl _

/-- The exponentials' table holds `e j` at every tile `j` of `p`. -/
def HoldsE (X : Vec F S4096x256 .f32) (p : ℕ → Prop) (e : ℕ → FVec F S256x256 .f32) : Prop :=
  ∀ j (h : j < 16), p j → VecWindow.window X ![256 * j, 0] S256x256.size (inbE h) = e j

/-- The maxima's table holds `e j` at every tile `j` of `p`. -/
def HoldsM (X : Vec F S16x8x256 .f32) (p : ℕ → Prop) (e : ℕ → FVec F S1x8x256 .f32) : Prop :=
  ∀ j (h : j < 16), p j → VecWindow.window X ![j, 0, 0] S1x8x256.size (inbM h) = e j

/-- A store at tile `k` adds that tile. -/
theorem HoldsE.put {m : Memref sig .tc .vmem S4096x256 .f32} {f : BufTy.Contents (Elt F) m.view.ty} {p : ℕ → Prop} {e : ℕ → FVec F S256x256 .f32}
    (H : HoldsE (m.view.read (Elt F) f) p e) (P : Place S4096x256 S256x256.size) {k : ℕ} (hP : P.off = ![256 * k, 0])
    (w : FVec F S256x256 .f32) (hw : w = e k) :
    HoldsE (m.view.read (Elt F) (m.view.writes (Elt F) f [⟨Rect.unit P.off S256x256.size P.inb, w⟩])) (fun j => p j ∨ j = k) e := by
  subst hw
  intro j hj hp
  rw [View.read_writes_cons_put m.view f P.inb (e k) [] hP, View.writes_nil]
  by_cases hjk : j = k
  · subst hjk; exact VecWindow.window_put_same _ _ _ (inbE hj) _
  · rw [VecWindow.window_put_of_disjoint _ _ _ _ _ (inbE hj) _ 0 (by
      show 256 * j + 256 ≤ 256 * k ∨ 256 * k + 256 ≤ 256 * j
      omega)]
    exact H j hj (hp.resolve_right hjk)

/-- A store at tile `k` adds that tile. -/
theorem HoldsM.put {m : Memref sig .tc .vmem S16x8x256 .f32} {f : BufTy.Contents (Elt F) m.view.ty} {p : ℕ → Prop} {e : ℕ → FVec F S1x8x256 .f32}
    (H : HoldsM (m.view.read (Elt F) f) p e) (P : Place S16x8x256 S1x8x256.size) {k : ℕ} (hP : P.off = ![k, 0, 0])
    (w : FVec F S1x8x256 .f32) (hw : w = e k) :
    HoldsM (m.view.read (Elt F) (m.view.writes (Elt F) f [⟨Rect.unit P.off S1x8x256.size P.inb, w⟩])) (fun j => p j ∨ j = k) e := by
  subst hw
  intro j hj hp
  rw [View.read_writes_cons_put m.view f P.inb (e k) [] hP, View.writes_nil]
  by_cases hjk : j = k
  · subst hjk; exact VecWindow.window_put_same _ _ _ (inbM hj) _
  · rw [VecWindow.window_put_of_disjoint _ _ _ _ _ (inbM hj) _ 0 (by
      show j + 1 ≤ k ∨ k + 1 ≤ j
      omega)]
    exact H j hj (hp.resolve_right hjk)

theorem HoldsE.mono {X : Vec F S4096x256 .f32} {p p' : ℕ → Prop} {e e' : ℕ → FVec F S256x256 .f32} (H : HoldsE X p e)
    (h : ∀ j, p' j → p j ∧ e j = e' j) : HoldsE X p' e' := fun j hj hp => (H j hj (h j hp).1).trans (h j hp).2

theorem HoldsM.mono {X : Vec F S16x8x256 .f32} {p p' : ℕ → Prop} {e e' : ℕ → FVec F S1x8x256 .f32} (H : HoldsM X p e)
    (h : ∀ j, p' j → p j ∧ e j = e' j) : HoldsM X p' e' := fun j hj hp => (H j hj (h j hp).1).trans (h j hp).2

/-- A load at a tile of the table. -/
theorem HoldsE.get {m : Memref sig .tc .vmem S4096x256 .f32} {f : BufTy.Contents (Elt F) m.view.ty} {p : ℕ → Prop} {e : ℕ → FVec F S256x256 .f32}
    (H : HoldsE (m.view.read (Elt F) f) p e) (P : Place S4096x256 S256x256.size) {k : ℕ} (hk : k < 16) (hp : p k) (hP : P.off = ![256 * k, 0]) :
    View.readAt (Elt F) m.view (Rect.unit P.off S256x256.size P.inb).toLoadRect f = e k := by
  rw [View.readAt_unit m.view f P.inb hP (inbE hk)]; exact H k hk hp

/-- A load at a tile of the table. -/
theorem HoldsM.get {m : Memref sig .tc .vmem S16x8x256 .f32} {f : BufTy.Contents (Elt F) m.view.ty} {p : ℕ → Prop} {e : ℕ → FVec F S1x8x256 .f32}
    (H : HoldsM (m.view.read (Elt F) f) p e) (P : Place S16x8x256 S1x8x256.size) {k : ℕ} (hk : k < 16) (hp : p k) (hP : P.off = ![k, 0, 0]) :
    View.readAt (Elt F) m.view (Rect.unit P.off S1x8x256.size P.inb).toLoadRect f = e k := by
  rw [View.readAt_unit m.view f P.inb hP (inbM hk)]; exact H k hk hp

/-! ## The two loops -/

/-- Before trip `k` of the pass over the earlier key tiles. -/
def scoreI (c : Dev nD) (arg9 : Memref sig .tc .vmem S4x4096x128 .fp8e4m3) (arg11 : Memref sig .tc .vmem S4096x256 .f32) (arg12 : Memref sig .tc .vmem S16x8x256 .f32) (f9 : BufTy.Contents (Elt F) arg9.view.ty) (q : Vec F S1x256x128 .fp8e4m3) (a b : Elt F .f32) (Kc : ℕ → Vec F S1x256x128 .fp8e4m3)
    (k : ℕ) (acc : FVec F S8x256 .f32 × FVec F S8x256 .f32) : sProp 𝕄 :=
  iprop((arg9.view.loc (c : Thread nD τ) ↦[arg9.view.set]{fullShare} f9) ∗ (∃ f : BufTy.Contents (Elt F) arg11.view.ty, (arg11.view.loc (c : Thread nD τ) ↦[arg11.view.set]{fullShare} f) ∗ ⌜HoldsE (arg11.view.read (Elt F) f) (· < k) (fun j => k0_pay12 q a b (ML q a b Kc j).1 (Kc j))⌝)
    ∗ (∃ f : BufTy.Contents (Elt F) arg12.view.ty, (arg12.view.loc (c : Thread nD τ) ↦[arg12.view.set]{fullShare} f) ∗ ⌜HoldsM (arg12.view.read (Elt F) f) (· < k) (fun j => k0_pay13 q a b (ML q a b Kc j).1 (Kc j))⌝)
    ∗ ⌜acc = ML q a b Kc k⌝)

set_option maxHeartbeats 4000000 in
/-- The pass over the earlier key tiles, one trip. -/
theorem score_step (c : Dev nD) (arg9 : Memref sig .tc .vmem S4x4096x128 .fp8e4m3) (arg11 : Memref sig .tc .vmem S4096x256 .f32) (arg12 : Memref sig .tc .vmem S16x8x256 .f32) (f9 : BufTy.Contents (Elt F) arg9.view.ty) (q : Vec F S1x256x128 .fp8e4m3) (a b : Elt F .f32) (Kc : ℕ → Vec F S1x256x128 .fp8e4m3)
    {n : ℕ} (oK : Fin n → Place S4x4096x128 S1x256x128.size) (oE : Fin n → Place S4096x256 S256x256.size) (oM : Fin n → Place S16x8x256 S1x8x256.size)
    (hK : ∀ j : Fin n, View.readAt (Elt F) arg9.view (Rect.unit (oK j).off S1x256x128.size (oK j).inb).toLoadRect f9 = Kc j)
    (hE : ∀ j : Fin n, (oE j).off = ![256 * j.val, 0]) (hM : ∀ j : Fin n, (oM j).off = ![j.val, 0, 0])
    (k : Fin n) (acc : FVec F S8x256 .f32 × FVec F S8x256 .f32) :
    (scoreI c arg9 arg11 arg12 f9 q a b Kc k.val acc : sProp 𝕄)
      ⊢ wp frame (wpE (defs₀ (F := F)) Variants.none (c : Thread nD τ) none) Set.univ (scoreBody arg9 arg11 arg12 oK oE oM q a b k acc)
        (scoreI c arg9 arg11 arg12 f9 q a b Kc (k.val + 1)) := by
  unfold scoreBody scoreI
  iintro ⟨H9, ⟨%f11, H11, %h11⟩, ⟨%f12, H12, %h12⟩, %hacc⟩
  subst hacc
  sl_exec
  sl_step
  isplitl [H9]; · iexact H9
  isplitl [H11]
  · iexists _
    isplitl [H11]; · iexact H11
    ipureintro
    intro j hj hjk
    exact HoldsE.put (e := fun j => k0_pay12 q a b (ML q a b Kc j).1 (Kc j)) h11 (oE k) (hE k) _ rfl j hj (by omega)
  isplitl [H12]
  · iexists _
    isplitl [H12]; · iexact H12
    ipureintro
    intro j hj hjk
    exact HoldsM.put (e := fun j => k0_pay13 q a b (ML q a b Kc j).1 (Kc j)) h12 (oM k) (hM k) _ rfl j hj (by omega)
  ipureintro
  rfl

/-- Before trip `k` of the product with the values. -/
def valueI (c : Dev nD) (arg10 : Memref sig .tc .vmem S128x4096 .fp8e4m3) (arg11 : Memref sig .tc .vmem S4096x256 .f32) (arg12 : Memref sig .tc .vmem S16x8x256 .f32) (f10 : BufTy.Contents (Elt F) arg10.view.ty) (f11 : BufTy.Contents (Elt F) arg11.view.ty) (f12 : BufTy.Contents (Elt F) arg12.view.ty)
    (O : ℕ → FVec F S64x256 .f32) (k : ℕ) (acc : FVec F S64x256 .f32) : sProp 𝕄 :=
  iprop((arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ ⌜acc = O k⌝)

set_option maxHeartbeats 4000000 in
/-- The product with the values, one trip. -/
theorem value_step (c : Dev nD) (arg10 : Memref sig .tc .vmem S128x4096 .fp8e4m3) (arg11 : Memref sig .tc .vmem S4096x256 .f32) (arg12 : Memref sig .tc .vmem S16x8x256 .f32) (f10 : BufTy.Contents (Elt F) arg10.view.ty) (f11 : BufTy.Contents (Elt F) arg11.view.ty) (f12 : BufTy.Contents (Elt F) arg12.view.ty)
    {n : ℕ} (oM : Fin n → Place S16x8x256 S1x8x256.size) (oE : Fin n → Place S4096x256 S256x256.size) (oV : Fin n → Place S128x4096 S64x256.size) (m l : FVec F S8x256 .f32) (t : FVec F S32x8x256 .f32)
    (O : ℕ → FVec F S64x256 .f32)
    (hO : ∀ j : Fin n, O (j.val + 1) = k0_pay28 m l t (O j.val) (View.readAt (Elt F) arg12.view (Rect.unit (oM j).off S1x8x256.size (oM j).inb).toLoadRect f12) (View.readAt (Elt F) arg11.view (Rect.unit (oE j).off S256x256.size (oE j).inb).toLoadRect f11) (View.readAt (Elt F) arg10.view (Rect.unit (oV j).off S64x256.size (oV j).inb).toLoadRect f10))
    (k : Fin n) (acc : FVec F S64x256 .f32) :
    (valueI c arg10 arg11 arg12 f10 f11 f12 O k.val acc : sProp 𝕄)
      ⊢ wp frame (wpE (defs₀ (F := F)) Variants.none (c : Thread nD τ) none) Set.univ (valueBody arg10 arg11 arg12 oM oE oV m l t k acc)
        (valueI c arg10 arg11 arg12 f10 f11 f12 O (k.val + 1)) := by
  unfold valueBody valueI
  iintro ⟨H10, H11, H12, %hacc⟩
  subst hacc
  sl_exec
  sl_step
  isplitl [H10]; · iexact H10
  isplitl [H11]; · iexact H11
  isplitl [H12]; · iexact H12
  ipureintro
  exact (hO k).symm

/-! ## One head -/

/-- What a head is given and gives back: the scales, the queries, the keys and the values at their contents, the two
    shared tables at any. -/
def HeadHeld (c : Dev nD) (arg2 : Memref sig .tc .smem S32 .f32) (arg3 : Memref sig .tc .smem S8 .f32) (arg4 : Memref sig .tc .smem S8 .f32) (arg5 : Memref sig .tc .vmem S1x4096x512 .fp8e4m3) (arg9 : Memref sig .tc .vmem S4x4096x128 .fp8e4m3) (arg10 : Memref sig .tc .vmem S128x4096 .fp8e4m3) (arg11 : Memref sig .tc .vmem S4096x256 .f32) (arg12 : Memref sig .tc .vmem S16x8x256 .f32)
    (f2 : BufTy.Contents (Elt F) arg2.view.ty) (f3 : BufTy.Contents (Elt F) arg3.view.ty) (f4 : BufTy.Contents (Elt F) arg4.view.ty) (f5 : BufTy.Contents (Elt F) arg5.view.ty) (f9 : BufTy.Contents (Elt F) arg9.view.ty) (f10 : BufTy.Contents (Elt F) arg10.view.ty) : sProp 𝕄 :=
  iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg9.view.loc (c : Thread nD τ) ↦[arg9.view.set]{fullShare} f9) ∗ (arg10.view.loc (c : Thread nD τ) ↦[arg10.view.set]{fullShare} f10) ∗ (∃ f : BufTy.Contents (Elt F) arg11.view.ty, (arg11.view.loc (c : Thread nD τ) ↦[arg11.view.set]{fullShare} f)) ∗ (∃ f : BufTy.Contents (Elt F) arg12.view.ty, (arg12.view.loc (c : Thread nD τ) ↦[arg12.view.set]{fullShare} f)))

/-- What the places of a head at query tile `n` must be. -/
structure HeadAt {n n' : ℕ} (P : HeadPlaces n n') : Prop where
  hn : n < 16
  hn' : n' = n + 1
  E : ∀ j, (P.E j).off = ![256 * j.val, 0]
  M : ∀ j, (P.M j).off = ![j.val, 0, 0]
  dE : P.dE.off = ![256 * n, 0]
  dM : P.dM.off = ![n, 0, 0]
  pM : ∀ j, (P.pM j).off = ![j.val, 0, 0]
  pE : ∀ j, (P.pE j).off = ![256 * j.val, 0]

set_option maxHeartbeats 4000000 in
/-- One head's run. -/
theorem head_wp (c : Dev nD) (arg2 : Memref sig .tc .smem S32 .f32) (arg3 : Memref sig .tc .smem S8 .f32) (arg4 : Memref sig .tc .smem S8 .f32) (arg5 : Memref sig .tc .vmem S1x4096x512 .fp8e4m3) (arg9 : Memref sig .tc .vmem S4x4096x128 .fp8e4m3) (arg10 : Memref sig .tc .vmem S128x4096 .fp8e4m3) (arg11 : Memref sig .tc .vmem S4096x256 .f32) (arg12 : Memref sig .tc .vmem S16x8x256 .f32)
    (f2 : BufTy.Contents (Elt F) arg2.view.ty) (f3 : BufTy.Contents (Elt F) arg3.view.ty) (f4 : BufTy.Contents (Elt F) arg4.view.ty) (f5 : BufTy.Contents (Elt F) arg5.view.ty) (f9 : BufTy.Contents (Elt F) arg9.view.ty) (f10 : BufTy.Contents (Elt F) arg10.view.ty)
    (l l' : Scf.Loop 32) (ok : l.OK) (ok' : l'.OK) (P : HeadPlaces l.trips l'.trips) (hP : HeadAt P)
    (q : Vec F S1x256x128 .fp8e4m3) (a b vs : Elt F .f32) (Kc : ℕ → Vec F S1x256x128 .fp8e4m3) (Vc : ℕ → Vec F S64x256 .fp8e4m3)
    (hq : View.readAt (Elt F) arg5.view (Rect.unit P.q.off S1x256x128.size P.q.inb).toLoadRect f5 = q)
    (ha : (View.readAt (Elt F) arg2.view (Rect.unit P.a.off S1.size P.a.inb).toLoadRect f2) (Shape.Idx.first (numel1_S1.symm ▸ Nat.one_pos)) = a)
    (hb : (View.readAt (Elt F) arg3.view (Rect.unit P.b.off S1.size P.b.inb).toLoadRect f3) (Shape.Idx.first (numel1_S1.symm ▸ Nat.one_pos)) = b)
    (hv : (View.readAt (Elt F) arg4.view (Rect.unit P.v.off S1.size P.v.inb).toLoadRect f4) (Shape.Idx.first (numel1_S1.symm ▸ Nat.one_pos)) = vs)
    (hK : ∀ j, View.readAt (Elt F) arg9.view (Rect.unit (P.K j).off S1x256x128.size (P.K j).inb).toLoadRect f9 = Kc j.val)
    (hD : View.readAt (Elt F) arg9.view (Rect.unit P.dK.off S1x256x128.size P.dK.inb).toLoadRect f9 = Kc l.trips)
    (hV : ∀ j, View.readAt (Elt F) arg10.view (Rect.unit (P.pV j).off S64x256.size (P.pV j).inb).toLoadRect f10 = Vc j.val)
    {β : Type} (kk : FVec F S64x256 .f32 → Pr F β) (Q : β → sProp 𝕄) :
    (iprop(HeadHeld c arg2 arg3 arg4 arg5 arg9 arg10 arg11 arg12 f2 f3 f4 f5 f9 f10 ∗
      (HeadHeld c arg2 arg3 arg4 arg5 arg9 arg10 arg11 arg12 f2 f3 f4 f5 f9 f10
        -∗ wp frame (wpE (defs₀ (F := F)) Variants.none (c : Thread nD τ) none) Set.univ (kk (headOut q a b Kc Vc vs l.trips)) Q)) : sProp 𝕄)
      ⊢ wp frame (wpE (defs₀ (F := F)) Variants.none (c : Thread nD τ) none) Set.univ
        (headProg arg2 arg3 arg4 arg5 arg9 arg10 arg11 arg12 l l' ok ok' P >>= kk) Q := by
  unfold headProg HeadHeld loopP
  simp only [bind_assoc, pure_bind]
  iintro ⟨⟨H2, H3, H4, H5, H9, H10, ⟨%f11, H11⟩, ⟨%f12, H12⟩⟩, Hk⟩
  sl_exec
  rw [show head_wp.sl.r arg2 f2 l l' P = a from ha, show head_wp.sl.r_1 arg3 f3 l l' P = b from hb]
  iapply (Scf.wp_for_bind _ _ _ l.lb l.ub l.st ok _ _ (scoreI c arg9 arg11 arg12 f9 q a b Kc)
    (score_step c arg9 arg11 arg12 f9 q a b Kc P.K P.E P.M hK hP.E hP.M)) $$ [H9 H11 H12]
  · unfold scoreI
    isplitl [H9]; · iexact H9
    isplitl [H11]
    · iexists f11
      isplitl [H11]; · iexact H11
      ipureintro; intro j _ h; exact absurd h (Nat.not_lt_zero j)
    isplitl [H12]
    · iexists f12
      isplitl [H12]; · iexact H12
      ipureintro; intro j _ h; exact absurd h (Nat.not_lt_zero j)
    ipureintro; rfl
  iintro %acc Hinv
  unfold scoreI
  icases Hinv with ⟨H9, ⟨%g11, H11, %h11⟩, ⟨%g12, H12, %h12⟩, %hacc⟩
  subst hacc
  sl_exec
  have hn := hP.hn
  have hE' := HoldsE.put (HoldsE.mono (e' := eAll q a b Kc l.trips) h11 fun j hj => ⟨hj, (if_neg (Nat.ne_of_lt hj)).symm⟩)
    P.dE hP.dE (k0_pay23 (ML q a b Kc l.trips).1 (TD q a b Kc l.trips)) (if_pos rfl).symm
  have hM' := HoldsM.put (HoldsM.mono (e' := mAll q a b Kc l.trips) h12 fun j hj => ⟨hj, (if_neg (Nat.ne_of_lt hj)).symm⟩)
    P.dM hP.dM (k0_pay24 (ML q a b Kc l.trips).1 (TD q a b Kc l.trips)) (if_pos rfl).symm
  have hO : ∀ j : Fin l'.trips, OV q a b Kc Vc l.trips (j.val + 1) = k0_pay28 (ML q a b Kc l.trips).1 (ML q a b Kc l.trips).2
      (TD q a b Kc l.trips) (OV q a b Kc Vc l.trips j.val) _ _ _ := fun j => by
    have hj : j.val < 16 := by have := j.isLt; have := hP.hn'; omega
    have hj' : j.val < l.trips ∨ j.val = l.trips := by have := j.isLt; have := hP.hn'; omega
    show k0_pay28 _ _ _ _ (mAll q a b Kc l.trips j.val) (eAll q a b Kc l.trips j.val) (Vc j.val) = _
    rw [← hV j, ← HoldsE.get hE' (P.pE j) hj hj' (hP.pE j), ← HoldsM.get hM' (P.pM j) hj hj' (hP.pM j)]
  iapply (Scf.wp_for_bind _ _ _ l'.lb l'.ub l'.st ok' _ _ (valueI c arg10 arg11 arg12 f10 _ _ (OV q a b Kc Vc l.trips))
    (value_step c arg10 arg11 arg12 f10 _ _ P.pM P.pE P.pV _ _ _ _ hO)) $$ [H10 H11 H12]
  · unfold valueI
    isplitl [H10]; · iexact H10
    isplitl [H11]; · iexact H11
    isplitl [H12]; · iexact H12
    ipureintro; rfl
  iintro %acc Hinv
  unfold valueI
  icases Hinv with ⟨H10, H11, H12, %hacc⟩
  subst hacc
  sl_exec
  rw [show head_wp.sl.r_2 arg4 f4 l l' P = vs from hv]
  have hout : k0_pay30 (OV q a b Kc Vc l.trips (Scf.trips l'.lb l'.ub l'.st)) vs = headOut q a b Kc Vc vs l.trips := by
    show k0_pay30 (OV q a b Kc Vc l.trips l'.trips) vs = _
    rw [hP.hn']; rfl
  rw [hout]
  iapply Hk
  isplitl [H2]; · iexact H2
  isplitl [H3]; · iexact H3
  isplitl [H4]; · iexact H4
  isplitl [H5]; · iexact H5
  isplitl [H9]; · iexact H9
  isplitl [H10]; · iexact H10
  isplitl [H11]
  · iexists _; iexact H11
  · iexists _; iexact H12

end Cert.Proof.KI
-- ==== Proof.KI.Places.lean ====
/- Where each head reads and writes, in closed form: head `h` of head group `g` at query tile `k` reads the 256 query rows of
   tile `k` in the 128 columns of its pair, the scales `8 * g + h` and `2 * g + kv`, key tile `j` of the key table's copy
   `va`, and value tile `j` of the 64 rows of its key head `kv`; its tables' tile `j` is tile `j` of the shared tables. -/
module

public import proofs.«01_k».proof.Proof.KI.Head

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The head at tile `k` reads and writes where the header says. -/
structure HeadSpec (g k h kv va pr : ℕ) {n n' : ℕ} (P : HeadPlaces n n') : Prop where
  hn : n = k
  hn' : n' = k + 1
  q : P.q.off = ![0, 256 * k, 128 * pr]
  a : P.a.off = ![8 * g + h]
  b : P.b.off = ![2 * g + kv]
  v : P.v.off = ![2 * g + kv]
  K : ∀ j, (P.K j).off = ![va, 256 * j.val, 0]
  dK : P.dK.off = ![va, 256 * k, 0]
  E : ∀ j, (P.E j).off = ![256 * j.val, 0]
  M : ∀ j, (P.M j).off = ![j.val, 0, 0]
  dE : P.dE.off = ![256 * k, 0]
  dM : P.dM.off = ![k, 0, 0]
  pM : ∀ j, (P.pM j).off = ![j.val, 0, 0]
  pE : ∀ j, (P.pE j).off = ![256 * j.val, 0]
  pV : ∀ j, (P.pV j).off = ![64 * kv, 256 * j.val]

/-- Which is all `head_wp` asks of the places. -/
theorem HeadSpec.at {g k h kv va pr : ℕ} {n n' : ℕ} {P : HeadPlaces n n'} (hk : k < 16) (H : HeadSpec g k h kv va pr P) : HeadAt P := by
  obtain ⟨rfl, hn', -, -, -, -, -, -, hE, hM, hdE, hdM, hpM, hpE, -⟩ := H
  exact ⟨hk, hn', hE, hM, hdE, hdM, hpM, hpE⟩

theorem k_lt (k : Fin k0_t1_loop.trips) : k.val < 16 := k.isLt

theorem off2_eq (i : grid0.Coords) (h : Fin 8) : k0_off2 i (BitVec.ofNat 32 h.val) = ![8 * (i 1).val + h.val] := by
  have h1 : (i 1).val < 4 := (i 1).isLt
  have key : ∀ n : Fin 4, ∀ h : Fin 8, (Scalar.indexCast (Scalar.addi (Scalar.muli (BitVec.ofNat 32 n.val) 8#32) (BitVec.ofNat 32 h.val))).toNat = 8 * n.val + h.val := by decide +kernel
  exact congrArg (fun x => ![x]) (key ⟨(i 1).val, h1⟩ h)

theorem off3_eq (i : grid0.Coords) (h : Fin 2) : k0_off3 i (BitVec.ofNat 32 h.val) = ![2 * (i 1).val + h.val] := by
  have h1 : (i 1).val < 4 := (i 1).isLt
  have key : ∀ n : Fin 4, ∀ h : Fin 2, (Scalar.indexCast (Scalar.addi (Scalar.muli (BitVec.ofNat 32 n.val) 2#32) (BitVec.ofNat 32 h.val))).toNat = 2 * n.val + h.val := by decide +kernel
  exact congrArg (fun x => ![x]) (key ⟨(i 1).val, h1⟩ h)

theorem off11_eq : ∀ k, k0_off11 k = ![256 * k.val, 0] := by decide +kernel
theorem off12_eq : ∀ k, k0_off12 k = ![k.val, 0, 0] := by decide +kernel
theorem off1_eq : ∀ k, k0_off1 k = ![0, 256 * k.val, 0] := by decide +kernel
theorem off32_eq : ∀ k, k0_off32 k = ![0, 256 * k.val, 128] := by decide +kernel
theorem off57_eq : ∀ k, k0_off57 k = ![0, 256 * k.val, 256] := by decide +kernel
theorem off84_eq : ∀ k, k0_off84 k = ![0, 256 * k.val, 384] := by decide +kernel
theorem off10_eq : ∀ k, k0_off10 k = ![0, 256 * k.val, 0] := by decide +kernel
theorem off25_eq : ∀ k, k0_off25 k = ![1, 256 * k.val, 0] := by decide +kernel
theorem off64_eq : ∀ k, k0_off64 k = ![2, 256 * k.val, 0] := by decide +kernel
theorem off77_eq : ∀ k, k0_off77 k = ![3, 256 * k.val, 0] := by decide +kernel

/-- Head 0. -/
theorem headSpec0 (i : grid0.Coords) (k : Fin k0_t1_loop.trips) : HeadSpec (i 1).val k.val 0 0 0 0 (places0 i k) where
  hn := (by decide +kernel : ∀ k, (k0_t2_loop k).trips = k.val) k
  hn' := (by decide +kernel : ∀ k, (k0_t4_loop k).trips = k.val + 1) k
  q := off1_eq k
  a := off2_eq i 0
  b := off3_eq i 0
  v := off3_eq i 0
  K := (by decide +kernel : ∀ k j, k0_off4 k j = ![0, 256 * j.val, 0]) k
  dK := off10_eq k
  E := (by decide +kernel : ∀ k j, k0_off5 k j = ![256 * j.val, 0]) k
  M := (by decide +kernel : ∀ k j, k0_off6 k j = ![j.val, 0, 0]) k
  dE := off11_eq k
  dM := off12_eq k
  pM := (by decide +kernel : ∀ k j, k0_off13 k j = ![j.val, 0, 0]) k
  pE := (by decide +kernel : ∀ k j, k0_off14 k j = ![256 * j.val, 0]) k
  pV := (by decide +kernel : ∀ k j, k0_off15 k j = ![0, 256 * j.val]) k

/-- Head 1. -/
theorem headSpec1 (i : grid0.Coords) (k : Fin k0_t1_loop.trips) : HeadSpec (i 1).val k.val 1 0 1 0 (places1 i k) where
  hn := (by decide +kernel : ∀ k, (k0_t6_loop k).trips = k.val) k
  hn' := (by decide +kernel : ∀ k, (k0_t8_loop k).trips = k.val + 1) k
  q := off1_eq k
  a := off2_eq i 1
  b := off3_eq i 0
  v := off3_eq i 0
  K := (by decide +kernel : ∀ k j, k0_off19 k j = ![1, 256 * j.val, 0]) k
  dK := off25_eq k
  E := (by decide +kernel : ∀ k j, k0_off20 k j = ![256 * j.val, 0]) k
  M := (by decide +kernel : ∀ k j, k0_off21 k j = ![j.val, 0, 0]) k
  dE := off11_eq k
  dM := off12_eq k
  pM := (by decide +kernel : ∀ k j, k0_off26 k j = ![j.val, 0, 0]) k
  pE := (by decide +kernel : ∀ k j, k0_off27 k j = ![256 * j.val, 0]) k
  pV := (by decide +kernel : ∀ k j, k0_off28 k j = ![0, 256 * j.val]) k

/-- Head 2. -/
theorem headSpec2 (i : grid0.Coords) (k : Fin k0_t1_loop.trips) : HeadSpec (i 1).val k.val 2 0 0 1 (places2 i k) where
  hn := (by decide +kernel : ∀ k, (k0_t10_loop k).trips = k.val) k
  hn' := (by decide +kernel : ∀ k, (k0_t12_loop k).trips = k.val + 1) k
  q := off32_eq k
  a := off2_eq i 2
  b := off3_eq i 0
  v := off3_eq i 0
  K := (by decide +kernel : ∀ k j, k0_off33 k j = ![0, 256 * j.val, 0]) k
  dK := off10_eq k
  E := (by decide +kernel : ∀ k j, k0_off34 k j = ![256 * j.val, 0]) k
  M := (by decide +kernel : ∀ k j, k0_off35 k j = ![j.val, 0, 0]) k
  dE := off11_eq k
  dM := off12_eq k
  pM := (by decide +kernel : ∀ k j, k0_off39 k j = ![j.val, 0, 0]) k
  pE := (by decide +kernel : ∀ k j, k0_off40 k j = ![256 * j.val, 0]) k
  pV := (by decide +kernel : ∀ k j, k0_off41 k j = ![0, 256 * j.val]) k

/-- Head 3. -/
theorem headSpec3 (i : grid0.Coords) (k : Fin k0_t1_loop.trips) : HeadSpec (i 1).val k.val 3 0 1 1 (places3 i k) where
  hn := (by decide +kernel : ∀ k, (k0_t14_loop k).trips = k.val) k
  hn' := (by decide +kernel : ∀ k, (k0_t16_loop k).trips = k.val + 1) k
  q := off32_eq k
  a := off2_eq i 3
  b := off3_eq i 0
  v := off3_eq i 0
  K := (by decide +kernel : ∀ k j, k0_off45 k j = ![1, 256 * j.val, 0]) k
  dK := off25_eq k
  E := (by decide +kernel : ∀ k j, k0_off46 k j = ![256 * j.val, 0]) k
  M := (by decide +kernel : ∀ k j, k0_off47 k j = ![j.val, 0, 0]) k
  dE := off11_eq k
  dM := off12_eq k
  pM := (by decide +kernel : ∀ k j, k0_off51 k j = ![j.val, 0, 0]) k
  pE := (by decide +kernel : ∀ k j, k0_off52 k j = ![256 * j.val, 0]) k
  pV := (by decide +kernel : ∀ k j, k0_off53 k j = ![0, 256 * j.val]) k

/-- Head 4. -/
theorem headSpec4 (i : grid0.Coords) (k : Fin k0_t1_loop.trips) : HeadSpec (i 1).val k.val 4 1 2 2 (places4 i k) where
  hn := (by decide +kernel : ∀ k, (k0_t18_loop k).trips = k.val) k
  hn' := (by decide +kernel : ∀ k, (k0_t20_loop k).trips = k.val + 1) k
  q := off57_eq k
  a := off2_eq i 4
  b := off3_eq i 1
  v := off3_eq i 1
  K := (by decide +kernel : ∀ k j, k0_off58 k j = ![2, 256 * j.val, 0]) k
  dK := off64_eq k
  E := (by decide +kernel : ∀ k j, k0_off59 k j = ![256 * j.val, 0]) k
  M := (by decide +kernel : ∀ k j, k0_off60 k j = ![j.val, 0, 0]) k
  dE := off11_eq k
  dM := off12_eq k
  pM := (by decide +kernel : ∀ k j, k0_off65 k j = ![j.val, 0, 0]) k
  pE := (by decide +kernel : ∀ k j, k0_off66 k j = ![256 * j.val, 0]) k
  pV := (by decide +kernel : ∀ k j, k0_off67 k j = ![64, 256 * j.val]) k

/-- Head 5. -/
theorem headSpec5 (i : grid0.Coords) (k : Fin k0_t1_loop.trips) : HeadSpec (i 1).val k.val 5 1 3 2 (places5 i k) where
  hn := (by decide +kernel : ∀ k, (k0_t22_loop k).trips = k.val) k
  hn' := (by decide +kernel : ∀ k, (k0_t24_loop k).trips = k.val + 1) k
  q := off57_eq k
  a := off2_eq i 5
  b := off3_eq i 1
  v := off3_eq i 1
  K := (by decide +kernel : ∀ k j, k0_off71 k j = ![3, 256 * j.val, 0]) k
  dK := off77_eq k
  E := (by decide +kernel : ∀ k j, k0_off72 k j = ![256 * j.val, 0]) k
  M := (by decide +kernel : ∀ k j, k0_off73 k j = ![j.val, 0, 0]) k
  dE := off11_eq k
  dM := off12_eq k
  pM := (by decide +kernel : ∀ k j, k0_off78 k j = ![j.val, 0, 0]) k
  pE := (by decide +kernel : ∀ k j, k0_off79 k j = ![256 * j.val, 0]) k
  pV := (by decide +kernel : ∀ k j, k0_off80 k j = ![64, 256 * j.val]) k

/-- Head 6. -/
theorem headSpec6 (i : grid0.Coords) (k : Fin k0_t1_loop.trips) : HeadSpec (i 1).val k.val 6 1 2 3 (places6 i k) where
  hn := (by decide +kernel : ∀ k, (k0_t26_loop k).trips = k.val) k
  hn' := (by decide +kernel : ∀ k, (k0_t28_loop k).trips = k.val + 1) k
  q := off84_eq k
  a := off2_eq i 6
  b := off3_eq i 1
  v := off3_eq i 1
  K := (by decide +kernel : ∀ k j, k0_off85 k j = ![2, 256 * j.val, 0]) k
  dK := off64_eq k
  E := (by decide +kernel : ∀ k j, k0_off86 k j = ![256 * j.val, 0]) k
  M := (by decide +kernel : ∀ k j, k0_off87 k j = ![j.val, 0, 0]) k
  dE := off11_eq k
  dM := off12_eq k
  pM := (by decide +kernel : ∀ k j, k0_off91 k j = ![j.val, 0, 0]) k
  pE := (by decide +kernel : ∀ k j, k0_off92 k j = ![256 * j.val, 0]) k
  pV := (by decide +kernel : ∀ k j, k0_off93 k j = ![64, 256 * j.val]) k

/-- Head 7. -/
theorem headSpec7 (i : grid0.Coords) (k : Fin k0_t1_loop.trips) : HeadSpec (i 1).val k.val 7 1 3 3 (places7 i k) where
  hn := (by decide +kernel : ∀ k, (k0_t30_loop k).trips = k.val) k
  hn' := (by decide +kernel : ∀ k, (k0_t32_loop k).trips = k.val + 1) k
  q := off84_eq k
  a := off2_eq i 7
  b := off3_eq i 1
  v := off3_eq i 1
  K := (by decide +kernel : ∀ k j, k0_off97 k j = ![3, 256 * j.val, 0]) k
  dK := off77_eq k
  E := (by decide +kernel : ∀ k j, k0_off98 k j = ![256 * j.val, 0]) k
  M := (by decide +kernel : ∀ k j, k0_off99 k j = ![j.val, 0, 0]) k
  dE := off11_eq k
  dM := off12_eq k
  pM := (by decide +kernel : ∀ k j, k0_off103 k j = ![j.val, 0, 0]) k
  pE := (by decide +kernel : ∀ k j, k0_off104 k j = ![256 * j.val, 0]) k
  pV := (by decide +kernel : ∀ k j, k0_off105 k j = ![64, 256 * j.val]) k

end Cert.Proof.KI

end
-- ==== Proof.KI.Trip.lean ====
/- One trip of the loop over the query tiles, with its value.

   `kvarSlab` is a copy of the keys in the key table, `kChunk`/`vChunk`/`qChunk` its tiles, the value tiles and the query
   tiles, `headVal` a head's output at a query tile, `tileVal` a pair's block of the result, as functions of what the kernel
   loads. `trip` runs a trip: the result's four blocks of query tile `k` are added to those it holds. -/
module

public import proofs.«01_k».proof.Proof.KI.Places

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The values -/

/-- Copy `va` of the keys: a key head's 64 lanes in the lower or the upper half of the lanes, the others zero. -/
def kvarSlab (va : ℕ) (x6 : Vec F S1x4096x128 .fp8e4m3) : FVec F S1x4096x128 .fp8e4m3 :=
  match va with
  | 0 => k0_pay228 x6
  | 1 => k0_pay229 x6
  | 2 => k0_pay230 x6
  | _ => k0_pay231 x6

theorem inbSlab (va : ℕ) : ∀ a, (![va % 4, 0, 0] : Fin 3 → ℕ) a + S1x4096x128.size a ≤ S4x4096x128.size a := by
  have := Nat.mod_lt va (show 0 < 4 by omega)
  intro a; match a with
  | 0 => show va % 4 + 1 ≤ 4; omega
  | 1 => exact Nat.le_refl _
  | 2 => exact Nat.le_refl _

theorem inbChunk (j : ℕ) : ∀ a, (![0, 256 * (j % 16), 0] : Fin 3 → ℕ) a + S1x256x128.size a ≤ S1x4096x128.size a := by
  have := Nat.mod_lt j (show 0 < 16 by omega)
  intro a; match a with
  | 0 => exact Nat.le_refl _
  | 1 => show 256 * (j % 16) + 256 ≤ 4096; omega
  | 2 => exact Nat.le_refl _

theorem inbV (kv j : ℕ) : ∀ a, (![64 * (kv % 2), 256 * (j % 16)] : Fin 2 → ℕ) a + S64x256.size a ≤ S128x4096.size a := by
  have := Nat.mod_lt j (show 0 < 16 by omega)
  have := Nat.mod_lt kv (show 0 < 2 by omega)
  intro a; match a with
  | 0 => show 64 * (kv % 2) + 64 ≤ 128; omega
  | 1 => show 256 * (j % 16) + 256 ≤ 4096; omega

theorem inbQ (k pr : ℕ) : ∀ a, (![0, 256 * (k % 16), 128 * (pr % 4)] : Fin 3 → ℕ) a + S1x256x128.size a ≤ S1x4096x512.size a := by
  have := Nat.mod_lt k (show 0 < 16 by omega)
  have := Nat.mod_lt pr (show 0 < 4 by omega)
  intro a; match a with
  | 0 => exact Nat.le_refl _
  | 1 => show 256 * (k % 16) + 256 ≤ 4096; omega
  | 2 => show 128 * (pr % 4) + 128 ≤ 512; omega

/-- Key tile `j` of copy `va`. -/
def kChunk (x6 : Vec F S1x4096x128 .fp8e4m3) (va j : ℕ) : Vec F S1x256x128 .fp8e4m3 :=
  VecWindow.window (kvarSlab va x6) ![0, 256 * (j % 16), 0] S1x256x128.size (inbChunk j)

/-- Value tile `j` of key head `kv`, transposed. -/
def vChunk (x7 : Vec F S1x4096x128 .fp8e4m3) (kv j : ℕ) : Vec F S64x256 .fp8e4m3 :=
  VecWindow.window (s := S128x4096) (k0_pay1 x7) ![64 * (kv % 2), 256 * (j % 16)] S64x256.size (inbV kv j)

/-- Query tile `k` in the columns of pair `pr`. -/
def qChunk (x5 : Vec F S1x4096x512 .fp8e4m3) (pr k : ℕ) : Vec F S1x256x128 .fp8e4m3 :=
  VecWindow.window x5 ![0, 256 * (k % 16), 128 * (pr % 4)] S1x256x128.size (inbQ k pr)

/-- Scale `n` of 32, -/
def scal32 (x : Vec F S32 .f32) (n : ℕ) : Elt F .f32 := x fun a => match a with | ⟨0, _⟩ => ⟨n % 32, Nat.mod_lt _ (by decide)⟩
/-- and of 8. -/
def scal8 (x : Vec F S8 .f32) (n : ℕ) : Elt F .f32 := x fun a => match a with | ⟨0, _⟩ => ⟨n % 8, Nat.mod_lt _ (by decide)⟩

section Spec
variable (x2 : Vec F S32 .f32) (x3 x4 : Vec F S8 .f32) (x5 : Vec F S1x4096x512 .fp8e4m3) (x6 x7 : Vec F S1x4096x128 .fp8e4m3)

/-- A head's output at query tile `k`. -/
def headVal (g h kv va pr k : ℕ) : FVec F S64x256 .f32 :=
  headOut (qChunk x5 pr k) (scal32 x2 (8 * g + h)) (scal8 x3 (2 * g + kv)) (kChunk x6 va) (vChunk x7 kv) (scal8 x4 (2 * g + kv)) k

/-- Pair `pr`'s block of the result at query tile `k`. -/
def tileVal (g pr k : ℕ) : FVec F S1x256x128 .bf16 :=
  pairOut (headVal x2 x3 x4 x5 x6 x7 g (2 * pr) (pr / 2) (2 * (pr / 2)) pr k) (headVal x2 x3 x4 x5 x6 x7 g (2 * pr + 1) (pr / 2) (2 * (pr / 2) + 1) pr k)

end Spec

/-- The key table holds the four copies. -/
def HoldsK (X : Vec F S4x4096x128 .fp8e4m3) (x6 : Vec F S1x4096x128 .fp8e4m3) : Prop :=
  ∀ va, va < 4 → VecWindow.window X ![va % 4, 0, 0] S1x4096x128.size (inbSlab va) = kvarSlab va x6

/-- A tile of a copy. -/
theorem HoldsK.tile {X : Vec F S4x4096x128 .fp8e4m3} {x6 : Vec F S1x4096x128 .fp8e4m3} (H : HoldsK X x6) {va j : ℕ} (hva : va < 4) (hj : j < 16)
    (inb : ∀ a, (![va, 256 * j, 0] : Fin 3 → ℕ) a + S1x256x128.size a ≤ S4x4096x128.size a) :
    VecWindow.window X ![va, 256 * j, 0] S1x256x128.size inb = kChunk x6 va j := by
  unfold kChunk
  rw [← H va hva]
  funext y
  refine congrArg X (funext fun a => Fin.ext ?_)
  match a with
  | 0 => show va + 1 * (y 0).val = va % 4 + 1 * (0 + 1 * (y 0).val); rw [Nat.mod_eq_of_lt hva]; omega
  | 1 => show 256 * j + 1 * (y 1).val = 0 + 1 * (256 * (j % 16) + 1 * (y 1).val); rw [Nat.mod_eq_of_lt hj]; omega
  | 2 => show 0 + 1 * (y 2).val = 0 + 1 * (0 + 1 * (y 2).val); omega

/-- Four stores over the whole table leave it holding the copies. -/
theorem holdsK_of_puts (X : Vec F S4x4096x128 .fp8e4m3) (x6 : Vec F S1x4096x128 .fp8e4m3) :
    HoldsK (VecWindow.put (s := S4x4096x128) (VecWindow.put (s := S4x4096x128) (VecWindow.put (s := S4x4096x128) (VecWindow.put (s := S4x4096x128) X ![0, 0, 0] S1x4096x128.size (k0_pay228 x6))
      ![1, 0, 0] S1x4096x128.size (k0_pay229 x6)) ![2, 0, 0] S1x4096x128.size (k0_pay230 x6)) ![3, 0, 0] S1x4096x128.size (k0_pay231 x6)) x6 := by
  intro va hva
  have d : ∀ {a b : ℕ}, a ≠ b → (![a, 0, 0] : Fin 3 → ℕ) 0 + S1x4096x128.size 0 ≤ (![b, 0, 0] : Fin 3 → ℕ) 0 ∨ (![b, 0, 0] : Fin 3 → ℕ) 0 + S1x4096x128.size 0 ≤ (![a, 0, 0] : Fin 3 → ℕ) 0 := fun {a b} h => by
    show a + 1 ≤ b ∨ b + 1 ≤ a; omega
  match va, hva with
  | 0, _ =>
    rw [VecWindow.window_put_of_disjoint _ _ _ _ _ _ _ 0 (d (by decide)), VecWindow.window_put_of_disjoint _ _ _ _ _ _ _ 0 (d (by decide)),
      VecWindow.window_put_of_disjoint _ _ _ _ _ _ _ 0 (d (by decide))]
    exact VecWindow.window_put_same _ _ _ (inbSlab 0) _
  | 1, _ =>
    rw [VecWindow.window_put_of_disjoint _ _ _ _ _ _ _ 0 (d (by decide)), VecWindow.window_put_of_disjoint _ _ _ _ _ _ _ 0 (d (by decide))]
    exact VecWindow.window_put_same _ _ _ (inbSlab 1) _
  | 2, _ =>
    rw [VecWindow.window_put_of_disjoint _ _ _ _ _ _ _ 0 (d (by decide))]
    exact VecWindow.window_put_same _ _ _ (inbSlab 2) _
  | 3, _ => exact VecWindow.window_put_same _ _ _ (inbSlab 3) _

/-- The result's buffer holds the blocks of `p`. -/
def HoldsO (X : Vec F S1x4096x512 .bf16) (p : ℕ → ℕ → Prop) (w : ℕ → ℕ → FVec F S1x256x128 .bf16) : Prop :=
  ∀ j pr, j < 16 → pr < 4 → p j pr → VecWindow.window X ![0, 256 * (j % 16), 128 * (pr % 4)] S1x256x128.size (inbQ j pr) = w j pr

/-- A store of a block adds it. -/
theorem HoldsO.put {X : Vec F S1x4096x512 .bf16} {p : ℕ → ℕ → Prop} {w : ℕ → ℕ → FVec F S1x256x128 .bf16} (H : HoldsO X p w) {k pr0 : ℕ} (hk : k < 16) (hpr0 : pr0 < 4)
    (u : FVec F S1x256x128 .bf16) (hu : u = w k pr0) :
    HoldsO (VecWindow.put (s := S1x4096x512) X ![0, 256 * k, 128 * pr0] S1x256x128.size u) (fun j pr => p j pr ∨ (j = k ∧ pr = pr0)) w := by
  intro j pr hj hpr hp
  have e : (![0, 256 * (j % 16), 128 * (pr % 4)] : Fin 3 → ℕ) = ![0, 256 * j, 128 * pr] := by rw [Nat.mod_eq_of_lt hj, Nat.mod_eq_of_lt hpr]
  by_cases hjk : j = k ∧ pr = pr0
  · obtain ⟨rfl, rfl⟩ := hjk
    rw [← hu, ← e]; exact VecWindow.window_put_same _ _ _ (inbQ j pr) _
  · have hp' := hp.resolve_right hjk
    by_cases hjk' : j = k
    · rw [VecWindow.window_put_of_disjoint _ _ _ _ _ _ _ 2 (by
        show 128 * (pr % 4) + 128 ≤ 128 * pr0 ∨ 128 * pr0 + 128 ≤ 128 * (pr % 4)
        have : pr ≠ pr0 := fun h => hjk ⟨hjk', h⟩
        omega)]
      exact H j pr hj hpr hp'
    · rw [VecWindow.window_put_of_disjoint _ _ _ _ _ _ _ 1 (by
        show 256 * (j % 16) + 256 ≤ 256 * k ∨ 256 * k + 256 ≤ 256 * (j % 16)
        omega)]
      exact H j pr hj hpr hp'

/-! ## A head, on what the kernel loads -/

/-- `head_wp` at a head's places. -/
theorem head_run (c : Dev nD) (arg2 : Memref sig .tc .smem S32 .f32) (arg3 : Memref sig .tc .smem S8 .f32) (arg4 : Memref sig .tc .smem S8 .f32) (arg5 : Memref sig .tc .vmem S1x4096x512 .fp8e4m3) (arg9 : Memref sig .tc .vmem S4x4096x128 .fp8e4m3) (arg10 : Memref sig .tc .vmem S128x4096 .fp8e4m3) (arg11 : Memref sig .tc .vmem S4096x256 .f32) (arg12 : Memref sig .tc .vmem S16x8x256 .f32) (f2 : BufTy.Contents (Elt F) arg2.view.ty) (f3 : BufTy.Contents (Elt F) arg3.view.ty) (f4 : BufTy.Contents (Elt F) arg4.view.ty) (f5 : BufTy.Contents (Elt F) arg5.view.ty) (f9 : BufTy.Contents (Elt F) arg9.view.ty) (f10 : BufTy.Contents (Elt F) arg10.view.ty)
    (x2 : Vec F S32 .f32) (x3 x4 : Vec F S8 .f32) (x5 : Vec F S1x4096x512 .fp8e4m3) (x6 x7 : Vec F S1x4096x128 .fp8e4m3)
    (e2 : arg2.view.read (Elt F) f2 = x2) (e3 : arg3.view.read (Elt F) f3 = x3) (e4 : arg4.view.read (Elt F) f4 = x4) (e5 : arg5.view.read (Elt F) f5 = x5)
    (e9 : HoldsK (arg9.view.read (Elt F) f9) x6) (e10 : arg10.view.read (Elt F) f10 = k0_pay1 x7)
    (l l' : Scf.Loop 32) (ok : l.OK) (ok' : l'.OK) (P : HeadPlaces l.trips l'.trips) (g k h kv va pr : ℕ)
    (hg : g < 4) (hk : k < 16) (hh : h < 8) (hkv : kv < 2) (hva : va < 4) (hpr : pr < 4) (hP : HeadSpec g k h kv va pr P)
    {β : Type} (kk : FVec F S64x256 .f32 → Pr F β) (Q : β → sProp 𝕄) :
    (iprop(HeadHeld c arg2 arg3 arg4 arg5 arg9 arg10 arg11 arg12 f2 f3 f4 f5 f9 f10 ∗
      (HeadHeld c arg2 arg3 arg4 arg5 arg9 arg10 arg11 arg12 f2 f3 f4 f5 f9 f10
        -∗ wp frame (wpE (defs₀ (F := F)) Variants.none (c : Thread nD τ) none) Set.univ (kk (headVal x2 x3 x4 x5 x6 x7 g h kv va pr k)) Q)) : sProp 𝕄)
      ⊢ wp frame (wpE (defs₀ (F := F)) Variants.none (c : Thread nD τ) none) Set.univ
        (headProg arg2 arg3 arg4 arg5 arg9 arg10 arg11 arg12 l l' ok ok' P >>= kk) Q := by
  have hk' : l.trips = k := hP.hn
  have hA := hP.at hk
  subst hk'
  subst e2 e3 e4 e5
  unfold headVal
  refine head_wp c arg2 arg3 arg4 arg5 arg9 arg10 arg11 arg12 f2 f3 f4 f5 f9 f10 l l' ok ok' P hA _ _ _ _ _ _ ?_ ?_ ?_ ?_ ?_ ?_ ?_ kk Q
  · exact View.readAt_unit _ _ _ (by rw [hP.q, Nat.mod_eq_of_lt hk, Nat.mod_eq_of_lt hpr]) _
  · refine congrArg (arg2.view.read (Elt F) f2) (funext fun a => Fin.ext ?_)
    match a with
    | ⟨0, _⟩ =>
      show P.a.off 0 + 1 * 0 = (8 * g + h) % 32
      rw [hP.a]; show 8 * g + h + 1 * 0 = _; omega
  · refine congrArg (arg3.view.read (Elt F) f3) (funext fun a => Fin.ext ?_)
    match a with
    | ⟨0, _⟩ =>
      show P.b.off 0 + 1 * 0 = (2 * g + kv) % 8
      rw [hP.b]; show 2 * g + kv + 1 * 0 = _; omega
  · refine congrArg (arg4.view.read (Elt F) f4) (funext fun a => Fin.ext ?_)
    match a with
    | ⟨0, _⟩ =>
      show P.v.off 0 + 1 * 0 = (2 * g + kv) % 8
      rw [hP.v]; show 2 * g + kv + 1 * 0 = _; omega
  · intro j
    have hj : j.val < 16 := Nat.lt_trans j.isLt hk
    have inb := (P.K j).inb
    rw [hP.K j] at inb
    exact (View.readAt_unit _ _ _ (hP.K j) inb).trans (e9.tile hva hj inb)
  · have inb := P.dK.inb
    rw [hP.dK] at inb
    exact (View.readAt_unit _ _ _ hP.dK inb).trans (e9.tile hva hk inb)
  · intro j
    have hj : j.val < 16 := by have := j.isLt; have := hP.hn'; omega
    unfold vChunk
    rw [← e10]
    exact View.readAt_unit _ _ _ (by rw [hP.pV j, Nat.mod_eq_of_lt hj, Nat.mod_eq_of_lt hkv]) _

/-! ## The trip -/

/-- A pair's block is stored: the result's buffer holds one block more. -/
theorem pair_store (c : Dev nD) (arg8 : Memref sig .tc .vmem S1x4096x512 .bf16) (off : Fin 3 → ℕ) (inb : ∀ a, off a + S1x256x128.size a ≤ S1x4096x512.size a)
    (u : FVec F S1x256x128 .bf16) (hl : _) (hx : _) (hm : _) (p : ℕ → ℕ → Prop) (w : ℕ → ℕ → FVec F S1x256x128 .bf16) (k pr : ℕ) (hk : k < 16) (hpr : pr < 4)
    (ho : off = ![0, 256 * k, 128 * pr]) (hu : u = w k pr) (f8 : BufTy.Contents (Elt F) arg8.view.ty) (h8 : HoldsO (arg8.view.read (Elt F) f8) p w)
    {β : Type} (kk : PUnit → Pr F β) (Q : β → sProp 𝕄) :
    (iprop((arg8.view.loc (c : Thread nD τ) ↦[arg8.view.set]{fullShare} f8) ∗
      (∀ f8' : BufTy.Contents (Elt F) arg8.view.ty, (arg8.view.loc (c : Thread nD τ) ↦[arg8.view.set]{fullShare} f8')
        -∗ ⌜HoldsO (arg8.view.read (Elt F) f8') (fun j pr' => p j pr' ∨ (j = k ∧ pr' = pr)) w⌝
        -∗ wp frame (wpE (defs₀ (F := F)) Variants.none (c : Thread nD τ) none) Set.univ (kk ⟨⟩) Q)) : sProp 𝕄)
      ⊢ wp frame (wpE (defs₀ (F := F)) Variants.none (c : Thread nD τ) none) Set.univ
        (((Prog.lift (.load arg8 (Rect.unit (s := S1x4096x512) off S1x256x128.size inb).toLoadRect hl) : Pr F (Vec F S1x256x128 .bf16)) >>= fun _ =>
          (Prog.lift (.store arg8 (Rect.unit (s := S1x4096x512) off S1x256x128.size inb) u Finset.univ hx hm) : Pr F PUnit) >>= kk)) Q := by
  iintro ⟨H8, Hk⟩
  sl_exec
  iapply Hk $$ [H8]
  · iexact H8
  ipureintro
  rw [View.read_writes_cons_put arg8.view f8 inb u [] ho, View.writes_nil]
  exact h8.put hk hpr u hu

/-- What a trip touches: as `HeadHeld`, and the result's buffer holding the blocks of `p`. -/
def TripHeld (c : Dev nD) (arg2 : Memref sig .tc .smem S32 .f32) (arg3 : Memref sig .tc .smem S8 .f32) (arg4 : Memref sig .tc .smem S8 .f32) (arg5 : Memref sig .tc .vmem S1x4096x512 .fp8e4m3) (arg8 : Memref sig .tc .vmem S1x4096x512 .bf16) (arg9 : Memref sig .tc .vmem S4x4096x128 .fp8e4m3) (arg10 : Memref sig .tc .vmem S128x4096 .fp8e4m3) (arg11 : Memref sig .tc .vmem S4096x256 .f32) (arg12 : Memref sig .tc .vmem S16x8x256 .f32) (f2 : BufTy.Contents (Elt F) arg2.view.ty) (f3 : BufTy.Contents (Elt F) arg3.view.ty) (f4 : BufTy.Contents (Elt F) arg4.view.ty) (f5 : BufTy.Contents (Elt F) arg5.view.ty) (f9 : BufTy.Contents (Elt F) arg9.view.ty) (f10 : BufTy.Contents (Elt F) arg10.view.ty) (p : ℕ → ℕ → Prop) (w : ℕ → ℕ → FVec F S1x256x128 .bf16) : sProp 𝕄 :=
  iprop(HeadHeld c arg2 arg3 arg4 arg5 arg9 arg10 arg11 arg12 f2 f3 f4 f5 f9 f10
    ∗ (∃ f8 : BufTy.Contents (Elt F) arg8.view.ty, (arg8.view.loc (c : Thread nD τ) ↦[arg8.view.set]{fullShare} f8) ∗ ⌜HoldsO (arg8.view.read (Elt F) f8) p w⌝))

set_option maxHeartbeats 4000000 in
/-- One query tile: the four blocks of query tile `k` are added. -/
theorem trip (c : Dev nD) (i : grid0.Coords) (arg2 : Memref sig .tc .smem S32 .f32) (harg2 : arg2.IsWhole) (arg3 : Memref sig .tc .smem S8 .f32) (harg3 : arg3.IsWhole) (arg4 : Memref sig .tc .smem S8 .f32) (harg4 : arg4.IsWhole) (arg5 : Memref sig .tc .vmem S1x4096x512 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x4096x512 .bf16) (harg8 : arg8.IsWhole) (arg9 : Memref sig .tc .vmem S4x4096x128 .fp8e4m3) (harg9 : arg9.IsWhole) (arg10 : Memref sig .tc .vmem S128x4096 .fp8e4m3) (harg10 : arg10.IsWhole) (arg11 : Memref sig .tc .vmem S4096x256 .f32) (harg11 : arg11.IsWhole) (arg12 : Memref sig .tc .vmem S16x8x256 .f32) (harg12 : arg12.IsWhole) (arg1 : BitVec 32) (f2 : BufTy.Contents (Elt F) arg2.view.ty) (f3 : BufTy.Contents (Elt F) arg3.view.ty) (f4 : BufTy.Contents (Elt F) arg4.view.ty) (f5 : BufTy.Contents (Elt F) arg5.view.ty) (f9 : BufTy.Contents (Elt F) arg9.view.ty) (f10 : BufTy.Contents (Elt F) arg10.view.ty)
    (x2 : Vec F S32 .f32) (x3 x4 : Vec F S8 .f32) (x5 : Vec F S1x4096x512 .fp8e4m3) (x6 x7 : Vec F S1x4096x128 .fp8e4m3)
    (e2 : arg2.view.read (Elt F) f2 = x2) (e3 : arg3.view.read (Elt F) f3 = x3) (e4 : arg4.view.read (Elt F) f4 = x4) (e5 : arg5.view.read (Elt F) f5 = x5)
    (e9 : HoldsK (arg9.view.read (Elt F) f9) x6) (e10 : arg10.view.read (Elt F) f10 = k0_pay1 x7)
    (k : Fin k0_t1_loop.trips) (acc : Unit) :
    TripHeld c arg2 arg3 arg4 arg5 arg8 arg9 arg10 arg11 arg12 f2 f3 f4 f5 f9 f10 (fun j _ => j < k.val) (fun j pr => tileVal x2 x3 x4 x5 x6 x7 (i 1).val pr j)
      ⊢ wp frame (wpE (defs₀ (F := F)) Variants.none (c : Thread nD τ) none) Set.univ
      (k0_t1_body (F := F) i arg2 harg2 arg3 harg3 arg4 harg4 arg5 harg5 arg6 harg6 arg7 harg7 arg8 harg8 arg9 harg9 arg10 harg10 arg11 harg11 arg12 harg12 arg1 k acc)
      (fun _ => TripHeld c arg2 arg3 arg4 arg5 arg8 arg9 arg10 arg11 arg12 f2 f3 f4 f5 f9 f10 (fun j _ => j < k.val + 1) (fun j pr => tileVal x2 x3 x4 x5 x6 x7 (i 1).val pr j)) := by
  have hg : (i 1).val < 4 := (i 1).isLt
  have hk : k.val < 16 := k.isLt
  rw [trip_eq]
  unfold tripProg TripHeld
  iintro ⟨HH, ⟨%f8, H8, %h8⟩⟩
  iapply (head_run c arg2 arg3 arg4 arg5 arg9 arg10 arg11 arg12 f2 f3 f4 f5 f9 f10 x2 x3 x4 x5 x6 x7 e2 e3 e4 e5 e9 e10 (k0_t2_loop k) (k0_t4_loop k) (k0_t2_ok k) (k0_t4_ok k) (places0 i k) (i 1).val k.val 0 0 0 0 hg hk (by decide) (by decide) (by decide) (by decide) (headSpec0 i k))
  isplitl [HH]; · iexact HH
  iintro HH
  iapply (head_run c arg2 arg3 arg4 arg5 arg9 arg10 arg11 arg12 f2 f3 f4 f5 f9 f10 x2 x3 x4 x5 x6 x7 e2 e3 e4 e5 e9 e10 (k0_t6_loop k) (k0_t8_loop k) (k0_t6_ok k) (k0_t8_ok k) (places1 i k) (i 1).val k.val 1 0 1 0 hg hk (by decide) (by decide) (by decide) (by decide) (headSpec1 i k))
  isplitl [HH]; · iexact HH
  iintro HH
  iapply (pair_store c arg8 (k0_off1 k) (k0_off1_inb k) _ _ _ _ _ (fun j pr => tileVal x2 x3 x4 x5 x6 x7 (i 1).val pr j) k.val 0 hk (by decide) (off1_eq k) rfl _ h8)
  isplitl [H8]; · iexact H8
  clear h8
  iintro %f8 H8 %h8
  iapply (head_run c arg2 arg3 arg4 arg5 arg9 arg10 arg11 arg12 f2 f3 f4 f5 f9 f10 x2 x3 x4 x5 x6 x7 e2 e3 e4 e5 e9 e10 (k0_t10_loop k) (k0_t12_loop k) (k0_t10_ok k) (k0_t12_ok k) (places2 i k) (i 1).val k.val 2 0 0 1 hg hk (by decide) (by decide) (by decide) (by decide) (headSpec2 i k))
  isplitl [HH]; · iexact HH
  iintro HH
  iapply (head_run c arg2 arg3 arg4 arg5 arg9 arg10 arg11 arg12 f2 f3 f4 f5 f9 f10 x2 x3 x4 x5 x6 x7 e2 e3 e4 e5 e9 e10 (k0_t14_loop k) (k0_t16_loop k) (k0_t14_ok k) (k0_t16_ok k) (places3 i k) (i 1).val k.val 3 0 1 1 hg hk (by decide) (by decide) (by decide) (by decide) (headSpec3 i k))
  isplitl [HH]; · iexact HH
  iintro HH
  iapply (pair_store c arg8 (k0_off32 k) (k0_off32_inb k) _ _ _ _ _ (fun j pr => tileVal x2 x3 x4 x5 x6 x7 (i 1).val pr j) k.val 1 hk (by decide) (off32_eq k) rfl _ h8)
  isplitl [H8]; · iexact H8
  clear h8
  iintro %f8 H8 %h8
  iapply (head_run c arg2 arg3 arg4 arg5 arg9 arg10 arg11 arg12 f2 f3 f4 f5 f9 f10 x2 x3 x4 x5 x6 x7 e2 e3 e4 e5 e9 e10 (k0_t18_loop k) (k0_t20_loop k) (k0_t18_ok k) (k0_t20_ok k) (places4 i k) (i 1).val k.val 4 1 2 2 hg hk (by decide) (by decide) (by decide) (by decide) (headSpec4 i k))
  isplitl [HH]; · iexact HH
  iintro HH
  iapply (head_run c arg2 arg3 arg4 arg5 arg9 arg10 arg11 arg12 f2 f3 f4 f5 f9 f10 x2 x3 x4 x5 x6 x7 e2 e3 e4 e5 e9 e10 (k0_t22_loop k) (k0_t24_loop k) (k0_t22_ok k) (k0_t24_ok k) (places5 i k) (i 1).val k.val 5 1 3 2 hg hk (by decide) (by decide) (by decide) (by decide) (headSpec5 i k))
  isplitl [HH]; · iexact HH
  iintro HH
  iapply (pair_store c arg8 (k0_off57 k) (k0_off57_inb k) _ _ _ _ _ (fun j pr => tileVal x2 x3 x4 x5 x6 x7 (i 1).val pr j) k.val 2 hk (by decide) (off57_eq k) rfl _ h8)
  isplitl [H8]; · iexact H8
  clear h8
  iintro %f8 H8 %h8
  iapply (head_run c arg2 arg3 arg4 arg5 arg9 arg10 arg11 arg12 f2 f3 f4 f5 f9 f10 x2 x3 x4 x5 x6 x7 e2 e3 e4 e5 e9 e10 (k0_t26_loop k) (k0_t28_loop k) (k0_t26_ok k) (k0_t28_ok k) (places6 i k) (i 1).val k.val 6 1 2 3 hg hk (by decide) (by decide) (by decide) (by decide) (headSpec6 i k))
  isplitl [HH]; · iexact HH
  iintro HH
  iapply (head_run c arg2 arg3 arg4 arg5 arg9 arg10 arg11 arg12 f2 f3 f4 f5 f9 f10 x2 x3 x4 x5 x6 x7 e2 e3 e4 e5 e9 e10 (k0_t30_loop k) (k0_t32_loop k) (k0_t30_ok k) (k0_t32_ok k) (places7 i k) (i 1).val k.val 7 1 3 3 hg hk (by decide) (by decide) (by decide) (by decide) (headSpec7 i k))
  isplitl [HH]; · iexact HH
  iintro HH
  iapply (pair_store c arg8 (k0_off84 k) (k0_off84_inb k) _ _ _ _ _ (fun j pr => tileVal x2 x3 x4 x5 x6 x7 (i 1).val pr j) k.val 3 hk (by decide) (off84_eq k) rfl _ h8)
  isplitl [H8]; · iexact H8
  clear h8
  iintro %f8 H8 %h8
  sl_step
  isplitl [HH]; · iexact HH
  iexists f8
  isplitl [H8]; · iexact H8
  ipureintro
  exact fun j pr hj hpr hp => h8 j pr hj hpr (by show (((_ ∨ _) ∨ _) ∨ _) ∨ _; omega)

end Cert.Proof.KI

end
-- ==== Proof.KI.Run.lean ====
/- The run of `KernelIdeal` with its result named.

   `outVal` is what the kernel leaves in its result's buffer at a grid point, `sound_kernel` the kernel on whole buffers,
   `resultOf` the result array as one function of the arguments, `run_value` the run with the result array at it. -/
module

public import Idealize.ShloMosaic.Lib.Pointwise
public import Idealize.ShloMosaic.Lib.Pipeline.Value
public import proofs.«01_k».proof.Proof.KI.Trip
public import proofs.«01_k».proof.Proof.Gen.KernelIdeal.Frame
public import proofs.«01_k».proof.Proof.Gen.KernelIdeal.Points

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The kernel on whole buffers -/

/-- The result's buffer at a grid point of head group `g`: query row `r` and column `l` are row `r % 256` of query tile
    `r / 256` and column `l % 128` of pair `l / 128`. -/
def outVal (x2 : Vec F S32 .f32) (x3 x4 : Vec F S8 .f32) (x5 : Vec F S1x4096x512 .fp8e4m3) (x6 x7 : Vec F S1x4096x128 .fp8e4m3) (g : ℕ) : Vec F S1x4096x512 .bf16 :=
  fun y => tileVal x2 x3 x4 x5 x6 x7 g ((y 2).val / 128) ((y 1).val / 256)
    (ix3 0 ⟨(y 1).val % 256, Nat.mod_lt _ (by decide)⟩ ⟨(y 2).val % 128, Nat.mod_lt _ (by decide)⟩)

theorem eq_outVal (x2 : Vec F S32 .f32) (x3 x4 : Vec F S8 .f32) (x5 : Vec F S1x4096x512 .fp8e4m3) (x6 x7 : Vec F S1x4096x128 .fp8e4m3) (g : ℕ)
    (X : Vec F S1x4096x512 .bf16) (H : HoldsO X (fun j _ => j < 16) (fun j pr => tileVal x2 x3 x4 x5 x6 x7 g pr j)) : X = outVal x2 x3 x4 x5 x6 x7 g := by
  funext y
  have h0 : (y 0).val < 1 := (y 0).isLt
  have h1 : (y 1).val < 4096 := (y 1).isLt
  have h2 : (y 2).val < 512 := (y 2).isLt
  have hj : (y 1).val / 256 < 16 := by omega
  have hpr : (y 2).val / 128 < 4 := by omega
  unfold outVal
  refine Eq.trans ?_ (congrFun (H ((y 1).val / 256) ((y 2).val / 128) hj hpr hj) _)
  refine congrArg X (funext fun a => Fin.ext ?_)
  match a with
  | ⟨0, _⟩ => show (y 0).val = 0 + 1 * 0; omega
  | ⟨1, _⟩ => show (y 1).val = 256 * ((y 1).val / 256 % 16) + 1 * ((y 1).val % 256); omega
  | ⟨2, _⟩ => show (y 2).val = 128 * ((y 2).val / 128 % 4) + 1 * ((y 2).val % 128); omega

/-- The four layouts of the keys are stored where `HoldsK` reads them. -/
theorem holdsK_read (arg9 : Memref sig .tc .vmem S4x4096x128 .fp8e4m3) (X6 : Vec F S1x4096x128 .fp8e4m3) :
    HoldsK (arg9.view.read (Elt F) (arg9.view.writes (Elt F) arg9.view.junk
      [⟨Rect.unit ![3, 0, 0] S1x4096x128.size inb_S4x4096x128_S1x4096x128_3_0_0, k0_pay231 X6⟩,
       ⟨Rect.unit ![2, 0, 0] S1x4096x128.size inb_S4x4096x128_S1x4096x128_2_0_0, k0_pay230 X6⟩,
       ⟨Rect.unit ![1, 0, 0] S1x4096x128.size inb_S4x4096x128_S1x4096x128_1_0_0, k0_pay229 X6⟩,
       ⟨Rect.unit ![0, 0, 0] S1x4096x128.size inb_S4x4096x128_S1x4096x128_0_0_0, k0_pay228 X6⟩])) X6 := by
  rw [View.read_writes_cons_put (Val := Elt F) arg9.view arg9.view.junk inb_S4x4096x128_S1x4096x128_3_0_0 (k0_pay231 X6) _ rfl,
    View.read_writes_cons_put (Val := Elt F) arg9.view arg9.view.junk inb_S4x4096x128_S1x4096x128_2_0_0 (k0_pay230 X6) _ rfl,
    View.read_writes_cons_put (Val := Elt F) arg9.view arg9.view.junk inb_S4x4096x128_S1x4096x128_1_0_0 (k0_pay229 X6) _ rfl,
    View.read_writes_cons_put (Val := Elt F) arg9.view arg9.view.junk inb_S4x4096x128_S1x4096x128_0_0_0 (k0_pay228 X6) _ rfl]
  exact holdsK_of_puts _ X6

/-- The turned values are stored over the whole of their buffer. -/
theorem readV_full (arg10 : Memref sig .tc .vmem S128x4096 .fp8e4m3) (w : Vec F S128x4096 .fp8e4m3) :
    arg10.view.read (Elt F) (arg10.view.writes (Elt F) arg10.view.junk [⟨Rect.unit ![0, 0] S128x4096.size inb_S128x4096_S128x4096_0_0, w⟩]) = w :=
  View.read_writes_full arg10.view arg10.view.junk inb_S128x4096_S128x4096_0_0 w []

set_option maxHeartbeats 4000000 in
/-- The kernel on whole buffers: the inputs end as they were, the result's buffer at `outVal`, the scratch at some contents. -/
theorem sound_kernel (c : Dev nD) (i : grid0.Coords) (arg2 : Memref sig .tc .smem S32 .f32) (harg2 : arg2.IsWhole) (arg3 : Memref sig .tc .smem S8 .f32) (harg3 : arg3.IsWhole) (arg4 : Memref sig .tc .smem S8 .f32) (harg4 : arg4.IsWhole) (arg5 : Memref sig .tc .vmem S1x4096x512 .fp8e4m3) (harg5 : arg5.IsWhole) (arg6 : Memref sig .tc .vmem S1x4096x128 .fp8e4m3) (harg6 : arg6.IsWhole) (arg7 : Memref sig .tc .vmem S1x4096x128 .fp8e4m3) (harg7 : arg7.IsWhole) (arg8 : Memref sig .tc .vmem S1x4096x512 .bf16) (harg8 : arg8.IsWhole) (arg9 : Memref sig .tc .vmem S4x4096x128 .fp8e4m3) (harg9 : arg9.IsWhole) (arg10 : Memref sig .tc .vmem S128x4096 .fp8e4m3) (harg10 : arg10.IsWhole) (arg11 : Memref sig .tc .vmem S4096x256 .f32) (harg11 : arg11.IsWhole) (arg12 : Memref sig .tc .vmem S16x8x256 .f32) (harg12 : arg12.IsWhole) (x2 : Vec F S32 .f32) (x3 : Vec F S8 .f32) (x4 : Vec F S8 .f32) (x5 : Vec F S1x4096x512 .fp8e4m3) (x6 : Vec F S1x4096x128 .fp8e4m3) (x7 : Vec F S1x4096x128 .fp8e4m3) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outVal x2 x3 x4 x5 x6 x7 (i 1).val) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none (c : Thread nD τ) none) Set.univ (cc0_fp8_causal_gqa (F := F) i arg2 harg2 arg3 harg3 arg4 harg4 arg5 harg5 arg6 harg6 arg7 harg7 arg8 harg8 arg9 harg9 arg10 harg10 arg11 harg11 arg12 harg12) K := by
  simp only [cc0_fp8_causal_gqa_eq_skeleton]; unfold cc0_fp8_causal_gqa_skel
  simp only [k0_part18_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  sl_exec
  have hx6 : View.readAt (Elt F) arg6.view (Rect.unit (s := S1x4096x128) ![0, 0, 0] S1x4096x128.size inb_S1x4096x128_S1x4096x128_0_0_0).toLoadRect f6 = x6 := (View.readAt_full _ _ _).trans hf6
  have hx7 : View.readAt (Elt F) arg7.view (Rect.unit (s := S1x4096x128) ![0, 0, 0] S1x4096x128.size inb_S1x4096x128_S1x4096x128_0_0_0).toLoadRect f7 = x7 := (View.readAt_full _ _ _).trans hf7
  have e9 : HoldsK (arg9.view.read (Elt F) (arg9.view.writes (Elt F) arg9.view.junk (sound_kernel.sl.H9_4 c arg6 f6))) x6 := by
    rw [← hx6]
    exact holdsK_read arg9 _
  have e10 : arg10.view.read (Elt F) (arg10.view.writes (Elt F) arg10.view.junk (sound_kernel.sl.H10_1 c arg7 f7)) = k0_pay1 x7 := by
    rw [← hx7]
    exact readV_full arg10 _
  iapply (Scf.wp_for_bind _ _ _ k0_t1_loop.lb k0_t1_loop.ub k0_t1_loop.st k0_t1_ok _ _
    (fun (n : ℕ) (_ : PUnit) => TripHeld c arg2 arg3 arg4 arg5 arg8 arg9 arg10 arg11 arg12 f2 f3 f4 f5 _ _ (fun j _ => j < n) (fun j pr => tileVal x2 x3 x4 x5 x6 x7 (i 1).val pr j))
    (trip c i arg2 harg2 arg3 harg3 arg4 harg4 arg5 harg5 arg6 harg6 arg7 harg7 arg8 harg8 arg9 harg9 arg10 harg10 arg11 harg11 arg12 harg12 _ f2 f3 f4 f5 _ _ x2 x3 x4 x5 x6 x7 hf2 hf3 hf4 hf5 e9 e10)) $$ [H2 H3 H4 H5 H9 H10 H8 H11 H12]
  · unfold TripHeld HeadHeld
    isplitr [H8]
    · isplitl [H2]; · iexact H2
      isplitl [H3]; · iexact H3
      isplitl [H4]; · iexact H4
      isplitl [H5]; · iexact H5
      isplitl [H9]; · iexact H9
      isplitl [H10]; · iexact H10
      isplitl [H11]; · iexists _; iexact H11
      iexists _; iexact H12
    iexists f8
    isplitl [H8]; · iexact H8
    ipureintro; intro j pr _ _ h; exact absurd h (Nat.not_lt_zero j)
  iintro %acc Hinv
  unfold TripHeld HeadHeld
  icases Hinv with ⟨⟨H2, H3, H4, H5, H9, H10, ⟨%g11, H11⟩, ⟨%g12, H12⟩⟩, ⟨%g8, H8, %h8⟩⟩
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists g8; isplitr
    · ipureintro; exact eq_outVal x2 x3 x4 x5 x6 x7 (i 1).val _ h8
    iexact H8
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  iexists _; iexists _; isplitr
  swap; · iexact H12
  ipureintro; rfl

/-! ## The pipeline's proof data: the result's buffer named at every point -/

variable (m : (ℓ : Loc nD τ sig) → Buf (Elt F) ℓ) (ρ : Dev nD → PrngReg)

/-- The proof data: the arrays as the region finds them, after the body each input's buffer at its block and the
    result's at `outVal` of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outVal (iblk m c 0 t) (iblk m c 1 t) (iblk m c 2 t) (iblk m c 3 t) (iblk m c 4 t) (iblk m c 5 t) (grid0.coords t 1).val
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outVal (iblk m c 0 t) (iblk m c 1 t) (iblk m c 2 t) (iblk m c 3 t) (iblk m c 4 t) (iblk m c 5 t) (grid0.coords t 1).val := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, the windows one by one, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t))

set_option maxHeartbeats 1000000 in
/-- The body at any point, the scratch buffers taken from the invariant and put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6]
  unfold Pipeline.ΦA
  rw [scopedRest0_eq]
  iintro ⟨⟨⟨⟨%s9, HS9⟩, ⟨%s10, HS10⟩, ⟨%s11, HS11⟩, ⟨%s12, HS12⟩⟩, HΦ⟩, Ho, ⟨%d0, H0⟩, ⟨%d1, H1⟩, ⟨%d2, H2⟩, ⟨%d3, H3⟩, ⟨%d4, H4⟩, ⟨%d5, H5⟩, ⟨%d6, H6⟩⟩
  iapply (sound_kernel c (grid0.coords t) _ _ _ _ _ _ _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS9]
  · iexists s9; rw [owns_whole]; iexact HS9
  isplitl [HS10]
  · iexists s10; rw [owns_whole]; iexact HS10
  isplitl [HS11]
  · iexists s11; rw [owns_whole]; iexact HS11
  isplitl [HS12]
  · iexists s12; rw [owns_whole]; iexact HS12
  iintro ⟨H0, H1, H2, H3, H4, H5, H6, ⟨%e9, HS9⟩, ⟨%e10, HS10⟩, ⟨%e11, HS11⟩, ⟨%e12, HS12⟩⟩
  isplitl [HS9 HS10 HS11 HS12 HΦ]
  · isplitl [HS9 HS10 HS11 HS12]
    · isplitl [HS9]; · iexists e9; rw [← owns_whole]; iexact HS9
      isplitl [HS10]; · iexists e10; rw [← owns_whole]; iexact HS10
      isplitl [HS11]; · iexists e11; rw [← owns_whole]; iexact HS11
      iexists e12; rw [← owns_whole]; iexact HS12
    iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The result array as one function of the arguments -/

/-- Batch `b`'s columns of head group `g`, of the queries; -/
def xBlk (a : Vec F S8x4096x2048 .fp8e4m3) (b : Fin 8) (g : Fin 4) : Vec F S1x4096x512 .fp8e4m3 :=
  fun j => a (ix3 b ⟨(j 1).val, (j 1).isLt⟩ ⟨512 * g.val + (j 2).val, by have h : (j 2).val < 512 := (j 2).isLt; have := g.isLt; omega⟩)

/-- of the keys or values. -/
def kBlk (a : Vec F S8x4096x512 .fp8e4m3) (b : Fin 8) (g : Fin 4) : Vec F S1x4096x128 .fp8e4m3 :=
  fun j => a (ix3 b ⟨(j 1).val, (j 1).isLt⟩ ⟨128 * g.val + (j 2).val, by have h : (j 2).val < 128 := (j 2).isLt; have := g.isLt; omega⟩)

/-- What the kernel leaves of batch `b` and head group `g`. -/
def groupVal (a0 : Vec F S8x4096x2048 .fp8e4m3) (a1 : Vec F S32 .f32) (a2 : Vec F S8x4096x512 .fp8e4m3) (a3 : Vec F S8 .f32) (a4 : Vec F S8x4096x512 .fp8e4m3) (a5 : Vec F S8 .f32)
    (b : Fin 8) (g : Fin 4) : Vec F S1x4096x512 .bf16 :=
  outVal a1 a3 a5 (xBlk a0 b g) (kBlk a2 b g) (kBlk a4 b g) g.val

/-- The result array. -/
def resultOf (a0 : Vec F S8x4096x2048 .fp8e4m3) (a1 : Vec F S32 .f32) (a2 : Vec F S8x4096x512 .fp8e4m3) (a3 : Vec F S8 .f32) (a4 : Vec F S8x4096x512 .fp8e4m3) (a5 : Vec F S8 .f32) :
    Vec F S8x4096x2048 .bf16 :=
  fun y => groupVal a0 a1 a2 a3 a4 a5 ⟨(y 0).val, (y 0).isLt⟩ ⟨(y 2).val / 512, by have h : (y 2).val < 2048 := (y 2).isLt; omega⟩
    (ix3 0 ⟨(y 1).val, (y 1).isLt⟩ ⟨(y 2).val % 512, Nat.mod_lt _ (by decide)⟩)

/-- The result at batch `b`, row `r`, column `l` of head group `g`. -/
theorem resultOf_apply (a0 : Vec F S8x4096x2048 .fp8e4m3) (a1 : Vec F S32 .f32) (a2 : Vec F S8x4096x512 .fp8e4m3) (a3 : Vec F S8 .f32) (a4 : Vec F S8x4096x512 .fp8e4m3) (a5 : Vec F S8 .f32)
    (b : Fin 8) (r : Fin 4096) (g : Fin 4) (l : Fin 512) (h : 512 * g.val + l.val < 2048) :
    resultOf a0 a1 a2 a3 a4 a5 (ix3 b r ⟨512 * g.val + l.val, h⟩) = groupVal a0 a1 a2 a3 a4 a5 b g (ix3 0 r l) := by
  have e1 : (512 * g.val + l.val) / 512 = g.val := by have := l.isLt; omega
  have e2 : (512 * g.val + l.val) % 512 = l.val := by have := l.isLt; omega
  show groupVal a0 a1 a2 a3 a4 a5 b ⟨(512 * g.val + l.val) / 512, _⟩ (ix3 0 r ⟨(512 * g.val + l.val) % 512, _⟩) = _
  congr 2 <;> exact Fin.ext (by assumption)

/-- Where point `t`'s windows sit: batch `t / 4`, head group `t % 4`. -/
theorem idx_facts : ∀ t : Fin cfg0.N, (grid0.coords t 1).val = t.val % 4
    ∧ win0_0.index t (0 : Fin 1) = 0 ∧ win0_1.index t (0 : Fin 1) = 0 ∧ win0_2.index t (0 : Fin 1) = 0
    ∧ (win0_3.index t (0 : Fin 3) = t.val / 4 ∧ win0_3.index t (1 : Fin 3) = 0 ∧ win0_3.index t (2 : Fin 3) = t.val % 4)
    ∧ (win0_4.index t (0 : Fin 3) = t.val / 4 ∧ win0_4.index t (1 : Fin 3) = 0 ∧ win0_4.index t (2 : Fin 3) = t.val % 4)
    ∧ (win0_5.index t (0 : Fin 3) = t.val / 4 ∧ win0_5.index t (1 : Fin 3) = 0 ∧ win0_5.index t (2 : Fin 3) = t.val % 4)
    ∧ (win0_6.index t (0 : Fin 3) = t.val / 4 ∧ win0_6.index t (1 : Fin 3) = 0 ∧ win0_6.index t (2 : Fin 3) = t.val % 4) :=
  (by decide +kernel : ∀ t : Fin grid0.N, _)

theorem lt32 (t : Fin cfg0.N) : t.val < 32 := t.isLt

/-- Point `t`'s batch -/
def bAt (t : Fin cfg0.N) : Fin 8 := ⟨t.val / 4, by have := lt32 t; omega⟩

/-- and head group. -/
def gAt (t : Fin cfg0.N) : Fin 4 := ⟨t.val % 4, by omega⟩

theorem iblk0_eq (c : Dev nD) (t : Fin cfg0.N) : iblk m c 0 t = V m c main_arg1 := by
  have e := (idx_facts t).2.1
  funext j; show V m c main_arg1 (((cfg0.win 0).blk t).view.emb j) = V m c main_arg1 j
  refine congrArg _ (funext fun a => Fin.ext ?_)
  match a with
  | ⟨0, _⟩ => show win0_0.index t (0 : Fin 1) * 32 + 1 * (j 0).val = (j 0).val; omega

theorem iblk1_eq (c : Dev nD) (t : Fin cfg0.N) : iblk m c 1 t = V m c main_arg3 := by
  have e := (idx_facts t).2.2.1
  funext j; show V m c main_arg3 (((cfg0.win 1).blk t).view.emb j) = V m c main_arg3 j
  refine congrArg _ (funext fun a => Fin.ext ?_)
  match a with
  | ⟨0, _⟩ => show win0_1.index t (0 : Fin 1) * 8 + 1 * (j 0).val = (j 0).val; omega

theorem iblk2_eq (c : Dev nD) (t : Fin cfg0.N) : iblk m c 2 t = V m c main_arg5 := by
  have e := (idx_facts t).2.2.2.1
  funext j; show V m c main_arg5 (((cfg0.win 2).blk t).view.emb j) = V m c main_arg5 j
  refine congrArg _ (funext fun a => Fin.ext ?_)
  match a with
  | ⟨0, _⟩ => show win0_2.index t (0 : Fin 1) * 8 + 1 * (j 0).val = (j 0).val; omega

theorem iblk3_eq (c : Dev nD) (t : Fin cfg0.N) : iblk m c 3 t = xBlk (V m c main_arg0) (bAt t) (gAt t) := by
  obtain ⟨e0, e1, e2⟩ := (idx_facts t).2.2.2.2.1
  funext j; show V m c main_arg0 (((cfg0.win 3).blk t).view.emb j) = V m c main_arg0 _
  refine congrArg _ (funext fun a => Fin.ext ?_)
  have h0 : (j 0).val < 1 := (j 0).isLt
  match a with
  | ⟨0, _⟩ => show win0_3.index t (0 : Fin 3) * 1 + 1 * (j 0).val = t.val / 4; omega
  | ⟨1, _⟩ => show win0_3.index t (1 : Fin 3) * 4096 + 1 * (j 1).val = (j 1).val; omega
  | ⟨2, _⟩ => show win0_3.index t (2 : Fin 3) * 512 + 1 * (j 2).val = 512 * (t.val % 4) + (j 2).val; omega

theorem iblk4_eq (c : Dev nD) (t : Fin cfg0.N) : iblk m c 4 t = kBlk (V m c main_arg2) (bAt t) (gAt t) := by
  obtain ⟨e0, e1, e2⟩ := (idx_facts t).2.2.2.2.2.1
  funext j; show V m c main_arg2 (((cfg0.win 4).blk t).view.emb j) = V m c main_arg2 _
  refine congrArg _ (funext fun a => Fin.ext ?_)
  have h0 : (j 0).val < 1 := (j 0).isLt
  match a with
  | ⟨0, _⟩ => show win0_4.index t (0 : Fin 3) * 1 + 1 * (j 0).val = t.val / 4; omega
  | ⟨1, _⟩ => show win0_4.index t (1 : Fin 3) * 4096 + 1 * (j 1).val = (j 1).val; omega
  | ⟨2, _⟩ => show win0_4.index t (2 : Fin 3) * 128 + 1 * (j 2).val = 128 * (t.val % 4) + (j 2).val; omega

theorem iblk5_eq (c : Dev nD) (t : Fin cfg0.N) : iblk m c 5 t = kBlk (V m c main_arg4) (bAt t) (gAt t) := by
  obtain ⟨e0, e1, e2⟩ := (idx_facts t).2.2.2.2.2.2.1
  funext j; show V m c main_arg4 (((cfg0.win 5).blk t).view.emb j) = V m c main_arg4 _
  refine congrArg _ (funext fun a => Fin.ext ?_)
  have h0 : (j 0).val < 1 := (j 0).isLt
  match a with
  | ⟨0, _⟩ => show win0_5.index t (0 : Fin 3) * 1 + 1 * (j 0).val = t.val / 4; omega
  | ⟨1, _⟩ => show win0_5.index t (1 : Fin 3) * 4096 + 1 * (j 1).val = (j 1).val; omega
  | ⟨2, _⟩ => show win0_5.index t (2 : Fin 3) * 128 + 1 * (j 2).val = 128 * (t.val % 4) + (j 2).val; omega

/-- An index of the result's block at `t` in the array. -/
theorem emb6 (t : Fin cfg0.N) (j : S1x4096x512.Idx) :
    ((cfg0.win 6).blk t).view.emb j = (ix3 (bAt t) ⟨(j 1).val, (j 1).isLt⟩ ⟨512 * (gAt t).val + (j 2).val, by have h : (j 2).val < 512 := (j 2).isLt; have := (gAt t).isLt; omega⟩ : S8x4096x2048.Idx) := by
  obtain ⟨e0, e1, e2⟩ := (idx_facts t).2.2.2.2.2.2.2
  have h0 : (j 0).val < 1 := (j 0).isLt
  refine funext fun a => Fin.ext ?_
  match a with
  | ⟨0, _⟩ => show win0_6.index t (0 : Fin 3) * 1 + 1 * (j 0).val = t.val / 4; omega
  | ⟨1, _⟩ => show win0_6.index t (1 : Fin 3) * 4096 + 1 * (j 1).val = (j 1).val; omega
  | ⟨2, _⟩ => show win0_6.index t (2 : Fin 3) * 512 + 1 * (j 2).val = 512 * (t.val % 4) + (j 2).val; omega

/-- What point `t` writes back is its block of the result array. -/
theorem flushed6_eq (c : Dev nD) (t : Fin cfg0.N) :
    (dats m 0 c).flushed 6 t = ((cfg0.win 6).blk t).view.read (Elt F) (resultOf (V m c main_arg0) (V m c main_arg1) (V m c main_arg2) (V m c main_arg3) (V m c main_arg4) (V m c main_arg5)) := by
  show (cfg0.win 6).cut (grid0.coords t) ((dats m 0 c).after 6 t) = _
  rw [after0_6, iblk0_eq, iblk1_eq, iblk2_eq, iblk3_eq, iblk4_eq, iblk5_eq, (idx_facts t).1]
  funext j
  show groupVal (V m c main_arg0) (V m c main_arg1) (V m c main_arg2) (V m c main_arg3) (V m c main_arg4) (V m c main_arg5) (bAt t) (gAt t) j = resultOf (V m c main_arg0) (V m c main_arg1) (V m c main_arg2) (V m c main_arg3) (V m c main_arg4) (V m c main_arg5) (((cfg0.win 6).blk t).view.emb j)
  rw [emb6]
  have h2 : (j 2).val < 512 := (j 2).isLt
  refine Eq.trans ?_ (resultOf_apply _ _ _ _ _ _ (bAt t) ⟨(j 1).val, (j 1).isLt⟩ (gAt t) ⟨(j 2).val, (j 2).isLt⟩ (by have := (gAt t).isLt; show 512 * (gAt t).val + (j 2).val < 2048; omega)).symm
  refine congrArg _ (funext fun a => Fin.ext ?_)
  have h0 : (j 0).val < 1 := (j 0).isLt
  match a with
  | ⟨0, _⟩ => show (j 0).val = 0; omega
  | ⟨1, _⟩ => rfl
  | ⟨2, _⟩ => rfl

/-- Every index of the result array is in some point's block. -/
theorem covered6 (y : S8x4096x2048.Idx) :
    ∃ t : Fin cfg0.N, (cfg0.win 6).flush t = true ∧ y ∈ ((cfg0.win 6).blk t).view.set := by
  have h0 : (y 0).val < 8 := (y 0).isLt
  have h1 : (y 1).val < 4096 := (y 1).isLt
  have h2 : (y 2).val < 2048 := (y 2).isLt
  have hN : 4 * (y 0).val + (y 2).val / 512 < cfg0.N := by show _ < 32; omega
  refine ⟨⟨4 * (y 0).val + (y 2).val / 512, hN⟩, flush0_6 _, ?_⟩
  have h := ((cfg0.win 6).blk (⟨4 * (y 0).val + (y 2).val / 512, hN⟩ : Fin cfg0.N)).view.emb_mem_set (ix3 0 ⟨(y 1).val, h1⟩ ⟨(y 2).val % 512, Nat.mod_lt _ (by decide)⟩ : S1x4096x512.Idx)
  rw [emb6] at h
  refine (congrArg (· ∈ _) (funext fun a => Fin.ext ?_) : _ = _).mpr h
  match a with
  | ⟨0, _⟩ => show (y 0).val = (4 * (y 0).val + (y 2).val / 512) / 4; omega
  | ⟨1, _⟩ => rfl
  | ⟨2, _⟩ => show (y 2).val = 512 * ((4 * (y 0).val + (y 2).val / 512) % 4) + (y 2).val % 512; omega

/-- The result array after the run. -/
theorem final6 (c : Dev nD) : (dats m 0 c).arrAt 6 cfg0.N = resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 (resultOf (V m c main_arg0) (V m c main_arg1) (V m c main_arg2) (V m c main_arg3) (V m c main_arg4) (V m c main_arg5)) (fun t _ => flushed6_eq m c t) covered6

/-! ## The run -/

set_option backward.isDefEq.respectTransparency.types false in
set_option maxHeartbeats 800000 in
/-- Every weakly fair execution from any memory with zero counters terminates with the arrays as the pipeline leaves them
    and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with the result array named: `resultOf` of the arguments; the arguments end as launched. -/
theorem run_value : θ_run defs (onTc (τ := τ) (main (F := F))) ⟨m, fun _ => 0, ρ⟩ (fun r => ∀ c : Dev nD,
      r.2.mem ((c.tc : Thread nD τ).loc main_v0) = resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 6).trans (final6 m c),
      ((h.1 c).1 3).trans (((dats m 0 c).arrAt_in 3 rfl _).trans ((A_eq m c 3).trans (V_main_arg0 m c))),
      ((h.1 c).1 0).trans (((dats m 0 c).arrAt_in 0 rfl _).trans ((A_eq m c 0).trans (V_main_arg1 m c))),
      ((h.1 c).1 4).trans (((dats m 0 c).arrAt_in 4 rfl _).trans ((A_eq m c 4).trans (V_main_arg2 m c))),
      ((h.1 c).1 1).trans (((dats m 0 c).arrAt_in 1 rfl _).trans ((A_eq m c 1).trans (V_main_arg3 m c))),
      ((h.1 c).1 5).trans (((dats m 0 c).arrAt_in 5 rfl _).trans ((A_eq m c 5).trans (V_main_arg4 m c))),
      ((h.1 c).1 2).trans (((dats m 0 c).arrAt_in 2 rfl _).trans ((A_eq m c 2).trans (V_main_arg5 m c)))⟩) (run_main m ρ)

end Cert.Proof.KI

end
-- ==== Proof.Math.Softmax.lean ====
/- The softmax of one query, computed online and computed whole, over the extended reals.

   A query meets its keys tile by tile; a tile's 256 keys are 32 rows of 8. The online computation keeps, for each of the
   eight columns, the largest score so far and the sum of the exponentials at it, and rescales at the end (`kcode`). The
   whole computation subtracts the largest score, exponentiates and divides by the sum (`rcode`). `code_eq` says that they
   give the same, whatever the scores: infinite ones included. -/
module

public import Idealize.ShloMosaic.Lib.Pointwise
public import Mathlib.Analysis.SpecialFunctions.Pow.Real

@[expose] public section

noncomputable section

namespace Cert.Proof.Math

open Idealize.ShloMosaic

/-! ## Exponentials -/

/-- The base-two exponential as a real (meant below `⊤`); -/
def w (t : EReal) : ℝ := (Ideal.exp2 t).toReal

/-- the natural one. -/
def v (t : EReal) : ℝ := (Ideal.exp t).toReal

theorem w_bot : w ⊥ = 0 := by simp [w]
theorem w_coe (x : ℝ) : w x = (2 : ℝ) ^ x := by simp [w]
theorem v_bot : v ⊥ = 0 := by simp [v]
theorem v_coe (x : ℝ) : v x = Real.exp x := by simp [v]

theorem w_nonneg (t : EReal) (h : t ≠ ⊤) : 0 ≤ w t := by
  induction t with
  | bot => rw [w_bot]
  | coe x => rw [w_coe]; positivity
  | top => exact absurd rfl h

theorem v_nonneg (t : EReal) (h : t ≠ ⊤) : 0 ≤ v t := by
  induction t with
  | bot => rw [v_bot]
  | coe x => rw [v_coe]; positivity
  | top => exact absurd rfl h

theorem exp2_coe_sub (x μ : ℝ) : Ideal.exp2 ((x : EReal) - μ) = (((2 : ℝ) ^ x * (2 : ℝ) ^ (-μ) : ℝ) : EReal) := by
  rw [← EReal.coe_sub, Ideal.exp2_coe, ← Real.rpow_add two_pos]; rfl

theorem exp2_sub (t : EReal) (h : t ≠ ⊤) (μ : ℝ) : Ideal.exp2 (t - μ) = ((w t * (2 : ℝ) ^ (-μ) : ℝ) : EReal) := by
  induction t with
  | bot => rw [EReal.bot_sub, Ideal.exp2_bot, w_bot, zero_mul]; rfl
  | coe x => rw [exp2_coe_sub, w_coe]
  | top => exact absurd rfl h

theorem exp_sub (t : EReal) (h : t ≠ ⊤) (μ : ℝ) : Ideal.exp (t - μ) = ((v t * Real.exp (-μ) : ℝ) : EReal) := by
  induction t with
  | bot => rw [EReal.bot_sub, Ideal.exp_bot, v_bot, zero_mul]; rfl
  | coe x => rw [← EReal.coe_sub, Ideal.exp_coe, v_coe, ← Real.exp_add]; rfl
  | top => exact absurd rfl h

/-- Scaled by `1 / log 2`, the base-two exponential is the natural one. -/
theorem w_scaled (t : EReal) (h : t ≠ ⊤) : w (t * (((Real.log 2)⁻¹ : ℝ) : EReal)) = v t := by
  have hL : 0 < Real.log 2 := Real.log_pos one_lt_two
  induction t with
  | bot => rw [EReal.bot_mul_coe_of_pos (inv_pos.mpr hL), w_bot, v_bot]
  | coe x =>
    rw [← EReal.coe_mul, w_coe, v_coe, Real.rpow_def_of_pos two_pos]
    congr 1; field_simp
  | top => exact absurd rfl h

/-! ## Sums and divisions of reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe (a b : ℝ) (h : b ≠ 0) : Ideal.div (a : EReal) b = ((a / b : ℝ) : EReal) := by
  unfold Ideal.div
  rw [if_neg (by exact_mod_cast h), ← EReal.coe_inv, ← EReal.coe_mul]; rfl

/-- A number that is neither infinity is real. -/
theorem real_of (t : EReal) (h : t ≠ ⊤) (h' : t ≠ ⊥) : ∃ x : ℝ, t = x := ⟨t.toReal, (EReal.coe_toReal h h').symm⟩

theorem sup_ne_top {ι : Type} (s : Finset ι) (f : ι → EReal) (h : ∀ i ∈ s, f i ≠ ⊤) : s.sup f ≠ ⊤ :=
  ((Finset.sup_lt_iff (bot_lt_top)).mpr fun i hi => lt_top_iff_ne_top.mpr (h i hi)).ne

theorem sup_eq_top {ι : Type} (s : Finset ι) (f : ι → EReal) (i : ι) (hi : i ∈ s) (h : f i = ⊤) : s.sup f = ⊤ :=
  top_le_iff.mp (h ▸ Finset.le_sup (f := f) hi)

/-! ## The online computation -/

section Online

variable (c0 : ℝ) (T : ℕ → Fin 32 → Fin 8 → EReal)

/-- Column `r`'s largest score in the first `j` tiles (at least `c0`), -/
def mOf : ℕ → Fin 8 → EReal
  | 0 => fun _ => (c0 : EReal)
  | j + 1 => fun r => max (mOf j r) (Finset.univ.sup fun s => T j s r)

/-- its sum of exponentials there, -/
def lOf : ℕ → Fin 8 → EReal
  | 0 => fun _ => 0
  | j + 1 => fun r => lOf j r * Ideal.exp2 (mOf c0 T j r - mOf c0 T (j + 1) r) + ∑ s, Ideal.exp2 (T j s r - mOf c0 T (j + 1) r)

/-- the largest over the columns after `N` tiles, -/
def topOf (N : ℕ) : EReal := Finset.univ.sup fun r => mOf c0 T N r

/-- the whole sum there, -/
def sumOf (N : ℕ) : EReal := ∑ r, lOf c0 T N r * Ideal.exp2 (mOf c0 T N r - topOf c0 T N)

/-- and the code, before it is clipped, of key `(j, s, r)`: 256 times its share. -/
def kcode (N j : ℕ) (s : Fin 32) (r : Fin 8) : EReal :=
  Ideal.exp2 (T j s r - mOf c0 T (j + 1) r) *
    (Ideal.exp2 (mOf c0 T (j + 1) r - topOf c0 T N) * Ideal.div ((256 : ℝ) : EReal) (sumOf c0 T N))

theorem mOf_mono (r : Fin 8) {i j : ℕ} (h : i ≤ j) : mOf c0 T i r ≤ mOf c0 T j r := by
  induction h with
  | refl => exact le_rfl
  | step _ ih => exact ih.trans (le_max_left _ _)

theorem mOf_ne_bot (j : ℕ) (r : Fin 8) : mOf c0 T j r ≠ ⊥ :=
  fun h => EReal.coe_ne_bot c0 (le_bot_iff.mp (h ▸ mOf_mono c0 T r (Nat.zero_le j)))

theorem mOf_ne_top {N : ℕ} (hT : ∀ j < N, ∀ s r, T j s r ≠ ⊤) (r : Fin 8) : ∀ j ≤ N, mOf c0 T j r ≠ ⊤
  | 0, _ => EReal.coe_ne_top c0
  | j + 1, h => by
    have h1 := mOf_ne_top hT r j (by omega)
    have h2 := sup_ne_top Finset.univ (fun s => T j s r) fun s _ => hT j (by omega) s r
    exact (max_lt (lt_top_iff_ne_top.mpr h1) (lt_top_iff_ne_top.mpr h2)).ne

/-- With a score at `⊤` every code is zero. -/
theorem kcode_of_top {N : ℕ} {j0 : ℕ} (hj0 : j0 < N) (s0 : Fin 32) (r0 : Fin 8) (h : T j0 s0 r0 = ⊤) (j : ℕ) (s : Fin 32) (r : Fin 8) :
    kcode c0 T N j s r = 0 := by
  have h1 : mOf c0 T (j0 + 1) r0 = ⊤ :=
    top_le_iff.mp ((sup_eq_top Finset.univ (fun s => T j0 s r0) s0 (Finset.mem_univ _) h).symm.le.trans (le_max_right _ _))
  have h2 : mOf c0 T N r0 = ⊤ := top_le_iff.mp (h1 ▸ mOf_mono c0 T r0 hj0)
  have h3 : topOf c0 T N = ⊤ := sup_eq_top _ _ r0 (Finset.mem_univ _) h2
  unfold kcode
  rw [h3, EReal.sub_top, Ideal.exp2_bot, zero_mul, mul_zero]

/-- Column `r`'s exponentials of the first `j` tiles, unscaled. -/
def wSum (j : ℕ) (r : Fin 8) : ℝ := ∑ j' ∈ Finset.range j, ∑ s, w (T j' s r)

theorem lOf_eq {N : ℕ} (hT : ∀ j < N, ∀ s r, T j s r ≠ ⊤) (μ : ℕ → Fin 8 → ℝ) (hμ : ∀ j ≤ N, ∀ r, mOf c0 T j r = μ j r) (r : Fin 8) :
    ∀ j ≤ N, lOf c0 T j r = ((wSum T j r * (2 : ℝ) ^ (-μ j r) : ℝ) : EReal)
  | 0, _ => by simp [lOf, wSum]
  | j + 1, h => by
    have ih := lOf_eq hT μ hμ r j (by omega)
    show lOf c0 T j r * Ideal.exp2 (mOf c0 T j r - mOf c0 T (j + 1) r) + ∑ s, Ideal.exp2 (T j s r - mOf c0 T (j + 1) r) = _
    rw [ih, hμ j (by omega), hμ (j + 1) h, exp2_coe_sub,
      Finset.sum_congr rfl fun s _ => exp2_sub (T j s r) (hT j (by omega) s r) (μ (j + 1) r), ← coe_sum, ← EReal.coe_mul, ← EReal.coe_add]
    congr 1
    unfold wSum
    rw [Finset.sum_range_succ, ← Finset.sum_mul]
    have e : (2 : ℝ) ^ (-μ j r) * (2 : ℝ) ^ (μ j r) = 1 := by rw [← Real.rpow_add two_pos]; simp
    linear_combination (∑ j' ∈ Finset.range j, ∑ s, w (T j' s r)) * (2 : ℝ) ^ (-μ (j + 1) r) * e

/-- With no score at `⊤` the code is 256 times the share (zero if every score is `⊥`). -/
theorem kcode_eq {N : ℕ} (hT : ∀ j < N, ∀ s r, T j s r ≠ ⊤) (W : ℝ) (hW : W = ∑ r, wSum T N r) (j : ℕ) (hj : j < N) (s : Fin 32) (r : Fin 8) :
    kcode c0 T N j s r = ((256 * w (T j s r) / W : ℝ) : EReal) := by
  choose! μ hμ using fun (j : ℕ) (hj : j ≤ N) (r : Fin 8) => real_of (mOf c0 T j r) (mOf_ne_top c0 T hT r j hj) (mOf_ne_bot c0 T j r)
  obtain ⟨M, hM⟩ := real_of (topOf c0 T N) (sup_ne_top _ _ fun r _ => mOf_ne_top c0 T hT r N le_rfl)
    (fun h => mOf_ne_bot c0 T N 0 (le_bot_iff.mp (h ▸ Finset.le_sup (f := fun r => mOf c0 T N r) (Finset.mem_univ 0))))
  have hpos : ∀ x : ℝ, (0 : ℝ) < 2 ^ x := fun x => Real.rpow_pos_of_pos two_pos x
  have hsum : sumOf c0 T N = ((W * (2 : ℝ) ^ (-M) : ℝ) : EReal) := by
    unfold sumOf
    have e : ∀ r, lOf c0 T N r * Ideal.exp2 (mOf c0 T N r - topOf c0 T N) = ((wSum T N r * (2 : ℝ) ^ (-M) : ℝ) : EReal) := fun r => by
      rw [lOf_eq c0 T hT μ hμ r N le_rfl, hμ N le_rfl, hM, exp2_coe_sub, ← EReal.coe_mul]
      congr 1
      have e : (2 : ℝ) ^ (-μ N r) * (2 : ℝ) ^ (μ N r) = 1 := by rw [← Real.rpow_add two_pos]; simp
      linear_combination wSum T N r * (2 : ℝ) ^ (-M) * e
    rw [Finset.sum_congr rfl fun r _ => e r, ← coe_sum, ← Finset.sum_mul, hW]
  unfold kcode
  rw [hμ (j + 1) hj, exp2_sub _ (hT j hj s r), hM, hsum]
  by_cases hW0 : W = 0
  · have hwz : w (T j s r) = 0 := by
      have h0 : ∑ r, wSum T N r = 0 := hW ▸ hW0
      have hn : ∀ j' < N, ∀ s r, 0 ≤ w (T j' s r) := fun j' hj' s r => w_nonneg _ (hT j' hj' s r)
      have h1 := (Finset.sum_eq_zero_iff_of_nonneg fun r _ => Finset.sum_nonneg fun j' hj' => Finset.sum_nonneg fun s _ => hn j' (Finset.mem_range.mp hj') s r).mp h0 r (Finset.mem_univ r)
      have h2 := (Finset.sum_eq_zero_iff_of_nonneg fun j' hj' => Finset.sum_nonneg fun s _ => hn j' (Finset.mem_range.mp hj') s r).mp h1 j (Finset.mem_range.mpr hj)
      exact (Finset.sum_eq_zero_iff_of_nonneg fun s _ => hn j hj s r).mp h2 s (Finset.mem_univ s)
    rw [hwz, zero_mul, mul_zero, zero_div, EReal.coe_zero, zero_mul]
  · have hne : W * (2 : ℝ) ^ (-M) ≠ 0 := mul_ne_zero hW0 (hpos _).ne'
    rw [div_coe _ _ hne, exp2_coe_sub, ← EReal.coe_mul, ← EReal.coe_mul]
    congr 1
    have e : (2 : ℝ) ^ (-μ (j + 1) r) * (2 : ℝ) ^ (μ (j + 1) r) = 1 := by rw [← Real.rpow_add two_pos]; simp
    have hM' := (hpos (-M)).ne'
    field_simp
    linear_combination w (T j s r) * e

end Online

/-! ## The whole computation -/

section Whole

variable {ι : Type} [Fintype ι] (R : ι → EReal)

/-- The largest score, -/
def rmax : EReal := Finset.univ.sup R

/-- and the code of key `i`, before it is clipped: 256 times its share. -/
def rcode (i : ι) : EReal := Ideal.exp (R i - rmax R) * Ideal.div 1 (∑ i, Ideal.exp (R i - rmax R)) * ((256 : ℝ) : EReal)

theorem rcode_of_top (i0 : ι) (h : R i0 = ⊤) (i : ι) : rcode R i = 0 := by
  unfold rcode
  rw [show rmax R = ⊤ from sup_eq_top _ _ i0 (Finset.mem_univ _) h, EReal.sub_top, Ideal.exp_bot, zero_mul, zero_mul]

theorem exp_bot_sub (x : EReal) : Ideal.exp (⊥ - x) = 0 := by rw [EReal.bot_sub, Ideal.exp_bot]

theorem rcode_of_bot (i : ι) (h : R i = ⊥) : rcode R i = 0 := by
  unfold rcode
  rw [h, exp_bot_sub, zero_mul, zero_mul]

theorem rcode_eq (hR : ∀ i, R i ≠ ⊤) (W : ℝ) (hW : W = ∑ i, v (R i)) (i : ι) : rcode R i = ((256 * v (R i) / W : ℝ) : EReal) := by
  by_cases hb : R i = ⊥
  · rw [rcode_of_bot R i hb, hb, v_bot, mul_zero, zero_div]; rfl
  obtain ⟨M, hM⟩ := real_of (rmax R) (sup_ne_top _ _ fun i _ => hR i)
    (fun h => hb (le_bot_iff.mp (h ▸ Finset.le_sup (f := R) (Finset.mem_univ i))))
  obtain ⟨x, hx⟩ := real_of (R i) (hR i) hb
  have hWpos : 0 < W := by
    rw [hW]
    refine Finset.sum_pos' (fun i _ => v_nonneg _ (hR i)) ⟨i, Finset.mem_univ i, ?_⟩
    rw [hx, v_coe]; exact Real.exp_pos x
  have hne : W * Real.exp (-M) ≠ 0 := mul_ne_zero hWpos.ne' (Real.exp_pos _).ne'
  unfold rcode
  rw [hM, Finset.sum_congr rfl fun i _ => exp_sub (R i) (hR i) M, ← coe_sum, ← Finset.sum_mul, ← hW, exp_sub (R i) (hR i) M,
    ← EReal.coe_one, div_coe _ _ hne, ← EReal.coe_mul, ← EReal.coe_mul]
  congr 1
  have hM' := (Real.exp_pos (-M)).ne'
  have hW' := hWpos.ne'
  field_simp

end Whole

/-! ## They agree -/

/-- Keys `(j, s, r)` of the first `N` tiles hold every score that is not `⊥`, each once (`hsum`); the online scores are the
    whole ones times `1 / log 2`. -/
theorem code_eq {ι : Type} [Fintype ι] (R : ι → EReal) (c0 : ℝ) (T : ℕ → Fin 32 → Fin 8 → EReal) (N : ℕ) (key : ℕ → Fin 32 → Fin 8 → ι)
    (hT : ∀ j < N, ∀ s r, T j s r = R (key j s r) * (((Real.log 2)⁻¹ : ℝ) : EReal))
    (hcover : ∀ i, R i ≠ ⊥ → ∃ j < N, ∃ s r, key j s r = i)
    (hsum : ∀ f : ι → ℝ, (∀ i, R i = ⊥ → f i = 0) → ∑ i, f i = ∑ r, ∑ j ∈ Finset.range N, ∑ s, f (key j s r))
    (j : ℕ) (hj : j < N) (s : Fin 32) (r : Fin 8) : kcode c0 T N j s r = rcode R (key j s r) := by
  have hL : 0 < (Real.log 2)⁻¹ := inv_pos.mpr (Real.log_pos one_lt_two)
  by_cases htop : ∃ i, R i = ⊤
  · obtain ⟨i, hi⟩ := htop
    obtain ⟨j0, hj0, s0, r0, rfl⟩ := hcover i (by rw [hi]; exact top_ne_bot)
    rw [rcode_of_top R _ hi, kcode_of_top c0 T hj0 s0 r0 (by rw [hT j0 hj0, hi, EReal.top_mul_coe_of_pos hL])]
  · have hR : ∀ i, R i ≠ ⊤ := fun i hi => htop ⟨i, hi⟩
    have hT' : ∀ j < N, ∀ s r, T j s r ≠ ⊤ := fun j hj s r => by
      rw [hT j hj]
      generalize hRk : R (key j s r) = x
      have hx : x ≠ ⊤ := hRk ▸ hR _
      induction x with
      | bot => rw [EReal.bot_mul_coe_of_pos hL]; exact bot_ne_top
      | coe x => rw [← EReal.coe_mul]; exact EReal.coe_ne_top _
      | top => exact absurd rfl hx
    have hw : ∀ j < N, ∀ s r, w (T j s r) = v (R (key j s r)) := fun j hj s r => by rw [hT j hj, w_scaled _ (hR _)]
    rw [rcode_eq R hR _ rfl, kcode_eq c0 T hT' (∑ i, v (R i)) ?_ j hj, hw j hj]
    rw [hsum (fun i => v (R i)) fun i hi => by show v (R i) = 0; rw [hi, v_bot]]
    exact Finset.sum_congr rfl fun r _ => Finset.sum_congr rfl fun j hj => Finset.sum_congr rfl fun s _ => (hw j (Finset.mem_range.mp hj) s r).symm

end Cert.Proof.Math

end
-- ==== Proof.Math.Constants.lean ====
/- The constants both programs share, and the quantiser's clip. -/
module

public import Idealize.ShloMosaic.Lib.Pointwise

@[expose] public section

set_option maxRecDepth 16384

noncomputable section

namespace Cert.Proof.Math

open Idealize.ShloMosaic

theorem ofBits_ninf : Ideal.ofBits .f32 0xFF800000#32 = ⊥ := by
  simp [Ideal.ofBits, Ideal.ieee]

theorem ofBits_256 : Ideal.ofBits .f32 0x43800000#32 = ((256 : ℝ) : EReal) := by
  simp [Ideal.ofBits, Ideal.ieee]
  rw [← EReal.coe_mul]; norm_num

/-- The quantiser's clip. -/
def clip (x : EReal) : EReal := min (Ideal.ofBits .f32 0x43E00000#32) (max (Ideal.ofBits .f32 0xC3E00000#32) x)

theorem clip_zero : clip 0 = 0 := by
  have h1 : Ideal.ofBits .f32 0xC3E00000#32 = ((-448 : ℝ) : EReal) := by
    simp [Ideal.ofBits, Ideal.ieee]
    rw [← EReal.coe_mul]; norm_num
  have h2 : Ideal.ofBits .f32 0x43E00000#32 = ((448 : ℝ) : EReal) := by
    simp [Ideal.ofBits, Ideal.ieee]
    rw [← EReal.coe_mul]; norm_num
  unfold clip
  rw [h1, h2, max_eq_right, min_eq_right]
  · exact_mod_cast (by norm_num : (0 : ℝ) ≤ 448)
  · exact_mod_cast (by norm_num : (-448 : ℝ) ≤ 0)

end Cert.Proof.Math

end
-- ==== Proof.Math.Head.lean ====
/- One head's output at one query, of the kernel's: a sum over the key tiles of values times clipped codes, the codes those of
   the online softmax (`kcode`) of the head's scores. -/
module

public import proofs.«01_k».proof.Proof.KI.Head
public import proofs.«01_k».proof.Proof.Math.Softmax
public import proofs.«01_k».proof.Proof.Math.Constants
public import Idealize.ShloMosaic.Lib.WordCmp

@[expose] public section

set_option maxRecDepth 16384

noncomputable section

namespace Cert.Proof.Math

open Idealize.ShloMosaic
open Cert.KernelIdeal Cert.KernelIdeal.Gen Cert.Proof.KI

/-! ## Constants -/

/-- The running maximum's first value, a real. -/
def c0 : ℝ := (Ideal.ofBits .f32 0xFF7FFFFF#32).toReal

theorem ofBits_c0 : Ideal.ofBits .f32 0xFF7FFFFF#32 = (c0 : EReal) := by
  unfold c0
  rw [EReal.coe_toReal] <;> simp [Ideal.ofBits, Ideal.ieee] <;> first | exact EReal.coe_ne_top _ | exact EReal.coe_ne_bot _

theorem named_log2e : Named.named (F := Ideal) (φ := .f32) κ "log2e" 0x3FB8AA3B#32 = (((Real.log 2)⁻¹ : ℝ) : EReal) :=
  IdealRules.named_const.ideal_named_scalar _ _ _ _ rfl

/-! ## One query of a head -/

section

variable (q : Vec Ideal S1x256x128 .fp8e4m3) (a b : Elt Ideal .f32) (Kc : ℕ → Vec Ideal S1x256x128 .fp8e4m3) (Vc : ℕ → Vec Ideal S64x256 .fp8e4m3)
  (n : ℕ) (x : Fin 256)

/-- The query's score with key `(j, s, r)` before the mask: the product over the 128 lanes, scaled. -/
def score (j : ℕ) (s : Fin 32) (r : Fin 8) : EReal :=
  (∑ z : Fin 128, Kc j (ix3 0 ⟨s.val * 8 + r.val, by omega⟩ z) * q (ix3 0 x z)) *
    (a * b * Ideal.ofBits .f32 0x3E000000#32 * (((Real.log 2)⁻¹ : ℝ) : EReal))

/-- The masked scores: in the query's own tile no key after it. -/
def Ts (j : ℕ) (s : Fin 32) (r : Fin 8) : EReal := if j = n ∧ ¬ s.val * 8 + r.val ≤ x.val then ⊥ else score q a b Kc x j s r

theorem pay8_apply (j : ℕ) (s : Fin 32) (r : Fin 8) : k0_pay8 q a b (Kc j) (ix3 s r x) = score q a b Kc x j s r := by
  pointwise [k0_pay8, k0_pay4, k0_pay5]
  rw [named_log2e]; rfl

theorem pay20_apply (s : Fin 32) (r : Fin 8) : TD q a b Kc n (ix3 s r x) = Ts q a b Kc n x n s r := by
  unfold TD Ts
  pointwise [k0_pay20, k0_pay2, k0_pay4, k0_pay5]
  rw [named_log2e, ofBits_ninf, WordCmp.cmpi_sle_ofNat (by have := s.isLt; have := r.isLt; omega) (by have := x.isLt; omega)]
  by_cases h : s.val * 8 + r.val ≤ x.val
  · rw [if_neg (not_not_intro h), decide_eq_true h]; rfl
  · rw [if_pos h, decide_eq_false h]; rfl

/-- The running maxima and sums are those of the online softmax. -/
theorem ML_apply (r : Fin 8) : ∀ j ≤ n, (ML q a b Kc j).1 (ix2 r x) = mOf c0 (Ts q a b Kc n x) j r
    ∧ (ML q a b Kc j).2 (ix2 r x) = lOf c0 (Ts q a b Kc n x) j r
  | 0, _ => by
    refine ⟨?_, ?_⟩
    · show k0_pay6 (F := Ideal) (ix2 r x) = _
      pointwise [k0_pay6]
      exact ofBits_c0
    · show k0_pay7 (F := Ideal) (ix2 r x) = _
      pointwise [k0_pay7]
      rfl
  | j + 1, h => by
    obtain ⟨h1, h2⟩ := ML_apply r j (by omega)
    have e : ∀ s r, k0_pay8 q a b (Kc j) (ix3 s r x) = Ts q a b Kc n x j s r := fun s r => by
      rw [pay8_apply, Ts, if_neg (by omega)]
    have e9 : k0_pay9 q a b (ML q a b Kc j).1 (Kc j) (ix2 r x) = mOf c0 (Ts q a b Kc n x) (j + 1) r := by
      pointwise [k0_pay9]
      rw [h1, ofBits_ninf]
      simp only [e]
      rfl
    refine ⟨e9, ?_⟩
    show k0_pay11 q a b (ML q a b Kc j).1 (ML q a b Kc j).2 (Kc j) (ix2 r x) = _
    pointwise [k0_pay11, k0_pay10]
    simp only [e9, h1, h2, e]
    rfl

theorem pay10_apply (j : ℕ) (h : j < n) (s : Fin 32) (r : Fin 8) :
    k0_pay10 q a b (ML q a b Kc j).1 (Kc j) (ix3 s r x) = Ideal.exp2 (Ts q a b Kc n x j s r - mOf c0 (Ts q a b Kc n x) (j + 1) r) := by
  have e9 : k0_pay9 q a b (ML q a b Kc j).1 (Kc j) (ix2 r x) = mOf c0 (Ts q a b Kc n x) (j + 1) r := (ML_apply q a b Kc n x r (j + 1) h).1
  pointwise [k0_pay10]
  rw [e9, pay8_apply, Ts, if_neg (by omega)]
  rfl

/-- The maxima after the query's own tile. -/
theorem pay21_apply (r : Fin 8) : k0_pay21 (ML q a b Kc n).1 (TD q a b Kc n) (ix2 r x) = mOf c0 (Ts q a b Kc n x) (n + 1) r := by
  pointwise [k0_pay21]
  rw [(ML_apply q a b Kc n x r n le_rfl).1, ofBits_ninf]
  simp only [pay20_apply]
  rfl

theorem pay22_apply (s : Fin 32) (r : Fin 8) :
    k0_pay22 (ML q a b Kc n).1 (TD q a b Kc n) (ix3 s r x) = Ideal.exp2 (Ts q a b Kc n x n s r - mOf c0 (Ts q a b Kc n x) (n + 1) r) := by
  pointwise [k0_pay22]
  rw [pay21_apply, pay20_apply]
  rfl

theorem pay25_apply (z : Fin 1) : k0_pay25 (ML q a b Kc n).1 (TD q a b Kc n) (ix2 z x) = topOf c0 (Ts q a b Kc n x) (n + 1) := by
  pointwise [k0_pay25]
  simp only [pay21_apply, ofBits_ninf]
  rfl

theorem pay26_apply (z : Fin 1) : k0_pay26 (ML q a b Kc n).1 (ML q a b Kc n).2 (TD q a b Kc n) (ix2 z x)
    = Ideal.div ((256 : ℝ) : EReal) (sumOf c0 (Ts q a b Kc n x) (n + 1)) := by
  pointwise [k0_pay26]
  simp only [pay21_apply, pay22_apply, pay25_apply, ofBits_256, (ML_apply q a b Kc n x _ n le_rfl).1, (ML_apply q a b Kc n x _ n le_rfl).2]
  rfl

/-- A key tile's stored exponentials -/
theorem eAll_apply (j : ℕ) (h : j ≤ n) (k : Fin 256) : eAll q a b Kc n j (ix2 k x)
    = Ideal.exp2 (Ts q a b Kc n x j ⟨k.val / 8, by omega⟩ ⟨k.val % 8, by omega⟩ - mOf c0 (Ts q a b Kc n x) (j + 1) ⟨k.val % 8, by omega⟩) := by
  unfold eAll
  by_cases hj : j = n
  · subst hj
    rw [if_pos rfl]
    pointwise [k0_pay23]
    exact pay22_apply q a b Kc j x _ _
  · rw [if_neg hj]
    pointwise [k0_pay12]
    exact pay10_apply q a b Kc n x j (by omega) _ _

/-- and the maxima they are at. -/
theorem mAll_apply (j : ℕ) (h : j ≤ n) (z : Fin 1) (r : Fin 8) : mAll q a b Kc n j (ix3 z r x) = mOf c0 (Ts q a b Kc n x) (j + 1) r := by
  unfold mAll
  by_cases hj : j = n
  · subst hj
    rw [if_pos rfl]
    pointwise [k0_pay24]
    exact pay21_apply q a b Kc j x r
  · rw [if_neg hj]
    pointwise [k0_pay13]
    exact (ML_apply q a b Kc n x r (j + 1) (by omega)).1

/-- The product with the values after the first `j` tiles. -/
theorem OV_apply (d : Fin 64) : ∀ j ≤ n + 1, OV q a b Kc Vc n j (ix2 d x)
    = ∑ j' ∈ Finset.range j, ∑ k : Fin 256, Vc j' (ix2 d k) * clip (kcode c0 (Ts q a b Kc n x) (n + 1) j' ⟨k.val / 8, by omega⟩ ⟨k.val % 8, by omega⟩)
  | 0, _ => by
    show k0_pay27 (F := Ideal) (ix2 d x) = _
    pointwise [k0_pay27]
    rfl
  | j + 1, h => by
    rw [Finset.sum_range_succ, ← OV_apply d j (by omega)]
    show k0_pay28 (ML q a b Kc n).1 (ML q a b Kc n).2 (TD q a b Kc n) (OV q a b Kc Vc n j) (mAll q a b Kc n j) (eAll q a b Kc n j) (Vc j) (ix2 d x) = _
    pointwise [k0_pay28]
    simp only [eAll_apply q a b Kc n x j (by omega), mAll_apply q a b Kc n x j (by omega), pay25_apply, pay26_apply]
    rfl

/-- The head's output. -/
theorem headOut_apply (vs : Elt Ideal .f32) (d : Fin 64) : headOut q a b Kc Vc vs n (ix2 d x)
    = (∑ j ∈ Finset.range (n + 1), ∑ k : Fin 256, Vc j (ix2 d k) * clip (kcode c0 (Ts q a b Kc n x) (n + 1) j ⟨k.val / 8, by omega⟩ ⟨k.val % 8, by omega⟩))
      * (vs * Ideal.ofBits .f32 0x3B800000#32) := by
  unfold headOut
  pointwise [k0_pay30]
  rw [OV_apply q a b Kc Vc n x d (n + 1) le_rfl]

end

end Cert.Proof.Math

end
-- ==== Proof.Math.Reference.lean ====
/- The reference's result at an index: a sum over the keys of values times clipped codes, the codes those of the whole softmax
   (`rcode`) of the masked scores. -/
module

public import proofs.«01_k».proof.Proof.Gen.ReferenceIdeal.Value
public import proofs.«01_k».proof.Proof.Math.Softmax
public import proofs.«01_k».proof.Proof.Math.Constants
public import Idealize.ShloMosaic.Lib.WordCmp

@[expose] public section

set_option maxRecDepth 16384

noncomputable section

namespace Cert.Proof.Math

open Idealize.ShloMosaic
open Cert.ReferenceIdeal Cert.ReferenceIdeal.Gen

variable (a0 : Vec Ideal S8x4096x2048 .fp8e4m3) (a1 : Vec Ideal S32 .f32) (a2 : Vec Ideal S8x4096x512 .fp8e4m3) (a3 : Vec Ideal S8 .f32)
  (a4 : Vec Ideal S8x4096x512 .fp8e4m3) (a5 : Vec Ideal S8 .f32)

/-- Query `q`'s masked scores, in batch `b`, query head `g` of key head `h`. -/
def Rs (b h : Fin 8) (g : Fin 4) (q s : Fin 4096) : EReal :=
  if s.val ≤ q.val then
    (∑ z : Fin 64, a2 (ix3 b s ⟨h.val * 64 + z.val, by omega⟩) * a0 (ix3 b q ⟨h.val * 256 + g.val * 64 + z.val, by omega⟩)) *
      (a1 (ix1 ⟨h.val * 4 + g.val, by omega⟩) * a3 (ix1 h) * Ideal.ofBits .f32 0x3E000000#32)
  else ⊥

theorem select_le (s q : Fin 4096) (y z : EReal) :
    Scalar.select (IntOp.cmpi .sle (BitVec.ofNat 32 s.val) (BitVec.ofNat 32 q.val)) y z = if s.val ≤ q.val then y else z := by
  rw [WordCmp.cmpi_sle_ofNat (by have := s.isLt; omega) (by have := q.isLt; omega)]
  by_cases h : s.val ≤ q.val
  · rw [if_pos h, decide_eq_true h]; rfl
  · rw [if_neg h, decide_eq_false h]; rfl

theorem codes_apply (b h : Fin 8) (g : Fin 4) (q s : Fin 4096) :
    k0_pay3 a0 a2 a1 a3 (ix5 b h g q s) = rcode (Rs a0 a1 a2 a3 b h g q) s := by
  pointwise [k0_pay3]
  simp only [select_le, ofBits_ninf, ofBits_256]
  rfl

/-- The reference's result at batch `b`, row `r`, column `l`. -/
theorem G6_apply (b : Fin 8) (r : Fin 4096) (l : Fin 2048) : Value.G6 a0 a1 a2 a3 a4 a5 (ix3 b r l)
    = (∑ s : Fin 4096, a4 (ix3 b s ⟨l.val / 256 * 64 + l.val % 64, by omega⟩) *
        clip (rcode (Rs a0 a1 a2 a3 b ⟨l.val / 256, by omega⟩ ⟨l.val / 64 % 4, by omega⟩ r) s))
      * (a5 (ix1 ⟨l.val / 256, by omega⟩) * Ideal.ofBits .f32 0x3B800000#32) := by
  unfold Value.G6
  pointwise [k0_pay1, k0_pay2, k0_pay4]
  simp only [codes_apply]
  rfl

end Cert.Proof.Math

end
-- ==== Proof.Math.Layout.lean ====
/- Where the kernel's tiles lie in what it loads, and the sums over lanes and keys, taken apart into tiles. -/
module

public import proofs.«01_k».proof.Proof.KI.Trip
public import proofs.«01_k».proof.Proof.Math.Constants
public import Idealize.ShloMosaic.Lib.WordCmp
public import Idealize.ShloMosaic.Lib.Pointwise

@[expose] public section

set_option maxRecDepth 16384

noncomputable section

namespace Cert.Proof.Math

open Idealize.ShloMosaic
open Cert.KernelIdeal Cert.KernelIdeal.Gen Cert.Proof.KI

/-! ## The copies of the keys -/

theorem select_lt (n m : ℕ) (hn : n < 2 ^ 31) (hm : m < 2 ^ 31) (y z : EReal) :
    Scalar.select (IntOp.cmpi .slt (BitVec.ofNat 32 n) (BitVec.ofNat 32 m)) y z = if n < m then y else z := by
  rw [WordCmp.cmpi_slt_ofNat hn hm]
  by_cases h : n < m
  · rw [if_pos h, decide_eq_true h]; rfl
  · rw [if_neg h, decide_eq_false h]; rfl

theorem select_ge (n m : ℕ) (hn : n < 2 ^ 31) (hm : m < 2 ^ 31) (y z : EReal) :
    Scalar.select (IntOp.cmpi .sge (BitVec.ofNat 32 n) (BitVec.ofNat 32 m)) y z = if m ≤ n then y else z := by
  rw [WordCmp.cmpi_sge_ofNat hn hm]
  by_cases h : m ≤ n
  · rw [if_pos h, decide_eq_true h]; rfl
  · rw [if_neg h, decide_eq_false h]; rfl

section

variable (x6 : Vec Ideal S1x4096x128 .fp8e4m3) (r : Fin 4096) (l : Fin 128)

theorem pay228_apply : k0_pay228 x6 (ix3 0 r l) = if l.val < 64 then x6 (ix3 0 r l) else 0 := by
  pointwise [k0_pay228, k0_pay226, k0_pay225]
  exact select_lt l.val 64 (by omega) (by omega) _ _

theorem pay229_apply : k0_pay229 x6 (ix3 0 r l) =
    if (l.val + 128 - 64) % 128 < 64 then x6 (ix3 0 r ⟨(l.val + 128 - 64) % 128, by omega⟩) else 0 := by
  pointwise [k0_pay229, k0_pay226, k0_pay225]
  exact select_lt ((l.val + 128 - 64) % 128) 64 (by omega) (by omega) _ _

theorem pay230_apply : k0_pay230 x6 (ix3 0 r l) =
    if 64 ≤ (l.val + 128 - 64) % 128 then x6 (ix3 0 r ⟨(l.val + 128 - 64) % 128, by omega⟩) else 0 := by
  pointwise [k0_pay230, k0_pay227, k0_pay225]
  exact select_ge ((l.val + 128 - 64) % 128) 64 (by omega) (by omega) _ _

theorem pay231_apply : k0_pay231 x6 (ix3 0 r l) = if 64 ≤ l.val then x6 (ix3 0 r l) else 0 := by
  pointwise [k0_pay231, k0_pay227, k0_pay225]
  exact select_ge l.val 64 (by omega) (by omega) _ _

/-- Copy `2 kv + hf` holds the 64 lanes of key head `kv` in half `hf`, and zero in the other. -/
theorem kvarSlab_apply (kv hf : Fin 2) : kvarSlab (2 * kv.val + hf.val) x6 (ix3 0 r l) =
    if l.val / 64 = hf.val then x6 (ix3 0 r ⟨64 * kv.val + l.val % 64, by omega⟩) else 0 := by
  have hl := l.isLt
  have key : ∀ (p p' : Prop) [Decidable p] [Decidable p'] (i i' : Fin 128), (p ↔ p') → (p → i.val = i'.val) →
      (if p then x6 (ix3 0 r i) else (0 : EReal)) = if p' then x6 (ix3 0 r i') else 0 := by
    intro p p' _ _ i i' h e
    by_cases hp : p
    · rw [if_pos hp, if_pos (h.mp hp), Fin.ext (e hp)]
    · rw [if_neg hp, if_neg (fun h' => hp (h.mpr h'))]
  match kv, hf with
  | ⟨0, _⟩, ⟨0, _⟩ => exact (pay228_apply x6 r l).trans (key _ _ _ _ (by simp only; omega) (by simp only; omega))
  | ⟨0, _⟩, ⟨1, _⟩ => exact (pay229_apply x6 r l).trans (key _ _ _ _ (by simp only; omega) (by simp only; omega))
  | ⟨1, _⟩, ⟨0, _⟩ => exact (pay230_apply x6 r l).trans (key _ _ _ _ (by simp only; omega) (by simp only; omega))
  | ⟨1, _⟩, ⟨1, _⟩ => exact (pay231_apply x6 r l).trans (key _ _ _ _ (by simp only; omega) (by simp only; omega))

end

/-! ## The tiles -/

theorem kChunk_apply (x6 : Vec Ideal S1x4096x128 .fp8e4m3) (va j : ℕ) (k : Fin 256) (z : Fin 128) :
    kChunk x6 va j (ix3 0 k z) = kvarSlab va x6 (ix3 0 ⟨256 * (j % 16) + k.val, by omega⟩ z) := by
  refine congrArg (kvarSlab va x6) (funext fun a => Fin.ext ?_)
  match a with
  | ⟨0, _⟩ => rfl
  | ⟨1, _⟩ => show 256 * (j % 16) + 1 * k.val = 256 * (j % 16) + k.val; omega
  | ⟨2, _⟩ => show 0 + 1 * z.val = z.val; omega

theorem pay1_apply (x7 : Vec Ideal S1x4096x128 .fp8e4m3) (d : Fin 128) (r : Fin 4096) : k0_pay1 x7 (ix2 d r) = x7 (ix3 0 r d) := by
  pointwise [k0_pay1]

theorem vChunk_apply (x7 : Vec Ideal S1x4096x128 .fp8e4m3) (kv j : ℕ) (d : Fin 64) (k : Fin 256) :
    vChunk x7 kv j (ix2 d k) = x7 (ix3 0 ⟨256 * (j % 16) + k.val, by omega⟩ ⟨64 * (kv % 2) + d.val, by omega⟩) := by
  refine Eq.trans (congrArg (k0_pay1 x7) (funext fun a => Fin.ext ?_)) (pay1_apply x7 _ _)
  match a with
  | ⟨0, _⟩ => show 64 * (kv % 2) + 1 * d.val = 64 * (kv % 2) + d.val; omega
  | ⟨1, _⟩ => show 256 * (j % 16) + 1 * k.val = 256 * (j % 16) + k.val; omega

theorem qChunk_apply (x5 : Vec Ideal S1x4096x512 .fp8e4m3) (pr k : ℕ) (x : Fin 256) (z : Fin 128) :
    qChunk x5 pr k (ix3 0 x z) = x5 (ix3 0 ⟨256 * (k % 16) + x.val, by omega⟩ ⟨128 * (pr % 4) + z.val, by omega⟩) := by
  refine congrArg x5 (funext fun a => Fin.ext ?_)
  match a with
  | ⟨0, _⟩ => rfl
  | ⟨1, _⟩ => show 256 * (k % 16) + 1 * x.val = 256 * (k % 16) + x.val; omega
  | ⟨2, _⟩ => show 128 * (pr % 4) + 1 * z.val = 128 * (pr % 4) + z.val; omega

/-! ## Sums -/

/-- A sum over 128 lanes of which one half is zero is the sum over the other's 64. -/
theorem lanes (hf : Fin 2) (A : Fin 64 → EReal) (Q : Fin 128 → EReal) :
    (∑ z : Fin 128, (if z.val / 64 = hf.val then A ⟨z.val % 64, Nat.mod_lt _ (by decide)⟩ else 0) * Q z) =
      ∑ d : Fin 64, A d * Q ⟨64 * hf.val + d.val, by omega⟩ := by
  refine (Finset.sum_of_injOn (fun d : Fin 64 => (⟨64 * hf.val + d.val, by omega⟩ : Fin 128)) ?_ ?_ ?_ ?_).symm
  · intro d _ d' _ h
    have := congrArg Fin.val h
    simp only at this
    exact Fin.ext (by omega)
  · intro d _; exact Finset.mem_coe.mpr (Finset.mem_univ _)
  · intro z _ h
    rw [if_neg, zero_mul]
    intro hz
    exact h ⟨⟨z.val % 64, Nat.mod_lt _ (by decide)⟩, by simp, Fin.ext (by simp only; omega)⟩
  · intro d _
    rw [if_pos (by simp only; omega)]
    exact congrArg (A · * _) (Fin.ext (by simp only; omega))

/-- A sum over 4096 keys that is zero past the first `N` tiles is the sum over those tiles. -/
theorem sum_keys {M : Type} [AddCommMonoid M] (N : ℕ) (hN : N ≤ 16) (f : Fin 4096 → M) (hf : ∀ i : Fin 4096, 256 * N ≤ i.val → f i = 0) :
    ∑ i, f i = ∑ j ∈ Finset.range N, ∑ k : Fin 256, f ⟨256 * (j % 16) + k.val, by omega⟩ := by
  rw [← Finset.sum_product']
  refine (Finset.sum_of_injOn (fun p : ℕ × Fin 256 => (⟨256 * (p.1 % 16) + p.2.val, by omega⟩ : Fin 4096)) ?_ ?_ ?_ ?_).symm
  · intro p hp p' hp' h
    have hp := Finset.mem_range.mp (Finset.mem_product.mp (Finset.mem_coe.mp hp)).1
    have hp' := Finset.mem_range.mp (Finset.mem_product.mp (Finset.mem_coe.mp hp')).1
    have := congrArg Fin.val h
    simp only at this
    have h1 := p.2.isLt
    have h2 := p'.2.isLt
    exact Prod.ext (by omega) (Fin.ext (by omega))
  · intro d _; exact Finset.mem_coe.mpr (Finset.mem_univ _)
  · intro i _ h
    refine hf i (Nat.le_of_not_lt fun hi => h ⟨(i.val / 256, ⟨i.val % 256, Nat.mod_lt _ (by decide)⟩), ?_, Fin.ext ?_⟩)
    · exact Finset.mem_coe.mpr (Finset.mem_product.mpr ⟨Finset.mem_range.mpr (by show i.val / 256 < N; omega), Finset.mem_univ _⟩)
    · show 256 * (i.val / 256 % 16) + i.val % 256 = i.val
      have := i.isLt; omega
  · intro p _; rfl

/-- The sum over a tile's 256 keys, by sublane and row of sublanes. -/
theorem sum_tile {M : Type} [AddCommMonoid M] (f : Fin 256 → M) :
    ∑ k, f k = ∑ s : Fin 32, ∑ r : Fin 8, f ⟨s.val * 8 + r.val, by omega⟩ := by
  rw [← Finset.sum_product']
  refine (Finset.sum_of_injOn (fun p : Fin 32 × Fin 8 => (⟨p.1.val * 8 + p.2.val, by omega⟩ : Fin 256)) ?_ ?_ ?_ ?_).symm
  · intro p _ p' _ h
    have := congrArg Fin.val h
    simp only at this
    exact Prod.ext (Fin.ext (by omega)) (Fin.ext (by omega))
  · intro d _; exact Finset.mem_coe.mpr (Finset.mem_univ _)
  · intro i _ h
    refine absurd ⟨(⟨i.val / 8, by omega⟩, ⟨i.val % 8, by omega⟩), ?_, Fin.ext ?_⟩ h
    · simp
    · show i.val / 8 * 8 + i.val % 8 = i.val; omega
  · intro p _; rfl

end Cert.Proof.Math
end
-- ==== Proof.Math.Equal.lean ====
/- The kernel's result is the reference's: head by head at each query, then as arrays. -/
module

public import proofs.«01_k».proof.Proof.KI.Run
public import proofs.«01_k».proof.Proof.Math.Head
public import proofs.«01_k».proof.Proof.Math.Reference
public import proofs.«01_k».proof.Proof.Math.Layout

@[expose] public section

set_option maxRecDepth 16384

noncomputable section

namespace Cert.Proof.Math

open Idealize.ShloMosaic
open Cert.KernelIdeal Cert.KernelIdeal.Gen Cert.Proof.KI

variable (a0 : Vec Ideal S8x4096x2048 .fp8e4m3) (a1 : Vec Ideal S32 .f32) (a2 : Vec Ideal S8x4096x512 .fp8e4m3) (a3 : Vec Ideal S8 .f32)
  (a4 : Vec Ideal S8x4096x512 .fp8e4m3) (a5 : Vec Ideal S8 .f32)

/-- Key `(j, s, r)` of the tiles, among the 4096. -/
def keyAt (j : ℕ) (s : Fin 32) (r : Fin 8) : Fin 4096 := ⟨256 * (j % 16) + (s.val * 8 + r.val), by omega⟩

theorem ix3_congr {n0 n1 n2 : ℕ} {i i' : Fin n0} {j j' : Fin n1} {k k' : Fin n2} (hi : i.val = i'.val) (hj : j.val = j'.val) (hk : k.val = k'.val) :
    ix3 i j k = ix3 i' j' k' := by
  rw [Fin.ext hi, Fin.ext hj, Fin.ext hk]

section

variable (b : Fin 8) (g pr : Fin 4) (hf : Fin 2) (k : Fin 16) (x : Fin 256)
  (h : Fin 8) (hh : h.val = 2 * g.val + pr.val / 2) (gq : Fin 4) (hg : gq.val = (2 * pr.val + hf.val) % 4)
  (q : Fin 4096) (hq : q.val = 256 * k.val + x.val)

include hh hg hq

/-- The kernel's score is the reference's, in the base 2. -/
theorem score_eq (j : ℕ) (s : Fin 32) (r : Fin 8) :
    score (qChunk (xBlk a0 b g) pr.val k.val) (scal32 a1 (8 * g.val + (2 * pr.val + hf.val))) (scal8 a3 (2 * g.val + pr.val / 2))
      (kChunk (kBlk a2 b g) (2 * (pr.val / 2) + hf.val)) x j s r =
    (∑ z : Fin 64, a2 (ix3 b (keyAt j s r) ⟨h.val * 64 + z.val, by omega⟩) * a0 (ix3 b q ⟨h.val * 256 + gq.val * 64 + z.val, by omega⟩)) *
      (a1 (ix1 ⟨h.val * 4 + gq.val, by omega⟩) * a3 (ix1 h) * Ideal.ofBits .f32 0x3E000000#32) * (((Real.log 2)⁻¹ : ℝ) : EReal) := by
  have e1 : scal32 a1 (8 * g.val + (2 * pr.val + hf.val)) = a1 (ix1 ⟨h.val * 4 + gq.val, by omega⟩) := by
    refine congrArg a1 (funext fun a => ?_)
    match a with
    | ⟨0, _⟩ => exact Fin.ext (by show (8 * g.val + (2 * pr.val + hf.val)) % 32 = h.val * 4 + gq.val; omega)
  have e2 : scal8 a3 (2 * g.val + pr.val / 2) = a3 (ix1 h) := by
    refine congrArg a3 (funext fun a => ?_)
    match a with
    | ⟨0, _⟩ => exact Fin.ext (by show (2 * g.val + pr.val / 2) % 8 = h.val; omega)
  have e3 : (∑ z : Fin 128, kChunk (kBlk a2 b g) (2 * (pr.val / 2) + hf.val) j (ix3 0 ⟨s.val * 8 + r.val, by omega⟩ z) *
        qChunk (xBlk a0 b g) pr.val k.val (ix3 0 x z)) =
      ∑ z : Fin 64, a2 (ix3 b (keyAt j s r) ⟨h.val * 64 + z.val, by omega⟩) * a0 (ix3 b q ⟨h.val * 256 + gq.val * 64 + z.val, by omega⟩) := by
    refine Eq.trans ?_ ((lanes hf (fun d => a2 (ix3 b (keyAt j s r) ⟨h.val * 64 + d.val, by omega⟩))
      (fun z => a0 (ix3 b q ⟨512 * g.val + 128 * pr.val + z.val, by omega⟩))).trans ?_)
    · refine Finset.sum_congr rfl fun z _ => congrArg₂ (· * ·) ?_ ?_
      · rw [kChunk_apply, kvarSlab_apply _ _ _ ⟨pr.val / 2, by omega⟩ hf]
        refine congrArg (fun t : EReal => if z.val / 64 = hf.val then t else 0) (congrArg a2 (ix3_congr rfl rfl ?_))
        show 128 * g.val + (64 * (pr.val / 2) + z.val % 64) = h.val * 64 + z.val % 64
        omega
      · rw [qChunk_apply]
        refine congrArg a0 (ix3_congr rfl ?_ ?_)
        · show 256 * (k.val % 16) + x.val = q.val; omega
        · show 512 * g.val + (128 * (pr.val % 4) + z.val) = 512 * g.val + 128 * pr.val + z.val; omega
    · refine Finset.sum_congr rfl fun z _ => congrArg (_ * ·) (congrArg a0 (ix3_congr rfl rfl ?_))
      show 512 * g.val + 128 * pr.val + (64 * hf.val + z.val) = h.val * 256 + gq.val * 64 + z.val
      omega
  unfold score
  rw [e1, e2, e3]
  simp only [mul_assoc]

/-- With the mask. -/
theorem Ts_eq (j : ℕ) (hj : j < k.val + 1) (s : Fin 32) (r : Fin 8) :
    Ts (qChunk (xBlk a0 b g) pr.val k.val) (scal32 a1 (8 * g.val + (2 * pr.val + hf.val))) (scal8 a3 (2 * g.val + pr.val / 2))
      (kChunk (kBlk a2 b g) (2 * (pr.val / 2) + hf.val)) k.val x j s r =
    Rs a0 a1 a2 a3 b h gq q (keyAt j s r) * (((Real.log 2)⁻¹ : ℝ) : EReal) := by
  have hL : 0 < (Real.log 2)⁻¹ := inv_pos.mpr (Real.log_pos one_lt_two)
  have hiff : (j = k.val ∧ ¬ s.val * 8 + r.val ≤ x.val) ↔ ¬ (keyAt j s r).val ≤ q.val := by
    show _ ↔ ¬ 256 * (j % 16) + (s.val * 8 + r.val) ≤ q.val
    omega
  unfold Ts Rs
  by_cases hm : (keyAt j s r).val ≤ q.val
  · rw [if_neg (fun c => hiff.mp c hm), if_pos hm, score_eq a0 a1 a2 a3 b g pr hf k x h hh gq hg q hq]
  · rw [if_pos (hiff.mpr hm), if_neg hm, EReal.bot_mul_coe_of_pos hL]

/-- The online softmax's codes are the whole softmax's. -/
theorem codes_eq (j : ℕ) (hj : j < k.val + 1) (s : Fin 32) (r : Fin 8) :
    kcode c0 (Ts (qChunk (xBlk a0 b g) pr.val k.val) (scal32 a1 (8 * g.val + (2 * pr.val + hf.val))) (scal8 a3 (2 * g.val + pr.val / 2))
      (kChunk (kBlk a2 b g) (2 * (pr.val / 2) + hf.val)) k.val x) (k.val + 1) j s r = rcode (Rs a0 a1 a2 a3 b h gq q) (keyAt j s r) := by
  have hpast : ∀ i : Fin 4096, 256 * (k.val + 1) ≤ i.val → Rs a0 a1 a2 a3 b h gq q i = ⊥ := fun i hi => if_neg (by omega)
  refine code_eq _ c0 _ (k.val + 1) keyAt (Ts_eq a0 a1 a2 a3 b g pr hf k x h hh gq hg q hq) ?_ ?_ j hj s r
  · intro i hi
    have hlt : i.val < 256 * (k.val + 1) := Nat.lt_of_not_le fun c => hi (hpast i c)
    exact ⟨i.val / 256, by omega, ⟨i.val % 256 / 8, by omega⟩, ⟨i.val % 8, by omega⟩, Fin.ext (by
      show 256 * (i.val / 256 % 16) + (i.val % 256 / 8 * 8 + i.val % 8) = i.val; omega)⟩
  · intro f hf0
    rw [sum_keys (k.val + 1) (by omega) f fun i hi => hf0 i (hpast i hi), Finset.sum_comm' (s := Finset.univ) (t := fun _ => Finset.range (k.val + 1))
      (t' := Finset.range (k.val + 1)) (s' := fun _ => Finset.univ) (by simp)]
    refine Finset.sum_congr rfl fun j _ => ?_
    rw [sum_tile, Finset.sum_comm]
    rfl

/-- A head's output at a query is the reference's. -/
theorem headVal_eq (d : Fin 64) (l : Fin 2048) (hl : l.val = 512 * g.val + 128 * pr.val + 64 * hf.val + d.val) :
    headVal a1 a3 a5 (xBlk a0 b g) (kBlk a2 b g) (kBlk a4 b g) g.val (2 * pr.val + hf.val) (pr.val / 2) (2 * (pr.val / 2) + hf.val) pr.val k.val (ix2 d x) =
      Cert.ReferenceIdeal.Value.G6 a0 a1 a2 a3 a4 a5 (ix3 b q l) := by
  have eh : (⟨l.val / 256, by omega⟩ : Fin 8) = h := Fin.ext (by show l.val / 256 = h.val; omega)
  have eg : (⟨l.val / 64 % 4, by omega⟩ : Fin 4) = gq := Fin.ext (by show l.val / 64 % 4 = gq.val; omega)
  have e5 : scal8 a5 (2 * g.val + pr.val / 2) = a5 (ix1 h) := by
    refine congrArg a5 (funext fun a => ?_)
    match a with
    | ⟨0, _⟩ => exact Fin.ext (by show (2 * g.val + pr.val / 2) % 8 = h.val; omega)
  rw [G6_apply, eh, eg]
  unfold headVal
  rw [headOut_apply, e5]
  refine congrArg (· * _) ?_
  rw [sum_keys (k.val + 1) (by omega) (fun s => a4 (ix3 b s ⟨l.val / 256 * 64 + l.val % 64, by omega⟩) * clip (rcode (Rs a0 a1 a2 a3 b h gq q) s)) fun i hi => by
    rw [rcode_of_bot _ i (if_neg (by omega)), clip_zero, mul_zero]]
  refine Finset.sum_congr rfl fun j hj => Finset.sum_congr rfl fun κ _ => congrArg₂ (· * ·) ?_ (congrArg clip ?_)
  · rw [vChunk_apply]
    refine congrArg a4 (ix3_congr rfl rfl ?_)
    show 128 * g.val + (64 * (pr.val / 2 % 2) + d.val) = l.val / 256 * 64 + l.val % 64
    omega
  · rw [codes_eq a0 a1 a2 a3 b g pr hf k x h hh gq hg q hq j (Finset.mem_range.mp hj)]
    refine congrArg _ (Fin.ext ?_)
    show 256 * (j % 16) + (κ.val / 8 * 8 + κ.val % 8) = 256 * (j % 16) + κ.val
    omega

end

/-- The two halves of a pair's block. -/
theorem pairOut_apply (o o' : FVec Ideal S64x256 .f32) (z : Fin 1) (r : Fin 256) (l : Fin 128) :
    pairOut o o' (ix3 z r l) = if h : l.val < 64 then o (ix2 ⟨l.val, h⟩ r) else o' (ix2 ⟨l.val - 64, by omega⟩ r) := by
  unfold pairOut
  pointwise

/-- The kernel's result array is the reference's. -/
theorem result_eq : resultOf a0 a1 a2 a3 a4 a5 = Cert.ReferenceIdeal.Value.G6 a0 a1 a2 a3 a4 a5 := by
  funext y
  obtain ⟨b, q, l, rfl⟩ : ∃ (b : Fin 8) (q : Fin 4096) (l : Fin 2048), y = ix3 b q l :=
    ⟨⟨(y 0).val, (y 0).isLt⟩, ⟨(y 1).val, (y 1).isLt⟩, ⟨(y 2).val, (y 2).isLt⟩, funext fun a => match a with
      | ⟨0, _⟩ => rfl
      | ⟨1, _⟩ => rfl
      | ⟨2, _⟩ => rfl⟩
  show tileVal a1 a3 a5 (xBlk a0 b ⟨l.val / 512, _⟩) (kBlk a2 b ⟨l.val / 512, _⟩) (kBlk a4 b ⟨l.val / 512, _⟩) (l.val / 512) (l.val % 512 / 128) (q.val / 256)
    (ix3 0 ⟨q.val % 256, _⟩ ⟨l.val % 512 % 128, _⟩) = _
  unfold tileVal
  rw [pairOut_apply]
  by_cases hc : l.val % 512 % 128 < 64
  · rw [dif_pos hc]
    exact headVal_eq a0 a1 a2 a3 a4 a5 b ⟨l.val / 512, by omega⟩ ⟨l.val % 512 / 128, by omega⟩ 0 ⟨q.val / 256, by omega⟩ ⟨q.val % 256, by omega⟩
      ⟨2 * (l.val / 512) + l.val % 512 / 128 / 2, by omega⟩ rfl ⟨(2 * (l.val % 512 / 128) + 0) % 4, by omega⟩ rfl q (by simp only; omega)
      ⟨l.val % 512 % 128, hc⟩ l (by show l.val = 512 * (l.val / 512) + 128 * (l.val % 512 / 128) + 64 * 0 + l.val % 512 % 128; omega)
  · rw [dif_neg hc]
    exact headVal_eq a0 a1 a2 a3 a4 a5 b ⟨l.val / 512, by omega⟩ ⟨l.val % 512 / 128, by omega⟩ 1 ⟨q.val / 256, by omega⟩ ⟨q.val % 256, by omega⟩
      ⟨2 * (l.val / 512) + l.val % 512 / 128 / 2, by omega⟩ rfl ⟨(2 * (l.val % 512 / 128) + 1) % 4, by omega⟩ rfl q (by simp only; omega)
      ⟨l.val % 512 % 128 - 64, by omega⟩ l (by
        show l.val = 512 * (l.val / 512) + 128 * (l.val % 512 / 128) + 64 * 1 + (l.val % 512 % 128 - 64); omega)

end Cert.Proof.Math
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.KernelFrame
public import proofs.«01_k».proof.Proof.KernelIdealFrame
public import proofs.«01_k».proof.Proof.KI.Run
public import proofs.«01_k».proof.Proof.Math.Equal
public import Idealize.ShloMosaic.Lib.Claim

@[expose] public section

noncomputable section

namespace Cert.Proof

open Idealize.ShloMosaic Idealize.SL.Sem

/-- The stated irrational, log2 e, stands for the kernel's constant. -/
theorem preserves : preserves_Kernel_KernelIdeal :=
  IdealRules.named_const.statement Cert.KernelIdeal.κ "log2e" .f32 0x3FB8AA3B#32 (((Real.log 2)⁻¹ : ℝ) : EReal) rfl

/-- Over the extended reals the kernel, its constant read as log2 e, and the reference leave the same result. -/
theorem algebraic : algebraic_KernelIdeal_ReferenceIdeal (hKernelIdeal := Cert.KernelIdeal.Gen.facts) (hReferenceIdeal := Cert.ReferenceIdeal.Gen.facts) := by
  pair_intro
  · run_from KI.run_value (F := Ideal) m g
  · run_from Cert.ReferenceIdeal.Value.run m' g'
    exact (Math.result_eq _ _ _ _ _ _).symm

/-- The claim. -/
theorem claim : Cert.Claim :=
  ⟨Cert.Kernel.Gen.facts, Cert.KernelIdeal.Gen.facts, Cert.ReferenceIdeal.Gen.facts,
    fun m g _ => Kernel.frame_main m g, fun m g _ => KernelIdeal.frame_main m g,
    fun m g _ => Cert.ReferenceIdeal.Gen.frame m g, preserves, algebraic⟩

end Cert.Proof

end
